-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.bf16_pair.Statement Cert.KernelIdeal.S16x256 Cert.KernelIdeal.S8x256

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v6)) (v4 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_v7) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v54_0) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_v54_1) = v3 c
          ∧ r.2.mem ((c.tc : Thread Cert.ReferenceIdeal.nD Cert.ReferenceIdeal.τ).loc Cert.ReferenceIdeal.main_v48) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S6x4096x4096 : Shape := ⟨3, ![6, 4096, 4096]⟩
abbrev S6x4096x7168 : Shape := ⟨3, ![6, 4096, 7168]⟩
abbrev S_ : Shape := ⟨0, ![]⟩

class Facts : Prop where
  bcast_S_S6x4096x4096 : S_.BroadcastsInDim S6x4096x4096 (![] : Fin 0 → Fin S6x4096x4096.rank)
  bcast_S_S6x4096x7168 : S_.BroadcastsInDim S6x4096x7168 (![] : Fin 0 → Fin S6x4096x7168.rank)

variable [Facts]

def fn {F : FTy → Type} [FloatOps F] (main_arg0 : FVec F S6x4096x4096 .bf16) (main_arg1 : FVec F S6x4096x7168 .bf16) : IVec S6x4096x4096 1 × IVec S6x4096x7168 1 :=
  let main_v0 : FVec F S6x4096x4096 .bf16 := Host.absf main_arg0
  let main_cst : FVec F S_ .bf16 := constant S_ .bf16 0x7F7F#16
  let main_v1 : FVec F S6x4096x4096 .bf16 := broadcastInDim S6x4096x4096 ![] bcast_S_S6x4096x4096 main_cst
  let main_v2 : IVec S6x4096x4096 1 := cmpf .ole main_v0 main_v1
  let main_v3 : FVec F S6x4096x7168 .bf16 := Host.absf main_arg1
  let main_cst_0 : FVec F S_ .bf16 := constant S_ .bf16 0x7F7F#16
  let main_v4 : FVec F S6x4096x7168 .bf16 := broadcastInDim S6x4096x7168 ![] bcast_S_S6x4096x7168 main_cst_0
  let main_v5 : IVec S6x4096x7168 1 := cmpf .ole main_v3 main_v4
  (main_v2, main_v5)
-- ==== Kernel.lean ====
abbrev S6x4096x4096 : Shape := ⟨3, ![6, 4096, 4096]⟩
abbrev S6x4096x7168 : Shape := ⟨3, ![6, 4096, 7168]⟩
abbrev S24576x4096 : Shape := ⟨2, ![24576, 4096]⟩
abbrev S24576x7168 : Shape := ⟨2, ![24576, 7168]⟩
abbrev S768x4096 : Shape := ⟨2, ![768, 4096]⟩
abbrev S48x4096x512 : Shape := ⟨3, ![48, 4096, 512]⟩
abbrev S512x4096 : Shape := ⟨2, ![512, 4096]⟩
abbrev S16x4096 : Shape := ⟨2, ![16, 4096]⟩
abbrev S1x4096x512 : Shape := ⟨3, ![1, 4096, 512]⟩
abbrev S2x8x256 : Shape := ⟨3, ![2, 8, 256]⟩
abbrev S256x256 : Shape := ⟨2, ![256, 256]⟩
abbrev S32x256 : Shape := ⟨2, ![32, 256]⟩
abbrev S16x256 : Shape := ⟨2, ![16, 256]⟩
abbrev S8x256 : Shape := ⟨2, ![8, 256]⟩
abbrev S256 : Shape := ⟨1, ![256]⟩
abbrev S1x256 : Shape := ⟨2, ![1, 256]⟩
abbrev S1x8x256 : Shape := ⟨3, ![1, 8, 256]⟩
abbrev S1x1x256 : Shape := ⟨3, ![1, 1, 256]⟩
abbrev S1x256x256 : Shape := ⟨3, ![1, 256, 256]⟩
abbrev S4096x7168 : Shape := ⟨2, ![4096, 7168]⟩
abbrev S768x7168 : Shape := ⟨2, ![768, 7168]⟩
abbrev S512x1024 : Shape := ⟨2, ![512, 1024]⟩
abbrev S4096x1024 : Shape := ⟨2, ![4096, 1024]⟩
abbrev S16x1024 : Shape := ⟨2, ![16, 1024]⟩
abbrev S4096x512 : Shape := ⟨2, ![4096, 512]⟩
abbrev S6x128x4096 : Shape := ⟨3, ![6, 128, 4096]⟩
abbrev S6x128x7168 : Shape := ⟨3, ![6, 128, 7168]⟩

abbrev nBuf : Space → Nat
  | .hbm => 14
  | .vmem => 22
  | .smem => 0
  | _ => 0

abbrev bufTy : (tb : Table) → Fin (tcTables nBuf tb) → BufTy
  | .hbm, ⟨0, _⟩ => ⟨S6x4096x4096, .bf16⟩
  | .hbm, ⟨1, _⟩ => ⟨S6x4096x7168, .bf16⟩
  | .hbm, ⟨2, _⟩ => ⟨S24576x4096, .bf16⟩
  | .hbm, ⟨3, _⟩ => ⟨S24576x7168, .bf16⟩
  | .hbm, ⟨4, _⟩ => ⟨S24576x4096, .fp8e4m3⟩
  | .hbm, ⟨5, _⟩ => ⟨S768x4096, .f32⟩
  | .hbm, ⟨6, _⟩ => ⟨S48x4096x512, .bf16⟩
  | .hbm, ⟨7, _⟩ => ⟨S4096x7168, .f32⟩
  | .hbm, ⟨8, _⟩ => ⟨S24576x7168, .fp8e5m2⟩
  | .hbm, ⟨9, _⟩ => ⟨S768x7168, .f32⟩
  | .hbm, ⟨10, _⟩ => ⟨S6x4096x4096, .fp8e4m3⟩
  | .hbm, ⟨11, _⟩ => ⟨S6x128x4096, .f32⟩
  | .hbm, ⟨12, _⟩ => ⟨S6x4096x7168, .fp8e5m2⟩
  | .hbm, ⟨13, _⟩ => ⟨S6x128x7168, .f32⟩
  | .local _ .vmem, ⟨0, _⟩ => ⟨S512x4096, .bf16⟩
  | .local _ .vmem, ⟨1, _⟩ => ⟨S512x4096, .bf16⟩
  | .local _ .vmem, ⟨2, _⟩ => ⟨S512x4096, .fp8e4m3⟩
  | .local _ .vmem, ⟨3, _⟩ => ⟨S512x4096, .fp8e4m3⟩
  | .local _ .vmem, ⟨4, _⟩ => ⟨S16x4096, .f32⟩
  | .local _ .vmem, ⟨5, _⟩ => ⟨S16x4096, .f32⟩
  | .local _ .vmem, ⟨6, _⟩ => ⟨S1x4096x512, .bf16⟩
  | .local _ .vmem, ⟨7, _⟩ => ⟨S1x4096x512, .bf16⟩
  | .local _ .vmem, ⟨8, _⟩ => ⟨S2x8x256, .i32⟩
  | .local _ .vmem, ⟨9, _⟩ => ⟨S256x256, .bf16⟩
  | .local _ .vmem, ⟨10, _⟩ => ⟨S1x4096x512, .bf16⟩
  | .local _ .vmem, ⟨11, _⟩ => ⟨S1x4096x512, .bf16⟩
  | .local _ .vmem, ⟨12, _⟩ => ⟨S512x1024, .bf16⟩
  | .local _ .vmem, ⟨13, _⟩ => ⟨S512x1024, .bf16⟩
  | .local _ .vmem, ⟨14, _⟩ => ⟨S4096x1024, .f32⟩
  | .local _ .vmem, ⟨15, _⟩ => ⟨S4096x1024, .f32⟩
  | .local _ .vmem, ⟨16, _⟩ => ⟨S512x1024, .fp8e5m2⟩
  | .local _ .vmem, ⟨17, _⟩ => ⟨S512x1024, .fp8e5m2⟩
  | .local _ .vmem, ⟨18, _⟩ => ⟨S16x1024, .f32⟩
  | .local _ .vmem, ⟨19, _⟩ => ⟨S16x1024, .f32⟩
  | .local _ .vmem, ⟨20, _⟩ => ⟨S2x8x256, .i32⟩
  | .local _ .vmem, ⟨21, _⟩ => ⟨S512x1024, .bf16⟩
  | _, _ => ⟨S6x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_scratch0 : Ref sig .tc := ⟨.vmem, 20, rfl⟩
abbrev cc1_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [BitOps F]

abbrev grid0 : Pipeline.Grid := ⟨1, ![48], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  v1
def k0_off1 (k0_t1 : Fin k0_t1_loop.trips) : Fin 2 → Nat :=
  let c0 : Index := 0#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v3 : Index := Scalar.indexCast v2
  ![0, v3.toNat]
def k0_off2 (k0_t1 : Fin k0_t1_loop.trips) : Fin 2 → Nat :=
  let c32 : Index := 32#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v22 : Index := Scalar.indexCast v2
  ![32, v22.toNat]
def k0_off3 (k0_t1 : Fin k0_t1_loop.trips) : Fin 2 → Nat :=
  let c64 : Index := 64#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v45 : Index := Scalar.indexCast v2
  ![64, v45.toNat]
def k0_off4 (k0_t1 : Fin k0_t1_loop.trips) : Fin 2 → Nat :=
  let c96 : Index := 96#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v68 : Index := Scalar.indexCast v2
  ![96, v68.toNat]
def k0_off5 (k0_t1 : Fin k0_t1_loop.trips) : Fin 2 → Nat :=
  let c128 : Index := 128#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v91 : Index := Scalar.indexCast v2
  ![128, v91.toNat]
def k0_off6 (k0_t1 : Fin k0_t1_loop.trips) : Fin 2 → Nat :=
  let c160 : Index := 160#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v114 : Index := Scalar.indexCast v2
  ![160, v114.toNat]
def k0_off7 (k0_t1 : Fin k0_t1_loop.trips) : Fin 2 → Nat :=
  let c192 : Index := 192#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v137 : Index := Scalar.indexCast v2
  ![192, v137.toNat]
def k0_off8 (k0_t1 : Fin k0_t1_loop.trips) : Fin 2 → Nat :=
  let c224 : Index := 224#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v160 : Index := Scalar.indexCast v2
  ![224, v160.toNat]
def k0_off9 (k0_t1 : Fin k0_t1_loop.trips) : Fin 2 → Nat :=
  let c0_29 : Index := 0#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v237 : Index := Scalar.indexCast v2
  ![0, v237.toNat]
def k0_off10 (k0_t1 : Fin k0_t1_loop.trips) : Fin 3 → Nat :=
  let c0_129 : Index := 0#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v477 : Index := Scalar.indexCast v2
  let c0_130 : Index := 0#32
  ![0, v477.toNat, 0]
def k0_off11 (k0_t1 : Fin k0_t1_loop.trips) : Fin 2 → Nat :=
  let c256 : Index := 256#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v481 : Index := Scalar.indexCast v2
  ![256, v481.toNat]
def k0_off12 (k0_t1 : Fin k0_t1_loop.trips) : Fin 2 → Nat :=
  let c288 : Index := 288#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v500 : Index := Scalar.indexCast v2
  ![288, v500.toNat]
def k0_off13 (k0_t1 : Fin k0_t1_loop.trips) : Fin 2 → Nat :=
  let c320 : Index := 320#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v523 : Index := Scalar.indexCast v2
  ![320, v523.toNat]
def k0_off14 (k0_t1 : Fin k0_t1_loop.trips) : Fin 2 → Nat :=
  let c352 : Index := 352#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v546 : Index := Scalar.indexCast v2
  ![352, v546.toNat]
def k0_off15 (k0_t1 : Fin k0_t1_loop.trips) : Fin 2 → Nat :=
  let c384 : Index := 384#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v569 : Index := Scalar.indexCast v2
  ![384, v569.toNat]
def k0_off16 (k0_t1 : Fin k0_t1_loop.trips) : Fin 2 → Nat :=
  let c416 : Index := 416#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v592 : Index := Scalar.indexCast v2
  ![416, v592.toNat]
def k0_off17 (k0_t1 : Fin k0_t1_loop.trips) : Fin 2 → Nat :=
  let c448 : Index := 448#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v615 : Index := Scalar.indexCast v2
  ![448, v615.toNat]
def k0_off18 (k0_t1 : Fin k0_t1_loop.trips) : Fin 2 → Nat :=
  let c480 : Index := 480#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v638 : Index := Scalar.indexCast v2
  ![480, v638.toNat]
def k0_off19 (k0_t1 : Fin k0_t1_loop.trips) : Fin 2 → Nat :=
  let c8 : Index := 8#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v715 : Index := Scalar.indexCast v2
  ![8, v715.toNat]
def k0_off20 (k0_t1 : Fin k0_t1_loop.trips) : Fin 3 → Nat :=
  let c0_283 : Index := 0#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v955 : Index := Scalar.indexCast v2
  let c256_284 : Index := 256#32
  ![0, v955.toNat, 256]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![7, 48], ![false, false]⟩

@[reducible] def k1_t1_loop : Scf.Loop 32 :=
  let c0_i32_1 : BitVec 32 := 0#32
  let c4_i32 : BitVec 32 := 4#32
  let v3 : BitVec 32 := Scalar.addi c0_i32_1 c4_i32
  let c1_i32 : BitVec 32 := 1#32
  ⟨c0_i32_1, v3, c1_i32⟩
def k1_mult1 (k1_t1 : Fin k1_t1_loop.trips) : BitVec 32 :=
  let c0_i32_1 : BitVec 32 := 0#32
  let c1_i32 : BitVec 32 := 1#32
  let arg9 : BitVec 32 := Scf.iv c0_i32_1 c1_i32 k1_t1
  let c256_i32 : BitVec 32 := 256#32
  let v12 : BitVec 32 := Scalar.muli arg9 c256_i32
  v12
def k1_off1 (k1_t1 : Fin k1_t1_loop.trips) : Fin 2 → Nat :=
  let c0_11 : Index := 0#32
  let c0_i32_1 : BitVec 32 := 0#32
  let c1_i32 : BitVec 32 := 1#32
  let arg9 : BitVec 32 := Scf.iv c0_i32_1 c1_i32 k1_t1
  let c256_i32 : BitVec 32 := 256#32
  let v12 : BitVec 32 := Scalar.muli arg9 c256_i32
  let v13 : BitVec 32 := v12
  let v14 : Index := Scalar.indexCast v13
  ![0, v14.toNat]
def k1_off2 (k1_t1 : Fin k1_t1_loop.trips) : Fin 2 → Nat :=
  let c32 : Index := 32#32
  let c0_i32_1 : BitVec 32 := 0#32
  let c1_i32 : BitVec 32 := 1#32
  let arg9 : BitVec 32 := Scf.iv c0_i32_1 c1_i32 k1_t1
  let c256_i32 : BitVec 32 := 256#32
  let v12 : BitVec 32 := Scalar.muli arg9 c256_i32
  let v13 : BitVec 32 := v12
  let v33 : Index := Scalar.indexCast v13
  ![32, v33.toNat]
def k1_off3 (k1_t1 : Fin k1_t1_loop.trips) : Fin 2 → Nat :=
  let c64 : Index := 64#32
  let c0_i32_1 : BitVec 32 := 0#32
  let c1_i32 : BitVec 32 := 1#32
  let arg9 : BitVec 32 := Scf.iv c0_i32_1 c1_i32 k1_t1
  let c256_i32 : BitVec 32 := 256#32
  let v12 : BitVec 32 := Scalar.muli arg9 c256_i32
  let v13 : BitVec 32 := v12
  let v56 : Index := Scalar.indexCast v13
  ![64, v56.toNat]
def k1_off4 (k1_t1 : Fin k1_t1_loop.trips) : Fin 2 → Nat :=
  let c96 : Index := 96#32
  let c0_i32_1 : BitVec 32 := 0#32
  let c1_i32 : BitVec 32 := 1#32
  let arg9 : BitVec 32 := Scf.iv c0_i32_1 c1_i32 k1_t1
  let c256_i32 : BitVec 32 := 256#32
  let v12 : BitVec 32 := Scalar.muli arg9 c256_i32
  let v13 : BitVec 32 := v12
  let v79 : Index := Scalar.indexCast v13
  ![96, v79.toNat]
def k1_off5 (k1_t1 : Fin k1_t1_loop.trips) : Fin 2 → Nat :=
  let c128 : Index := 128#32
  let c0_i32_1 : BitVec 32 := 0#32
  let c1_i32 : BitVec 32 := 1#32
  let arg9 : BitVec 32 := Scf.iv c0_i32_1 c1_i32 k1_t1
  let c256_i32 : BitVec 32 := 256#32
  let v12 : BitVec 32 := Scalar.muli arg9 c256_i32
  let v13 : BitVec 32 := v12
  let v102 : Index := Scalar.indexCast v13
  ![128, v102.toNat]
def k1_off6 (k1_t1 : Fin k1_t1_loop.trips) : Fin 2 → Nat :=
  let c160 : Index := 160#32
  let c0_i32_1 : BitVec 32 := 0#32
  let c1_i32 : BitVec 32 := 1#32
  let arg9 : BitVec 32 := Scf.iv c0_i32_1 c1_i32 k1_t1
  let c256_i32 : BitVec 32 := 256#32
  let v12 : BitVec 32 := Scalar.muli arg9 c256_i32
  let v13 : BitVec 32 := v12
  let v125 : Index := Scalar.indexCast v13
  ![160, v125.toNat]
def k1_off7 (k1_t1 : Fin k1_t1_loop.trips) : Fin 2 → Nat :=
  let c192 : Index := 192#32
  let c0_i32_1 : BitVec 32 := 0#32
  let c1_i32 : BitVec 32 := 1#32
  let arg9 : BitVec 32 := Scf.iv c0_i32_1 c1_i32 k1_t1
  let c256_i32 : BitVec 32 := 256#32
  let v12 : BitVec 32 := Scalar.muli arg9 c256_i32
  let v13 : BitVec 32 := v12
  let v148 : Index := Scalar.indexCast v13
  ![192, v148.toNat]
def k1_off8 (k1_t1 : Fin k1_t1_loop.trips) : Fin 2 → Nat :=
  let c224 : Index := 224#32
  let c0_i32_1 : BitVec 32 := 0#32
  let c1_i32 : BitVec 32 := 1#32
  let arg9 : BitVec 32 := Scf.iv c0_i32_1 c1_i32 k1_t1
  let c256_i32 : BitVec 32 := 256#32
  let v12 : BitVec 32 := Scalar.muli arg9 c256_i32
  let v13 : BitVec 32 := v12
  let v171 : Index := Scalar.indexCast v13
  ![224, v171.toNat]
def k1_off9 (k1_t1 : Fin k1_t1_loop.trips) : Fin 2 → Nat :=
  let c0_41 : Index := 0#32
  let c0_i32_1 : BitVec 32 := 0#32
  let c1_i32 : BitVec 32 := 1#32
  let arg9 : BitVec 32 := Scf.iv c0_i32_1 c1_i32 k1_t1
  let c256_i32 : BitVec 32 := 256#32
  let v12 : BitVec 32 := Scalar.muli arg9 c256_i32
  let v13 : BitVec 32 := v12
  let v248 : Index := Scalar.indexCast v13
  ![0, v248.toNat]
def k1_off10 (k1_t1 : Fin k1_t1_loop.trips) : Fin 2 → Nat :=
  let c256 : Index := 256#32
  let c0_i32_1 : BitVec 32 := 0#32
  let c1_i32 : BitVec 32 := 1#32
  let arg9 : BitVec 32 := Scf.iv c0_i32_1 c1_i32 k1_t1
  let c256_i32 : BitVec 32 := 256#32
  let v12 : BitVec 32 := Scalar.muli arg9 c256_i32
  let v13 : BitVec 32 := v12
  let v494 : Index := Scalar.indexCast v13
  ![256, v494.toNat]
def k1_off11 (k1_t1 : Fin k1_t1_loop.trips) : Fin 2 → Nat :=
  let c288 : Index := 288#32
  let c0_i32_1 : BitVec 32 := 0#32
  let c1_i32 : BitVec 32 := 1#32
  let arg9 : BitVec 32 := Scf.iv c0_i32_1 c1_i32 k1_t1
  let c256_i32 : BitVec 32 := 256#32
  let v12 : BitVec 32 := Scalar.muli arg9 c256_i32
  let v13 : BitVec 32 := v12
  let v513 : Index := Scalar.indexCast v13
  ![288, v513.toNat]
def k1_off12 (k1_t1 : Fin k1_t1_loop.trips) : Fin 2 → Nat :=
  let c320 : Index := 320#32
  let c0_i32_1 : BitVec 32 := 0#32
  let c1_i32 : BitVec 32 := 1#32
  let arg9 : BitVec 32 := Scf.iv c0_i32_1 c1_i32 k1_t1
  let c256_i32 : BitVec 32 := 256#32
  let v12 : BitVec 32 := Scalar.muli arg9 c256_i32
  let v13 : BitVec 32 := v12
  let v536 : Index := Scalar.indexCast v13
  ![320, v536.toNat]
def k1_off13 (k1_t1 : Fin k1_t1_loop.trips) : Fin 2 → Nat :=
  let c352 : Index := 352#32
  let c0_i32_1 : BitVec 32 := 0#32
  let c1_i32 : BitVec 32 := 1#32
  let arg9 : BitVec 32 := Scf.iv c0_i32_1 c1_i32 k1_t1
  let c256_i32 : BitVec 32 := 256#32
  let v12 : BitVec 32 := Scalar.muli arg9 c256_i32
  let v13 : BitVec 32 := v12
  let v559 : Index := Scalar.indexCast v13
  ![352, v559.toNat]
def k1_off14 (k1_t1 : Fin k1_t1_loop.trips) : Fin 2 → Nat :=
  let c384 : Index := 384#32
  let c0_i32_1 : BitVec 32 := 0#32
  let c1_i32 : BitVec 32 := 1#32
  let arg9 : BitVec 32 := Scf.iv c0_i32_1 c1_i32 k1_t1
  let c256_i32 : BitVec 32 := 256#32
  let v12 : BitVec 32 := Scalar.muli arg9 c256_i32
  let v13 : BitVec 32 := v12
  let v582 : Index := Scalar.indexCast v13
  ![384, v582.toNat]
def k1_off15 (k1_t1 : Fin k1_t1_loop.trips) : Fin 2 → Nat :=
  let c416 : Index := 416#32
  let c0_i32_1 : BitVec 32 := 0#32
  let c1_i32 : BitVec 32 := 1#32
  let arg9 : BitVec 32 := Scf.iv c0_i32_1 c1_i32 k1_t1
  let c256_i32 : BitVec 32 := 256#32
  let v12 : BitVec 32 := Scalar.muli arg9 c256_i32
  let v13 : BitVec 32 := v12
  let v605 : Index := Scalar.indexCast v13
  ![416, v605.toNat]
def k1_off16 (k1_t1 : Fin k1_t1_loop.trips) : Fin 2 → Nat :=
  let c448 : Index := 448#32
  let c0_i32_1 : BitVec 32 := 0#32
  let c1_i32 : BitVec 32 := 1#32
  let arg9 : BitVec 32 := Scf.iv c0_i32_1 c1_i32 k1_t1
  let c256_i32 : BitVec 32 := 256#32
  let v12 : BitVec 32 := Scalar.muli arg9 c256_i32
  let v13 : BitVec 32 := v12
  let v628 : Index := Scalar.indexCast v13
  ![448, v628.toNat]
def k1_off17 (k1_t1 : Fin k1_t1_loop.trips) : Fin 2 → Nat :=
  let c480 : Index := 480#32
  let c0_i32_1 : BitVec 32 := 0#32
  let c1_i32 : BitVec 32 := 1#32
  let arg9 : BitVec 32 := Scf.iv c0_i32_1 c1_i32 k1_t1
  let c256_i32 : BitVec 32 := 256#32
  let v12 : BitVec 32 := Scalar.muli arg9 c256_i32
  let v13 : BitVec 32 := v12
  let v651 : Index := Scalar.indexCast v13
  ![480, v651.toNat]
def k1_off18 (k1_t1 : Fin k1_t1_loop.trips) : Fin 2 → Nat :=
  let c8 : Index := 8#32
  let c0_i32_1 : BitVec 32 := 0#32
  let c1_i32 : BitVec 32 := 1#32
  let arg9 : BitVec 32 := Scf.iv c0_i32_1 c1_i32 k1_t1
  let c256_i32 : BitVec 32 := 256#32
  let v12 : BitVec 32 := Scalar.muli arg9 c256_i32
  let v13 : BitVec 32 := v12
  let v728 : Index := Scalar.indexCast v13
  ![8, v728.toNat]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1x4096x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S4096x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x1024 .fp8e5m2 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S16x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== KernelIdeal.lean ====
variable {F : FTy → Type} [FloatOps F]
-- ==== ReferenceIdeal.lean ====
abbrev S6x4096x4096 : Shape := ⟨3, ![6, 4096, 4096]⟩
abbrev S6x4096x7168 : Shape := ⟨3, ![6, 4096, 7168]⟩
abbrev S6x128x32x4096 : Shape := ⟨4, ![6, 128, 32, 4096]⟩
abbrev S_ : Shape := ⟨0, ![]⟩
abbrev S6x128x4096 : Shape := ⟨3, ![6, 128, 4096]⟩
abbrev S254 : Shape := ⟨1, ![254]⟩
abbrev S6x128x4096x1 : Shape := ⟨4, ![6, 128, 4096, 1]⟩
abbrev S1x1x1x254 : Shape := ⟨4, ![1, 1, 1, 254]⟩
abbrev S6x128x4096x254 : Shape := ⟨4, ![6, 128, 4096, 254]⟩
abbrev S6x128x1x4096 : Shape := ⟨4, ![6, 128, 1, 4096]⟩
abbrev S6x128x32x7168 : Shape := ⟨4, ![6, 128, 32, 7168]⟩
abbrev S6x128x7168 : Shape := ⟨3, ![6, 128, 7168]⟩
abbrev S6x128x7168x1 : Shape := ⟨4, ![6, 128, 7168, 1]⟩
abbrev S6x128x7168x254 : Shape := ⟨4, ![6, 128, 7168, 254]⟩
abbrev S6x128x1x7168 : Shape := ⟨4, ![6, 128, 1, 7168]⟩
abbrev S24576x4096 : Shape := ⟨2, ![24576, 4096]⟩
abbrev S24576x7168 : Shape := ⟨2, ![24576, 7168]⟩
abbrev S4096x7168 : Shape := ⟨2, ![4096, 7168]⟩

abbrev nBuf : Space → Nat
  | .hbm => 113
  | .vmem => 6
  | .smem => 0
  | _ => 0

abbrev bufTy : (tb : Table) → Fin (tcTables nBuf tb) → BufTy
  | .hbm, ⟨0, _⟩ => ⟨S6x4096x4096, .bf16⟩
  | .hbm, ⟨1, _⟩ => ⟨S6x4096x7168, .bf16⟩
  | .hbm, ⟨2, _⟩ => ⟨S6x4096x4096, .f32⟩
  | .hbm, ⟨3, _⟩ => ⟨S6x128x32x4096, .f32⟩
  | .hbm, ⟨4, _⟩ => ⟨S6x128x32x4096, .f32⟩
  | .hbm, ⟨5, _⟩ => ⟨S_, .f32⟩
  | .hbm, ⟨6, _⟩ => ⟨S6x128x4096, .f32⟩
  | .hbm, ⟨7, _⟩ => ⟨S_, .f32⟩
  | .hbm, ⟨8, _⟩ => ⟨S6x128x4096, .f32⟩
  | .hbm, ⟨9, _⟩ => ⟨S6x128x4096, .f32⟩
  | .hbm, ⟨10, _⟩ => ⟨S254, .i32⟩
  | .hbm, ⟨11, _⟩ => ⟨S_, .i32⟩
  | .hbm, ⟨12, _⟩ => ⟨S254, .i32⟩
  | .hbm, ⟨13, _⟩ => ⟨S254, .i32⟩
  | .hbm, ⟨14, _⟩ => ⟨S_, .i32⟩
  | .hbm, ⟨15, _⟩ => ⟨S254, .i32⟩
  | .hbm, ⟨16, _⟩ => ⟨S254, .i32⟩
  | .hbm, ⟨17, _⟩ => ⟨S254, .f32⟩
  | .hbm, ⟨18, _⟩ => ⟨S6x128x4096x1, .f32⟩
  | .hbm, ⟨19, _⟩ => ⟨S1x1x1x254, .f32⟩
  | .hbm, ⟨20, _⟩ => ⟨S6x128x4096x254, .f32⟩
  | .hbm, ⟨21, _⟩ => ⟨S6x128x4096x254, .f32⟩
  | .hbm, ⟨22, _⟩ => ⟨S6x128x4096x254, .i1⟩
  | .hbm, ⟨23, _⟩ => ⟨S_, .f32⟩
  | .hbm, ⟨24, _⟩ => ⟨S_, .f32⟩
  | .hbm, ⟨25, _⟩ => ⟨S6x128x4096x254, .f32⟩
  | .hbm, ⟨26, _⟩ => ⟨S6x128x4096x254, .f32⟩
  | .hbm, ⟨27, _⟩ => ⟨S6x128x4096x254, .f32⟩
  | .hbm, ⟨28, _⟩ => ⟨S_, .f32⟩
  | .hbm, ⟨29, _⟩ => ⟨S6x128x4096, .f32⟩
  | .hbm, ⟨30, _⟩ => ⟨S6x128x4096, .i1⟩
  | .hbm, ⟨31, _⟩ => ⟨S_, .f32⟩
  | .hbm, ⟨32, _⟩ => ⟨S6x128x4096, .f32⟩
  | .hbm, ⟨33, _⟩ => ⟨S_, .f32⟩
  | .hbm, ⟨34, _⟩ => ⟨S_, .f32⟩
  | .hbm, ⟨35, _⟩ => ⟨S6x128x4096, .f32⟩
  | .hbm, ⟨36, _⟩ => ⟨S6x128x4096, .f32⟩
  | .hbm, ⟨37, _⟩ => ⟨S6x128x1x4096, .f32⟩
  | .hbm, ⟨38, _⟩ => ⟨S6x128x32x4096, .f32⟩
  | .hbm, ⟨39, _⟩ => ⟨S6x128x32x4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S6x128x32x4096, .f32⟩
  | .hbm, ⟨44, _⟩ => ⟨S6x128x32x4096, .f32⟩
  | .hbm, ⟨45, _⟩ => ⟨S_, .f32⟩
  | .hbm, ⟨46, _⟩ => ⟨S6x128x32x4096, .f32⟩
  | .hbm, ⟨47, _⟩ => ⟨S6x128x32x4096, .f32⟩
  | .hbm, ⟨48, _⟩ => ⟨S6x4096x4096, .f32⟩
  | .hbm, ⟨49, _⟩ => ⟨S6x4096x7168, .f32⟩
  | .hbm, ⟨50, _⟩ => ⟨S6x128x32x7168, .f32⟩
  | .hbm, ⟨51, _⟩ => ⟨S6x128x32x7168, .f32⟩
  | .hbm, ⟨52, _⟩ => ⟨S_, .f32⟩
  | .hbm, ⟨53, _⟩ => ⟨S6x128x7168, .f32⟩
  | .hbm, ⟨54, _⟩ => ⟨S_, .f32⟩
  | .hbm, ⟨55, _⟩ => ⟨S6x128x7168, .f32⟩
  | .hbm, ⟨56, _⟩ => ⟨S6x128x7168, .f32⟩
  | .hbm, ⟨57, _⟩ => ⟨S254, .i32⟩
  | .hbm, ⟨58, _⟩ => ⟨S_, .i32⟩
  | .hbm, ⟨59, _⟩ => ⟨S254, .i32⟩
  | .hbm, ⟨60, _⟩ => ⟨S254, .i32⟩
  | .hbm, ⟨61, _⟩ => ⟨S_, .i32⟩
  | .hbm, ⟨62, _⟩ => ⟨S254, .i32⟩
  | .hbm, ⟨63, _⟩ => ⟨S254, .i32⟩
  | .hbm, ⟨64, _⟩ => ⟨S254, .f32⟩
  | .hbm, ⟨65, _⟩ => ⟨S6x128x7168x1, .f32⟩
  | .hbm, ⟨66, _⟩ => ⟨S1x1x1x254, .f32⟩
  | .hbm, ⟨67, _⟩ => ⟨S6x128x7168x254, .f32⟩
  | .hbm, ⟨68, _⟩ => ⟨S6x128x7168x254, .f32⟩
  | .hbm, ⟨69, _⟩ => ⟨S6x128x7168x254, .i1⟩
  | .hbm, ⟨70, _⟩ => ⟨S_, .f32⟩
  | .hbm, ⟨71, _⟩ => ⟨S_, .f32⟩
  | .hbm, ⟨72, _⟩ => ⟨S6x128x7168x254, .f32⟩
  | .hbm, ⟨73, _⟩ => ⟨S6x128x7168x254, .f32⟩
  | .hbm, ⟨74, _⟩ => ⟨S6x128x7168x254, .f32⟩
  | .hbm, ⟨75, _⟩ => ⟨S_, .f32⟩
  | .hbm, ⟨76, _⟩ => ⟨S6x128x7168, .f32⟩
  | .hbm, ⟨77, _⟩ => ⟨S6x128x7168, .i1⟩
  | .hbm, ⟨78, _⟩ => ⟨S_, .f32⟩
  | .hbm, ⟨79, _⟩ => ⟨S6x128x7168, .f32⟩
  | .hbm, ⟨80, _⟩ => ⟨S_, .f32⟩
  | .hbm, ⟨81, _⟩ => ⟨S_, .f32⟩
  | .hbm, ⟨82, _⟩ => ⟨S6x128x7168, .f32⟩
  | .hbm, ⟨83, _⟩ => ⟨S6x128x7168, .f32⟩
  | .hbm, ⟨84, _⟩ => ⟨S6x128x1x7168, .f32⟩
  | .hbm, ⟨85, _⟩ => ⟨S6x128x32x7168, .f32⟩
  | .hbm, ⟨86, _⟩ => ⟨S6x128x32x7168, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S6x128x32x7168, .f32⟩
  | .hbm, ⟨91, _⟩ => ⟨S6x128x32x7168, .f32⟩
  | .hbm, ⟨92, _⟩ => ⟨S_, .f32⟩
  | .hbm, ⟨93, _⟩ => ⟨S6x128x32x7168, .f32⟩
  | .hbm, ⟨94, _⟩ => ⟨S6x128x32x7168, .f32⟩
  | .hbm, ⟨95, _⟩ => ⟨S6x4096x7168, .f32⟩
  | .hbm, ⟨96, _⟩ => ⟨S6x4096x4096, .fp8e4m3⟩
  | .hbm, ⟨97, _⟩ => ⟨S6x4096x7168, .fp8e5m2⟩
  | .hbm, ⟨98, _⟩ => ⟨S6x4096x4096, .bf16⟩
  | .hbm, ⟨99, _⟩ => ⟨S6x4096x7168, .bf16⟩
  | .hbm, ⟨100, _⟩ => ⟨S6x128x32x4096, .bf16⟩
  | .hbm, ⟨101, _⟩ => ⟨S6x128x4096, .bf16⟩
  | .hbm, ⟨102, _⟩ => ⟨S6x128x1x4096, .bf16⟩
  | .hbm, ⟨103, _⟩ => ⟨S6x128x32x4096, .bf16⟩
  | .hbm, ⟨104, _⟩ => ⟨S6x128x32x4096, .bf16⟩
  | .hbm, ⟨105, _⟩ => ⟨S24576x4096, .bf16⟩
  | .hbm, ⟨106, _⟩ => ⟨S6x128x32x7168, .bf16⟩
  | .hbm, ⟨107, _⟩ => ⟨S6x128x7168, .bf16⟩
  | .hbm, ⟨108, _⟩ => ⟨S6x128x1x7168, .bf16⟩
  | .hbm, ⟨109, _⟩ => ⟨S6x128x32x7168, .bf16⟩
  | .hbm, ⟨110, _⟩ => ⟨S6x128x32x7168, .bf16⟩
  | .hbm, ⟨111, _⟩ => ⟨S24576x7168, .bf16⟩
  | .hbm, ⟨112, _⟩ => ⟨S4096x7168, .f32⟩
  | .local _ .vmem, ⟨0, _⟩ => ⟨S6x4096x4096, .f32⟩
  | .local _ .vmem, ⟨1, _⟩ => ⟨S6x4096x7168, .f32⟩
  | .local _ .vmem, ⟨2, _⟩ => ⟨S6x4096x4096, .fp8e4m3⟩
  | .local _ .vmem, ⟨3, _⟩ => ⟨S6x4096x7168, .fp8e5m2⟩
  | .local _ .vmem, ⟨4, _⟩ => ⟨S6x4096x4096, .bf16⟩
  | .local _ .vmem, ⟨5, _⟩ => ⟨S6x4096x7168, .bf16⟩
  | _, _ => ⟨S6x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_cst_5 : Ref sig .tc := ⟨.hbm, 33, rfl⟩
abbrev main_call1_v0 : Ref sig .tc := ⟨.hbm, 34, rfl⟩
abbrev main_call1_v1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_cst_7 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_8 : Ref sig .tc := ⟨.hbm, 52, rfl⟩
abbrev main_v30 : Ref sig .tc := ⟨.hbm, 53, rfl⟩
abbrev main_cst_9 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_10 : Ref sig .tc := ⟨.hbm, 58, rfl⟩
abbrev main_v34 : Ref sig .tc := ⟨.hbm, 59, rfl⟩
abbrev main_v35 : Ref sig .tc := ⟨.hbm, 60, rfl⟩
abbrev main_c_11 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_12 : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_v44 : Ref sig .tc := ⟨.hbm, 74, rfl⟩
abbrev main_cst_13 : Ref sig .tc := ⟨.hbm, 75, rfl⟩
abbrev main_v45 : Ref sig .tc := ⟨.hbm, 76, rfl⟩
abbrev main_v46 : Ref sig .tc := ⟨.hbm, 77, rfl⟩
abbrev main_cst_14 : Ref sig .tc := ⟨.hbm, 78, rfl⟩
abbrev main_v47 : Ref sig .tc := ⟨.hbm, 79, rfl⟩
abbrev main_cst_15 : Ref sig .tc := ⟨.hbm, 80, rfl⟩
abbrev main_call4_v0 : Ref sig .tc := ⟨.hbm, 81, rfl⟩
abbrev main_call4_v1 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_16 : Ref sig .tc := ⟨.hbm, 87, rfl⟩
abbrev main_cst_17 : Ref sig .tc := ⟨.hbm, 88, rfl⟩
abbrev main_call5_v0 : Ref sig .tc := ⟨.hbm, 89, rfl⟩
abbrev main_call5_v1 : Ref sig .tc := ⟨.hbm, 90, rfl⟩
abbrev main_call5_v2 : Ref sig .tc := ⟨.hbm, 91, rfl⟩
abbrev main_call5_v3 : Ref sig .tc := ⟨.hbm, 92, rfl⟩
abbrev main_call5_v4 : Ref sig .tc := ⟨.hbm, 93, rfl⟩
abbrev main_v52 : Ref sig .tc := ⟨.hbm, 94, rfl⟩
abbrev main_v53 : Ref sig .tc := ⟨.hbm, 95, rfl⟩
abbrev main_v54_0 : Ref sig .tc := ⟨.hbm, 96, rfl⟩
abbrev main_v54_1 : Ref sig .tc := ⟨.hbm, 97, rfl⟩
abbrev main_v54_2 : Ref sig .tc := ⟨.hbm, 98, rfl⟩
abbrev main_v54_3 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6x4096x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x4096x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x4096x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x4096x7168 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x4096x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x4096x7168 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Bits.Trips.lean ====
/-
  The pieces one trip of each kernel's loop writes, and all its trips together: they do not depend on what the
  written buffers held, and together they fill the outputs (and the scratch the second kernel multiplies by).
-/
module

public import proofs.«01_k».proof.Proof.Gen.Kernel.Loops
public import Idealize.ShloMosaic.Lib.Pipeline.FrameBody

@[expose] public section

set_option maxRecDepth 16384

noncomputable section

namespace Cert.Proof.Bits

open Cert.Kernel Cert.Kernel.Gen
open Idealize.ShloMosaic Idealize.ShloMosaic.TcCoe Idealize.ShloMosaic.Tactic
open Idealize.SL Idealize.SL.RA Idealize.SL.BI Idealize.SL.Sem

variable {F : FTy → Type} [BitOps F]

/-- The piece of a list at a place, as the witness that some piece holds an index. -/
theorem exists_of_get {s : Shape} {e : EltTy} (L : List (View.Piece (Elt F) s e)) (j : ℕ) (hj : j < L.length) (y : s.Idx)
    (h : y ∈ (L[j]'hj).1.set) : ∃ p ∈ L, y ∈ p.1.set := ⟨_, List.getElem_mem hj, h⟩

/-- An index lies in a two-axis rectangle whose offset is the given one. -/
theorem mem_unit2 {s : Shape} (hs : s.rank = 2) {off size : Fin s.rank → ℕ} {inb} (y : s.Idx)
    (h0 : off (Fin.cast hs.symm 0) ≤ y (Fin.cast hs.symm 0) ∧ (y (Fin.cast hs.symm 0) : ℕ) < off (Fin.cast hs.symm 0) + size (Fin.cast hs.symm 0))
    (h1 : off (Fin.cast hs.symm 1) ≤ y (Fin.cast hs.symm 1) ∧ (y (Fin.cast hs.symm 1) : ℕ) < off (Fin.cast hs.symm 1) + size (Fin.cast hs.symm 1)) :
    y ∈ (Rect.unit off size inb).set :=
  Rect.mem_set_unit.2 fun a => by
    obtain ⟨a, rfl⟩ : ∃ b, a = Fin.cast hs.symm b := ⟨Fin.cast hs a, rfl⟩
    fin_cases a
    · exact h0
    · exact h1

/-! ## Kernel 0 -/

section K0

variable (𝒱 : Variants) (c : Dev nD) (bd : Option 𝒱.V) (i : grid0.Coords) (arg1 : Memref sig .tc .vmem S512x4096 .bf16) (harg1 : arg1.IsWhole) (arg2 : Memref sig .tc .vmem S512x4096 .fp8e4m3) (harg2 : arg2.IsWhole) (arg3 : Memref sig .tc .vmem S16x4096 .f32) (harg3 : arg3.IsWhole) (arg4 : Memref sig .tc .vmem S1x4096x512 .bf16) (harg4 : arg4.IsWhole) (arg5 : Memref sig .tc .vmem S2x8x256 .i32) (harg5 : arg5.IsWhole) (arg6 : Memref sig .tc .vmem S256x256 .bf16) (harg6 : arg6.IsWhole)
  (X : BufTy.Contents (Elt F) arg1.view.ty)

/-- One trip's pieces do not depend on what the buffers it writes held. -/
theorem tripL0_indep (k : Fin k0_t1_loop.trips) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (g2 : BufTy.Contents (Elt F) arg2.view.ty) (g3 : BufTy.Contents (Elt F) arg3.view.ty) (g4 : BufTy.Contents (Elt F) arg4.view.ty) (g5 : BufTy.Contents (Elt F) arg5.view.ty) (g6 : BufTy.Contents (Elt F) arg6.view.ty) :
    tripL_k0_t1 (F := F) 𝒱 c bd i arg1 harg1 arg2 harg2 arg3 harg3 arg4 harg4 arg5 harg5 arg6 harg6 X k f2 f3 f4 f5 f6 = tripL_k0_t1 𝒱 c bd i arg1 harg1 arg2 harg2 arg3 harg3 arg4 harg4 arg5 harg5 arg6 harg6 X k g2 g3 g4 g5 g6 := by
  unfold tripL_k0_t1 trip_k0_t1; rfl

/-- A trip's pieces put in front of the earlier trips'. -/
def app0 (T P : List (View.Piece (Elt F) S512x4096 .fp8e4m3) × List (View.Piece (Elt F) S16x4096 .f32) × List (View.Piece (Elt F) S1x4096x512 .bf16) × List (View.Piece (Elt F) S2x8x256 .i32) × List (View.Piece (Elt F) S256x256 .bf16)) : List (View.Piece (Elt F) S512x4096 .fp8e4m3) × List (View.Piece (Elt F) S16x4096 .f32) × List (View.Piece (Elt F) S1x4096x512 .bf16) × List (View.Piece (Elt F) S2x8x256 .i32) × List (View.Piece (Elt F) S256x256 .bf16) := (T.1 ++ P.1, T.2.1 ++ P.2.1, T.2.2.1 ++ P.2.2.1, T.2.2.2.1 ++ P.2.2.2.1, T.2.2.2.2 ++ P.2.2.2.2)

/-- The pieces of one trip more. -/
theorem pbS0 (n : ℕ) (h : n < k0_t1_loop.trips) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (g2 : BufTy.Contents (Elt F) arg2.view.ty) (g3 : BufTy.Contents (Elt F) arg3.view.ty) (g4 : BufTy.Contents (Elt F) arg4.view.ty) (g5 : BufTy.Contents (Elt F) arg5.view.ty) (g6 : BufTy.Contents (Elt F) arg6.view.ty) :
    pb_k0_t1 (F := F) 𝒱 c bd i arg1 harg1 arg2 harg2 arg3 harg3 arg4 harg4 arg5 harg5 arg6 harg6 X g2 g3 g4 g5 g6 (n + 1) = app0 (tripL_k0_t1 𝒱 c bd i arg1 harg1 arg2 harg2 arg3 harg3 arg4 harg4 arg5 harg5 arg6 harg6 X ⟨n, h⟩ f2 f3 f4 f5 f6) (pb_k0_t1 𝒱 c bd i arg1 harg1 arg2 harg2 arg3 harg3 arg4 harg4 arg5 harg5 arg6 harg6 X g2 g3 g4 g5 g6 n) :=
  (pb_k0_t1_succ (F := F) 𝒱 c bd i arg1 harg1 arg2 harg2 arg3 harg3 arg4 harg4 arg5 harg5 arg6 harg6 X g2 g3 g4 g5 g6 ⟨n, h⟩).trans
    (congrArg (fun T => app0 T (pb_k0_t1 𝒱 c bd i arg1 harg1 arg2 harg2 arg3 harg3 arg4 harg4 arg5 harg5 arg6 harg6 X g2 g3 g4 g5 g6 n)) (tripL0_indep 𝒱 c bd i arg1 harg1 arg2 harg2 arg3 harg3 arg4 harg4 arg5 harg5 arg6 harg6 X ⟨n, h⟩ _ _ _ _ _ f2 f3 f4 f5 f6))

/-- Past the last trip nothing is added. -/
theorem pbS0_of_not (n : ℕ) (h : ¬ n < k0_t1_loop.trips) (g2 : BufTy.Contents (Elt F) arg2.view.ty) (g3 : BufTy.Contents (Elt F) arg3.view.ty) (g4 : BufTy.Contents (Elt F) arg4.view.ty) (g5 : BufTy.Contents (Elt F) arg5.view.ty) (g6 : BufTy.Contents (Elt F) arg6.view.ty) :
    pb_k0_t1 (F := F) 𝒱 c bd i arg1 harg1 arg2 harg2 arg3 harg3 arg4 harg4 arg5 harg5 arg6 harg6 X g2 g3 g4 g5 g6 (n + 1) = pb_k0_t1 𝒱 c bd i arg1 harg1 arg2 harg2 arg3 harg3 arg4 harg4 arg5 harg5 arg6 harg6 X g2 g3 g4 g5 g6 n := by
  rw [pb_k0_t1.eq_2]; unfold pb_k0_t1Step; rw [dif_neg h]

/-- Nor do the pieces of the first `n` trips. -/
theorem pb0_indep (n : ℕ) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (g2 : BufTy.Contents (Elt F) arg2.view.ty) (g3 : BufTy.Contents (Elt F) arg3.view.ty) (g4 : BufTy.Contents (Elt F) arg4.view.ty) (g5 : BufTy.Contents (Elt F) arg5.view.ty) (g6 : BufTy.Contents (Elt F) arg6.view.ty) :
    pb_k0_t1 (F := F) 𝒱 c bd i arg1 harg1 arg2 harg2 arg3 harg3 arg4 harg4 arg5 harg5 arg6 harg6 X f2 f3 f4 f5 f6 n = pb_k0_t1 𝒱 c bd i arg1 harg1 arg2 harg2 arg3 harg3 arg4 harg4 arg5 harg5 arg6 harg6 X g2 g3 g4 g5 g6 n := by
  induction n with
  | zero => rfl
  | succ n ih =>
    by_cases h : n < k0_t1_loop.trips
    · rw [pbS0 𝒱 c bd i arg1 harg1 arg2 harg2 arg3 harg3 arg4 harg4 arg5 harg5 arg6 harg6 X n h f2 f3 f4 f5 f6 f2 f3 f4 f5 f6, pbS0 𝒱 c bd i arg1 harg1 arg2 harg2 arg3 harg3 arg4 harg4 arg5 harg5 arg6 harg6 X n h f2 f3 f4 f5 f6 g2 g3 g4 g5 g6, ih]
    · rw [pbS0_of_not 𝒱 c bd i arg1 harg1 arg2 harg2 arg3 harg3 arg4 harg4 arg5 harg5 arg6 harg6 X n h, pbS0_of_not 𝒱 c bd i arg1 harg1 arg2 harg2 arg3 harg3 arg4 harg4 arg5 harg5 arg6 harg6 X n h, ih]

/-- A piece of trip `k` is one of the first `n` trips' pieces for every `n` past `k`. -/
theorem mem_pb0 (k : Fin k0_t1_loop.trips) (n : ℕ) (hn : k.val < n) (hN : n ≤ k0_t1_loop.trips) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (g2 : BufTy.Contents (Elt F) arg2.view.ty) (g3 : BufTy.Contents (Elt F) arg3.view.ty) (g4 : BufTy.Contents (Elt F) arg4.view.ty) (g5 : BufTy.Contents (Elt F) arg5.view.ty) (g6 : BufTy.Contents (Elt F) arg6.view.ty) :
    (∀ p ∈ (tripL_k0_t1 (F := F) 𝒱 c bd i arg1 harg1 arg2 harg2 arg3 harg3 arg4 harg4 arg5 harg5 arg6 harg6 X k f2 f3 f4 f5 f6).1, p ∈ (pb_k0_t1 (F := F) 𝒱 c bd i arg1 harg1 arg2 harg2 arg3 harg3 arg4 harg4 arg5 harg5 arg6 harg6 X g2 g3 g4 g5 g6 n).1) ∧
    (∀ p ∈ (tripL_k0_t1 (F := F) 𝒱 c bd i arg1 harg1 arg2 harg2 arg3 harg3 arg4 harg4 arg5 harg5 arg6 harg6 X k f2 f3 f4 f5 f6).2.1, p ∈ (pb_k0_t1 (F := F) 𝒱 c bd i arg1 harg1 arg2 harg2 arg3 harg3 arg4 harg4 arg5 harg5 arg6 harg6 X g2 g3 g4 g5 g6 n).2.1) ∧
    (∀ p ∈ (tripL_k0_t1 (F := F) 𝒱 c bd i arg1 harg1 arg2 harg2 arg3 harg3 arg4 harg4 arg5 harg5 arg6 harg6 X k f2 f3 f4 f5 f6).2.2.1, p ∈ (pb_k0_t1 (F := F) 𝒱 c bd i arg1 harg1 arg2 harg2 arg3 harg3 arg4 harg4 arg5 harg5 arg6 harg6 X g2 g3 g4 g5 g6 n).2.2.1) ∧
    (∀ p ∈ (tripL_k0_t1 (F := F) 𝒱 c bd i arg1 harg1 arg2 harg2 arg3 harg3 arg4 harg4 arg5 harg5 arg6 harg6 X k f2 f3 f4 f5 f6).2.2.2.1, p ∈ (pb_k0_t1 (F := F) 𝒱 c bd i arg1 harg1 arg2 harg2 arg3 harg3 arg4 harg4 arg5 harg5 arg6 harg6 X g2 g3 g4 g5 g6 n).2.2.2.1) ∧
    (∀ p ∈ (tripL_k0_t1 (F := F) 𝒱 c bd i arg1 harg1 arg2 harg2 arg3 harg3 arg4 harg4 arg5 harg5 arg6 harg6 X k f2 f3 f4 f5 f6).2.2.2.2, p ∈ (pb_k0_t1 (F := F) 𝒱 c bd i arg1 harg1 arg2 harg2 arg3 harg3 arg4 harg4 arg5 harg5 arg6 harg6 X g2 g3 g4 g5 g6 n).2.2.2.2) := by
  induction n with
  | zero => exact absurd hn (Nat.not_lt_zero _)
  | succ n ih =>
    rw [pbS0 𝒱 c bd i arg1 harg1 arg2 harg2 arg3 harg3 arg4 harg4 arg5 harg5 arg6 harg6 X n hN f2 f3 f4 f5 f6 g2 g3 g4 g5 g6]
    by_cases h : k.val = n
    · obtain rfl : k = ⟨n, hN⟩ := Fin.ext h
      exact ⟨fun p hp => List.mem_append_left _ hp, fun p hp => List.mem_append_left _ hp, fun p hp => List.mem_append_left _ hp, fun p hp => List.mem_append_left _ hp, fun p hp => List.mem_append_left _ hp⟩
    · have := ih (by omega) (by omega)
      exact ⟨fun p hp => List.mem_append_right _ (this.1 p hp), fun p hp => List.mem_append_right _ (this.2.1 p hp), fun p hp => List.mem_append_right _ (this.2.2.1 p hp), fun p hp => List.mem_append_right _ (this.2.2.2.1 p hp), fun p hp => List.mem_append_right _ (this.2.2.2.2 p hp)⟩

/-- Conversely each of the first `n` trips' pieces is some trip's. -/
theorem of_mem_pb0 (n : ℕ) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (g2 : BufTy.Contents (Elt F) arg2.view.ty) (g3 : BufTy.Contents (Elt F) arg3.view.ty) (g4 : BufTy.Contents (Elt F) arg4.view.ty) (g5 : BufTy.Contents (Elt F) arg5.view.ty) (g6 : BufTy.Contents (Elt F) arg6.view.ty) :
    (∀ p ∈ (pb_k0_t1 (F := F) 𝒱 c bd i arg1 harg1 arg2 harg2 arg3 harg3 arg4 harg4 arg5 harg5 arg6 harg6 X g2 g3 g4 g5 g6 n).1, ∃ k : Fin k0_t1_loop.trips, p ∈ (tripL_k0_t1 (F := F) 𝒱 c bd i arg1 harg1 arg2 harg2 arg3 harg3 arg4 harg4 arg5 harg5 arg6 harg6 X k f2 f3 f4 f5 f6).1) ∧
    (∀ p ∈ (pb_k0_t1 (F := F) 𝒱 c bd i arg1 harg1 arg2 harg2 arg3 harg3 arg4 harg4 arg5 harg5 arg6 harg6 X g2 g3 g4 g5 g6 n).2.1, ∃ k : Fin k0_t1_loop.trips, p ∈ (tripL_k0_t1 (F := F) 𝒱 c bd i arg1 harg1 arg2 harg2 arg3 harg3 arg4 harg4 arg5 harg5 arg6 harg6 X k f2 f3 f4 f5 f6).2.1) ∧
    (∀ p ∈ (pb_k0_t1 (F := F) 𝒱 c bd i arg1 harg1 arg2 harg2 arg3 harg3 arg4 harg4 arg5 harg5 arg6 harg6 X g2 g3 g4 g5 g6 n).2.2.1, ∃ k : Fin k0_t1_loop.trips, p ∈ (tripL_k0_t1 (F := F) 𝒱 c bd i arg1 harg1 arg2 harg2 arg3 harg3 arg4 harg4 arg5 harg5 arg6 harg6 X k f2 f3 f4 f5 f6).2.2.1) ∧
    (∀ p ∈ (pb_k0_t1 (F := F) 𝒱 c bd i arg1 harg1 arg2 harg2 arg3 harg3 arg4 harg4 arg5 harg5 arg6 harg6 X g2 g3 g4 g5 g6 n).2.2.2.1, ∃ k : Fin k0_t1_loop.trips, p ∈ (tripL_k0_t1 (F := F) 𝒱 c bd i arg1 harg1 arg2 harg2 arg3 harg3 arg4 harg4 arg5 harg5 arg6 harg6 X k f2 f3 f4 f5 f6).2.2.2.1) ∧
    (∀ p ∈ (pb_k0_t1 (F := F) 𝒱 c bd i arg1 harg1 arg2 harg2 arg3 harg3 arg4 harg4 arg5 harg5 arg6 harg6 X g2 g3 g4 g5 g6 n).2.2.2.2, ∃ k : Fin k0_t1_loop.trips, p ∈ (tripL_k0_t1 (F := F) 𝒱 c bd i arg1 harg1 arg2 harg2 arg3 harg3 arg4 harg4 arg5 harg5 arg6 harg6 X k f2 f3 f4 f5 f6).2.2.2.2) := by
  induction n with
  | zero => exact ⟨fun p hp => absurd hp List.not_mem_nil, fun p hp => absurd hp List.not_mem_nil, fun p hp => absurd hp List.not_mem_nil, fun p hp => absurd hp List.not_mem_nil, fun p hp => absurd hp List.not_mem_nil⟩
  | succ n ih =>
    by_cases h : n < k0_t1_loop.trips
    · rw [pbS0 𝒱 c bd i arg1 harg1 arg2 harg2 arg3 harg3 arg4 harg4 arg5 harg5 arg6 harg6 X n h f2 f3 f4 f5 f6 g2 g3 g4 g5 g6]
      exact ⟨fun p hp => (List.mem_append.1 hp).elim (fun hp => ⟨⟨n, h⟩, hp⟩) (ih.1 p), fun p hp => (List.mem_append.1 hp).elim (fun hp => ⟨⟨n, h⟩, hp⟩) (ih.2.1 p), fun p hp => (List.mem_append.1 hp).elim (fun hp => ⟨⟨n, h⟩, hp⟩) (ih.2.2.1 p), fun p hp => (List.mem_append.1 hp).elim (fun hp => ⟨⟨n, h⟩, hp⟩) (ih.2.2.2.1 p), fun p hp => (List.mem_append.1 hp).elim (fun hp => ⟨⟨n, h⟩, hp⟩) (ih.2.2.2.2 p)⟩
    · rw [pbS0_of_not 𝒱 c bd i arg1 harg1 arg2 harg2 arg3 harg3 arg4 harg4 arg5 harg5 arg6 harg6 X n h]; exact ih

/-- The offsets the kernel computes, in closed form. -/
theorem k0_off1_eq (k : Fin k0_t1_loop.trips) : k0_off1 k = ![0, 256 * k.val] := by revert k; decide +kernel
theorem k0_off2_eq (k : Fin k0_t1_loop.trips) : k0_off2 k = ![32, 256 * k.val] := by revert k; decide +kernel
theorem k0_off3_eq (k : Fin k0_t1_loop.trips) : k0_off3 k = ![64, 256 * k.val] := by revert k; decide +kernel
theorem k0_off4_eq (k : Fin k0_t1_loop.trips) : k0_off4 k = ![96, 256 * k.val] := by revert k; decide +kernel
theorem k0_off5_eq (k : Fin k0_t1_loop.trips) : k0_off5 k = ![128, 256 * k.val] := by revert k; decide +kernel
theorem k0_off6_eq (k : Fin k0_t1_loop.trips) : k0_off6 k = ![160, 256 * k.val] := by revert k; decide +kernel
theorem k0_off7_eq (k : Fin k0_t1_loop.trips) : k0_off7 k = ![192, 256 * k.val] := by revert k; decide +kernel
theorem k0_off8_eq (k : Fin k0_t1_loop.trips) : k0_off8 k = ![224, 256 * k.val] := by revert k; decide +kernel
theorem k0_off11_eq (k : Fin k0_t1_loop.trips) : k0_off11 k = ![256, 256 * k.val] := by revert k; decide +kernel
theorem k0_off12_eq (k : Fin k0_t1_loop.trips) : k0_off12 k = ![288, 256 * k.val] := by revert k; decide +kernel
theorem k0_off13_eq (k : Fin k0_t1_loop.trips) : k0_off13 k = ![320, 256 * k.val] := by revert k; decide +kernel
theorem k0_off14_eq (k : Fin k0_t1_loop.trips) : k0_off14 k = ![352, 256 * k.val] := by revert k; decide +kernel
theorem k0_off15_eq (k : Fin k0_t1_loop.trips) : k0_off15 k = ![384, 256 * k.val] := by revert k; decide +kernel
theorem k0_off16_eq (k : Fin k0_t1_loop.trips) : k0_off16 k = ![416, 256 * k.val] := by revert k; decide +kernel
theorem k0_off17_eq (k : Fin k0_t1_loop.trips) : k0_off17 k = ![448, 256 * k.val] := by revert k; decide +kernel
theorem k0_off18_eq (k : Fin k0_t1_loop.trips) : k0_off18 k = ![480, 256 * k.val] := by revert k; decide +kernel
theorem k0_off9_eq (k : Fin k0_t1_loop.trips) : k0_off9 k = ![0, 256 * k.val] := by revert k; decide +kernel
theorem k0_off19_eq (k : Fin k0_t1_loop.trips) : k0_off19 k = ![8, 256 * k.val] := by revert k; decide +kernel
theorem k0_off10_eq (k : Fin k0_t1_loop.trips) : k0_off10 k = ![0, 256 * k.val, 0] := by revert k; decide +kernel
theorem k0_off20_eq (k : Fin k0_t1_loop.trips) : k0_off20 k = ![0, 256 * k.val, 256] := by revert k; decide +kernel

/-- One trip fills its 256 columns of the codes. -/
theorem cover0_codes (k : Fin k0_t1_loop.trips) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (y : S512x4096.Idx)
    (hk : (y 1 : ℕ) / 256 = k.val) : ∃ p ∈ (tripL_k0_t1 (F := F) 𝒱 c bd i arg1 harg1 arg2 harg2 arg3 harg3 arg4 harg4 arg5 harg5 arg6 harg6 X k f2 f3 f4 f5 f6).1, y ∈ p.1.set := by
  unfold tripL_k0_t1 trip_k0_t1
  dsimp only
  have hy : (y 0 : ℕ) < 512 := (y 0).isLt
  obtain ⟨r, hr⟩ : ∃ r, (y 0 : ℕ) / 32 = r := ⟨_, rfl⟩
  have hr' : r < 16 := by omega
  rcases (by omega : r = 0 ∨ r = 1 ∨ r = 2 ∨ r = 3 ∨ r = 4 ∨ r = 5 ∨ r = 6 ∨ r = 7 ∨ r = 8 ∨ r = 9 ∨ r = 10 ∨ r = 11 ∨ r = 12 ∨ r = 13 ∨ r = 14 ∨ r = 15) with rfl | rfl | rfl | rfl | rfl | rfl | rfl | rfl | rfl | rfl | rfl | rfl | rfl | rfl | rfl | rfl
  · refine exists_of_get _ 15 (by exact (show 15 < 16 by decide)) y ?_; exact (mem_unit2 rfl (inb := k0_off1_inb k) y (by show k0_off1 k 0 ≤ _ ∧ _ < k0_off1 k 0 + 32; rw [k0_off1_eq]; show 0 ≤ (y 0 : ℕ) ∧ (y 0 : ℕ) < 0 + 32; omega) (by show k0_off1 k 1 ≤ _ ∧ _ < k0_off1 k 1 + 256; rw [k0_off1_eq]; show 256 * k.val ≤ (y 1 : ℕ) ∧ (y 1 : ℕ) < 256 * k.val + 256; omega))
  · refine exists_of_get _ 14 (by exact (show 14 < 16 by decide)) y ?_; exact (mem_unit2 rfl (inb := k0_off2_inb k) y (by show k0_off2 k 0 ≤ _ ∧ _ < k0_off2 k 0 + 32; rw [k0_off2_eq]; show 32 ≤ (y 0 : ℕ) ∧ (y 0 : ℕ) < 32 + 32; omega) (by show k0_off2 k 1 ≤ _ ∧ _ < k0_off2 k 1 + 256; rw [k0_off2_eq]; show 256 * k.val ≤ (y 1 : ℕ) ∧ (y 1 : ℕ) < 256 * k.val + 256; omega))
  · refine exists_of_get _ 13 (by exact (show 13 < 16 by decide)) y ?_; exact (mem_unit2 rfl (inb := k0_off3_inb k) y (by show k0_off3 k 0 ≤ _ ∧ _ < k0_off3 k 0 + 32; rw [k0_off3_eq]; show 64 ≤ (y 0 : ℕ) ∧ (y 0 : ℕ) < 64 + 32; omega) (by show k0_off3 k 1 ≤ _ ∧ _ < k0_off3 k 1 + 256; rw [k0_off3_eq]; show 256 * k.val ≤ (y 1 : ℕ) ∧ (y 1 : ℕ) < 256 * k.val + 256; omega))
  · refine exists_of_get _ 12 (by exact (show 12 < 16 by decide)) y ?_; exact (mem_unit2 rfl (inb := k0_off4_inb k) y (by show k0_off4 k 0 ≤ _ ∧ _ < k0_off4 k 0 + 32; rw [k0_off4_eq]; show 96 ≤ (y 0 : ℕ) ∧ (y 0 : ℕ) < 96 + 32; omega) (by show k0_off4 k 1 ≤ _ ∧ _ < k0_off4 k 1 + 256; rw [k0_off4_eq]; show 256 * k.val ≤ (y 1 : ℕ) ∧ (y 1 : ℕ) < 256 * k.val + 256; omega))
  · refine exists_of_get _ 11 (by exact (show 11 < 16 by decide)) y ?_; exact (mem_unit2 rfl (inb := k0_off5_inb k) y (by show k0_off5 k 0 ≤ _ ∧ _ < k0_off5 k 0 + 32; rw [k0_off5_eq]; show 128 ≤ (y 0 : ℕ) ∧ (y 0 : ℕ) < 128 + 32; omega) (by show k0_off5 k 1 ≤ _ ∧ _ < k0_off5 k 1 + 256; rw [k0_off5_eq]; show 256 * k.val ≤ (y 1 : ℕ) ∧ (y 1 : ℕ) < 256 * k.val + 256; omega))
  · refine exists_of_get _ 10 (by exact (show 10 < 16 by decide)) y ?_; exact (mem_unit2 rfl (inb := k0_off6_inb k) y (by show k0_off6 k 0 ≤ _ ∧ _ < k0_off6 k 0 + 32; rw [k0_off6_eq]; show 160 ≤ (y 0 : ℕ) ∧ (y 0 : ℕ) < 160 + 32; omega) (by show k0_off6 k 1 ≤ _ ∧ _ < k0_off6 k 1 + 256; rw [k0_off6_eq]; show 256 * k.val ≤ (y 1 : ℕ) ∧ (y 1 : ℕ) < 256 * k.val + 256; omega))
  · refine exists_of_get _ 9 (by exact (show 9 < 16 by decide)) y ?_; exact (mem_unit2 rfl (inb := k0_off7_inb k) y (by show k0_off7 k 0 ≤ _ ∧ _ < k0_off7 k 0 + 32; rw [k0_off7_eq]; show 192 ≤ (y 0 : ℕ) ∧ (y 0 : ℕ) < 192 + 32; omega) (by show k0_off7 k 1 ≤ _ ∧ _ < k0_off7 k 1 + 256; rw [k0_off7_eq]; show 256 * k.val ≤ (y 1 : ℕ) ∧ (y 1 : ℕ) < 256 * k.val + 256; omega))
  · refine exists_of_get _ 8 (by exact (show 8 < 16 by decide)) y ?_; exact (mem_unit2 rfl (inb := k0_off8_inb k) y (by show k0_off8 k 0 ≤ _ ∧ _ < k0_off8 k 0 + 32; rw [k0_off8_eq]; show 224 ≤ (y 0 : ℕ) ∧ (y 0 : ℕ) < 224 + 32; omega) (by show k0_off8 k 1 ≤ _ ∧ _ < k0_off8 k 1 + 256; rw [k0_off8_eq]; show 256 * k.val ≤ (y 1 : ℕ) ∧ (y 1 : ℕ) < 256 * k.val + 256; omega))
  · refine exists_of_get _ 7 (by exact (show 7 < 16 by decide)) y ?_; exact (mem_unit2 rfl (inb := k0_off11_inb k) y (by show k0_off11 k 0 ≤ _ ∧ _ < k0_off11 k 0 + 32; rw [k0_off11_eq]; show 256 ≤ (y 0 : ℕ) ∧ (y 0 : ℕ) < 256 + 32; omega) (by show k0_off11 k 1 ≤ _ ∧ _ < k0_off11 k 1 + 256; rw [k0_off11_eq]; show 256 * k.val ≤ (y 1 : ℕ) ∧ (y 1 : ℕ) < 256 * k.val + 256; omega))
  · refine exists_of_get _ 6 (by exact (show 6 < 16 by decide)) y ?_; exact (mem_unit2 rfl (inb := k0_off12_inb k) y (by show k0_off12 k 0 ≤ _ ∧ _ < k0_off12 k 0 + 32; rw [k0_off12_eq]; show 288 ≤ (y 0 : ℕ) ∧ (y 0 : ℕ) < 288 + 32; omega) (by show k0_off12 k 1 ≤ _ ∧ _ < k0_off12 k 1 + 256; rw [k0_off12_eq]; show 256 * k.val ≤ (y 1 : ℕ) ∧ (y 1 : ℕ) < 256 * k.val + 256; omega))
  · refine exists_of_get _ 5 (by exact (show 5 < 16 by decide)) y ?_; exact (mem_unit2 rfl (inb := k0_off13_inb k) y (by show k0_off13 k 0 ≤ _ ∧ _ < k0_off13 k 0 + 32; rw [k0_off13_eq]; show 320 ≤ (y 0 : ℕ) ∧ (y 0 : ℕ) < 320 + 32; omega) (by show k0_off13 k 1 ≤ _ ∧ _ < k0_off13 k 1 + 256; rw [k0_off13_eq]; show 256 * k.val ≤ (y 1 : ℕ) ∧ (y 1 : ℕ) < 256 * k.val + 256; omega))
  · refine exists_of_get _ 4 (by exact (show 4 < 16 by decide)) y ?_; exact (mem_unit2 rfl (inb := k0_off14_inb k) y (by show k0_off14 k 0 ≤ _ ∧ _ < k0_off14 k 0 + 32; rw [k0_off14_eq]; show 352 ≤ (y 0 : ℕ) ∧ (y 0 : ℕ) < 352 + 32; omega) (by show k0_off14 k 1 ≤ _ ∧ _ < k0_off14 k 1 + 256; rw [k0_off14_eq]; show 256 * k.val ≤ (y 1 : ℕ) ∧ (y 1 : ℕ) < 256 * k.val + 256; omega))
  · refine exists_of_get _ 3 (by exact (show 3 < 16 by decide)) y ?_; exact (mem_unit2 rfl (inb := k0_off15_inb k) y (by show k0_off15 k 0 ≤ _ ∧ _ < k0_off15 k 0 + 32; rw [k0_off15_eq]; show 384 ≤ (y 0 : ℕ) ∧ (y 0 : ℕ) < 384 + 32; omega) (by show k0_off15 k 1 ≤ _ ∧ _ < k0_off15 k 1 + 256; rw [k0_off15_eq]; show 256 * k.val ≤ (y 1 : ℕ) ∧ (y 1 : ℕ) < 256 * k.val + 256; omega))
  · refine exists_of_get _ 2 (by exact (show 2 < 16 by decide)) y ?_; exact (mem_unit2 rfl (inb := k0_off16_inb k) y (by show k0_off16 k 0 ≤ _ ∧ _ < k0_off16 k 0 + 32; rw [k0_off16_eq]; show 416 ≤ (y 0 : ℕ) ∧ (y 0 : ℕ) < 416 + 32; omega) (by show k0_off16 k 1 ≤ _ ∧ _ < k0_off16 k 1 + 256; rw [k0_off16_eq]; show 256 * k.val ≤ (y 1 : ℕ) ∧ (y 1 : ℕ) < 256 * k.val + 256; omega))
  · refine exists_of_get _ 1 (by exact (show 1 < 16 by decide)) y ?_; exact (mem_unit2 rfl (inb := k0_off17_inb k) y (by show k0_off17 k 0 ≤ _ ∧ _ < k0_off17 k 0 + 32; rw [k0_off17_eq]; show 448 ≤ (y 0 : ℕ) ∧ (y 0 : ℕ) < 448 + 32; omega) (by show k0_off17 k 1 ≤ _ ∧ _ < k0_off17 k 1 + 256; rw [k0_off17_eq]; show 256 * k.val ≤ (y 1 : ℕ) ∧ (y 1 : ℕ) < 256 * k.val + 256; omega))
  · refine exists_of_get _ 0 (by exact (show 0 < 16 by decide)) y ?_; exact (mem_unit2 rfl (inb := k0_off18_inb k) y (by show k0_off18 k 0 ≤ _ ∧ _ < k0_off18 k 0 + 32; rw [k0_off18_eq]; show 480 ≤ (y 0 : ℕ) ∧ (y 0 : ℕ) < 480 + 32; omega) (by show k0_off18 k 1 ≤ _ ∧ _ < k0_off18 k 1 + 256; rw [k0_off18_eq]; show 256 * k.val ≤ (y 1 : ℕ) ∧ (y 1 : ℕ) < 256 * k.val + 256; omega))

/-- One trip fills its 256 columns of the scales. -/
theorem cover0_scale (k : Fin k0_t1_loop.trips) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (y : S16x4096.Idx)
    (hk : (y 1 : ℕ) / 256 = k.val) : ∃ p ∈ (tripL_k0_t1 (F := F) 𝒱 c bd i arg1 harg1 arg2 harg2 arg3 harg3 arg4 harg4 arg5 harg5 arg6 harg6 X k f2 f3 f4 f5 f6).2.1, y ∈ p.1.set := by
  unfold tripL_k0_t1 trip_k0_t1
  dsimp only
  have hy : (y 0 : ℕ) < 16 := (y 0).isLt
  obtain ⟨r, hr⟩ : ∃ r, (y 0 : ℕ) / 8 = r := ⟨_, rfl⟩
  have hr' : r < 2 := by omega
  rcases (by omega : r = 0 ∨ r = 1) with rfl | rfl
  · refine exists_of_get _ 1 (by exact (show 1 < 2 by decide)) y ?_; exact (mem_unit2 rfl (inb := k0_off9_inb k) y (by show k0_off9 k 0 ≤ _ ∧ _ < k0_off9 k 0 + 8; rw [k0_off9_eq]; show 0 ≤ (y 0 : ℕ) ∧ (y 0 : ℕ) < 0 + 8; omega) (by show k0_off9 k 1 ≤ _ ∧ _ < k0_off9 k 1 + 256; rw [k0_off9_eq]; show 256 * k.val ≤ (y 1 : ℕ) ∧ (y 1 : ℕ) < 256 * k.val + 256; omega))
  · refine exists_of_get _ 0 (by exact (show 0 < 2 by decide)) y ?_; exact (mem_unit2 rfl (inb := k0_off19_inb k) y (by show k0_off19 k 0 ≤ _ ∧ _ < k0_off19 k 0 + 8; rw [k0_off19_eq]; show 8 ≤ (y 0 : ℕ) ∧ (y 0 : ℕ) < 8 + 8; omega) (by show k0_off19 k 1 ≤ _ ∧ _ < k0_off19 k 1 + 256; rw [k0_off19_eq]; show 256 * k.val ≤ (y 1 : ℕ) ∧ (y 1 : ℕ) < 256 * k.val + 256; omega))

/-- One trip fills its 256 rows of the transposed dequantised block. -/
theorem cover0_xt (k : Fin k0_t1_loop.trips) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (y : S1x4096x512.Idx)
    (hk : (y 1 : ℕ) / 256 = k.val) : ∃ p ∈ (tripL_k0_t1 (F := F) 𝒱 c bd i arg1 harg1 arg2 harg2 arg3 harg3 arg4 harg4 arg5 harg5 arg6 harg6 X k f2 f3 f4 f5 f6).2.2.1, y ∈ p.1.set := by
  unfold tripL_k0_t1 trip_k0_t1
  dsimp only
  have hy : (y 0 : ℕ) < 1 := (y 0).isLt
  have hy2 : (y 2 : ℕ) < 512 := (y 2).isLt
  have hk1 : 256 * k.val ≤ (y 1 : ℕ) ∧ (y 1 : ℕ) < 256 * k.val + 256 := by omega
  by_cases h : (y 2 : ℕ) < 256
  · refine exists_of_get _ 1 (by exact (show 1 < 2 by decide)) y ((Rect.mem_set_unit (inb := k0_off10_inb k)).2 fun a => ?_)
    show k0_off10 k a ≤ (y a : ℕ) ∧ (y a : ℕ) < k0_off10 k a + S1x256x256.size a
    rw [k0_off10_eq]
    fin_cases a
    · exact ⟨Nat.zero_le _, hy⟩
    · exact hk1
    · exact ⟨Nat.zero_le _, by show (y 2 : ℕ) < 0 + 256; omega⟩
  · refine exists_of_get _ 0 (by exact (show 0 < 2 by decide)) y ((Rect.mem_set_unit (inb := k0_off20_inb k)).2 fun a => ?_)
    show k0_off20 k a ≤ (y a : ℕ) ∧ (y a : ℕ) < k0_off20 k a + S1x256x256.size a
    rw [k0_off20_eq]
    fin_cases a
    · exact ⟨Nat.zero_le _, hy⟩
    · exact hk1
    · exact ⟨by show 256 ≤ (y 2 : ℕ); omega, by show (y 2 : ℕ) < 256 + 256; omega⟩

/-- All the trips together fill it. -/
theorem coverAll0_codes (g2 : BufTy.Contents (Elt F) arg2.view.ty) (g3 : BufTy.Contents (Elt F) arg3.view.ty) (g4 : BufTy.Contents (Elt F) arg4.view.ty) (g5 : BufTy.Contents (Elt F) arg5.view.ty) (g6 : BufTy.Contents (Elt F) arg6.view.ty) (y : S512x4096.Idx) :
    ∃ p ∈ (pb_k0_t1 (F := F) 𝒱 c bd i arg1 harg1 arg2 harg2 arg3 harg3 arg4 harg4 arg5 harg5 arg6 harg6 X g2 g3 g4 g5 g6 k0_t1_loop.trips).1, y ∈ p.1.set := by
  have hy : (y 1 : ℕ) < 4096 := (y 1).isLt
  have hT : k0_t1_loop.trips = 16 := by decide
  obtain ⟨p, hp, hm⟩ := cover0_codes 𝒱 c bd i arg1 harg1 arg2 harg2 arg3 harg3 arg4 harg4 arg5 harg5 arg6 harg6 X ⟨(y 1 : ℕ) / 256, by rw [hT]; omega⟩ g2 g3 g4 g5 g6 y rfl
  exact ⟨p, (mem_pb0 𝒱 c bd i arg1 harg1 arg2 harg2 arg3 harg3 arg4 harg4 arg5 harg5 arg6 harg6 X _ _ (by show (y 1 : ℕ) / 256 < k0_t1_loop.trips; rw [hT]; omega) le_rfl g2 g3 g4 g5 g6 g2 g3 g4 g5 g6).1 p hp, hm⟩

/-- All the trips together fill it. -/
theorem coverAll0_scale (g2 : BufTy.Contents (Elt F) arg2.view.ty) (g3 : BufTy.Contents (Elt F) arg3.view.ty) (g4 : BufTy.Contents (Elt F) arg4.view.ty) (g5 : BufTy.Contents (Elt F) arg5.view.ty) (g6 : BufTy.Contents (Elt F) arg6.view.ty) (y : S16x4096.Idx) :
    ∃ p ∈ (pb_k0_t1 (F := F) 𝒱 c bd i arg1 harg1 arg2 harg2 arg3 harg3 arg4 harg4 arg5 harg5 arg6 harg6 X g2 g3 g4 g5 g6 k0_t1_loop.trips).2.1, y ∈ p.1.set := by
  have hy : (y 1 : ℕ) < 4096 := (y 1).isLt
  have hT : k0_t1_loop.trips = 16 := by decide
  obtain ⟨p, hp, hm⟩ := cover0_scale 𝒱 c bd i arg1 harg1 arg2 harg2 arg3 harg3 arg4 harg4 arg5 harg5 arg6 harg6 X ⟨(y 1 : ℕ) / 256, by rw [hT]; omega⟩ g2 g3 g4 g5 g6 y rfl
  exact ⟨p, (mem_pb0 𝒱 c bd i arg1 harg1 arg2 harg2 arg3 harg3 arg4 harg4 arg5 harg5 arg6 harg6 X _ _ (by show (y 1 : ℕ) / 256 < k0_t1_loop.trips; rw [hT]; omega) le_rfl g2 g3 g4 g5 g6 g2 g3 g4 g5 g6).2.1 p hp, hm⟩

/-- All the trips together fill it. -/
theorem coverAll0_xt (g2 : BufTy.Contents (Elt F) arg2.view.ty) (g3 : BufTy.Contents (Elt F) arg3.view.ty) (g4 : BufTy.Contents (Elt F) arg4.view.ty) (g5 : BufTy.Contents (Elt F) arg5.view.ty) (g6 : BufTy.Contents (Elt F) arg6.view.ty) (y : S1x4096x512.Idx) :
    ∃ p ∈ (pb_k0_t1 (F := F) 𝒱 c bd i arg1 harg1 arg2 harg2 arg3 harg3 arg4 harg4 arg5 harg5 arg6 harg6 X g2 g3 g4 g5 g6 k0_t1_loop.trips).2.2.1, y ∈ p.1.set := by
  have hy : (y 1 : ℕ) < 4096 := (y 1).isLt
  have hT : k0_t1_loop.trips = 16 := by decide
  obtain ⟨p, hp, hm⟩ := cover0_xt 𝒱 c bd i arg1 harg1 arg2 harg2 arg3 harg3 arg4 harg4 arg5 harg5 arg6 harg6 X ⟨(y 1 : ℕ) / 256, by rw [hT]; omega⟩ g2 g3 g4 g5 g6 y rfl
  exact ⟨p, (mem_pb0 𝒱 c bd i arg1 harg1 arg2 harg2 arg3 harg3 arg4 harg4 arg5 harg5 arg6 harg6 X _ _ (by show (y 1 : ℕ) / 256 < k0_t1_loop.trips; rw [hT]; omega) le_rfl g2 g3 g4 g5 g6 g2 g3 g4 g5 g6).2.2.1 p hp, hm⟩

end K0

/-! ## Kernel 1 -/

section K1

variable (𝒱 : Variants) (c : Dev nD) (bd : Option 𝒱.V) (i : grid1.Coords) (arg2 : Memref sig .tc .vmem S1x4096x512 .bf16) (harg2 : arg2.IsWhole) (arg3 : Memref sig .tc .vmem S512x1024 .bf16) (harg3 : arg3.IsWhole) (arg4 : Memref sig .tc .vmem S4096x1024 .f32) (harg4 : arg4.IsWhole) (arg5 : Memref sig .tc .vmem S512x1024 .fp8e5m2) (harg5 : arg5.IsWhole) (arg6 : Memref sig .tc .vmem S16x1024 .f32) (harg6 : arg6.IsWhole) (arg7 : Memref sig .tc .vmem S2x8x256 .i32) (harg7 : arg7.IsWhole) (arg8 : Memref sig .tc .vmem S512x1024 .bf16) (harg8 : arg8.IsWhole)
  (X : BufTy.Contents (Elt F) arg3.view.ty)

/-- One trip's pieces do not depend on what the buffers it writes held. -/
theorem tripL1_indep (k : Fin k1_t1_loop.trips) (f5 : BufTy.Contents (Elt F) arg5.view.ty) (f6 : BufTy.Contents (Elt F) arg6.view.ty) (f7 : BufTy.Contents (Elt F) arg7.view.ty) (f8 : BufTy.Contents (Elt F) arg8.view.ty) (g5 : BufTy.Contents (Elt F) arg5.view.ty) (g6 : BufTy.Contents (Elt F) arg6.view.ty) (g7 : BufTy.Contents (Elt F) arg7.view.ty) (g8 : BufTy.Contents (Elt F) arg8.view.ty) :
    tripL_k1_t1 (F := F) 𝒱 c bd i arg2 harg2 arg3 harg3 arg4 harg4 arg5 harg5 arg6 harg6 arg7 harg7 arg8 harg8 X k f5 f6 f7 f8 = tripL_k1_t1 𝒱 c bd i arg2 harg2 arg3 harg3 arg4 harg4 arg5 harg5 arg6 harg6 arg7 harg7 arg8 harg8 X k g5 g6 g7 g8 := by
  unfold tripL_k1_t1 trip_k1_t1; rfl

/-- A trip's pieces put in front of the earlier trips'. -/
def app1 (T P : List (View.Piece (Elt F) S512x1024 .fp8e5m2) × List (View.Piece (Elt F) S16x1024 .f32) × List (View.Piece (Elt F) S2x8x256 .i32) × List (View.Piece (Elt F) S512x1024 .bf16)) : List (View.Piece (Elt F) S512x1024 .fp8e5m2) × List (View.Piece (Elt F) S16x1024 .f32) × List (View.Piece (Elt F) S2x8x256 .i32) × List (View.Piece (Elt F) S512x1024 .bf16) := (T.1 ++ P.1, T.2.1 ++ P.2.1, T.2.2.1 ++ P.2.2.1, T.2.2.2 ++ P.2.2.2)

/-- The pieces of one trip more. -/
theorem pbS1 (n : ℕ) (h : n < k1_t1_loop.trips) (f5 : BufTy.Contents (Elt F) arg5.view.ty) (f6 : BufTy.Contents (Elt F) arg6.view.ty) (f7 : BufTy.Contents (Elt F) arg7.view.ty) (f8 : BufTy.Contents (Elt F) arg8.view.ty) (g5 : BufTy.Contents (Elt F) arg5.view.ty) (g6 : BufTy.Contents (Elt F) arg6.view.ty) (g7 : BufTy.Contents (Elt F) arg7.view.ty) (g8 : BufTy.Contents (Elt F) arg8.view.ty) :
    pb_k1_t1 (F := F) 𝒱 c bd i arg2 harg2 arg3 harg3 arg4 harg4 arg5 harg5 arg6 harg6 arg7 harg7 arg8 harg8 X g5 g6 g7 g8 (n + 1) = app1 (tripL_k1_t1 𝒱 c bd i arg2 harg2 arg3 harg3 arg4 harg4 arg5 harg5 arg6 harg6 arg7 harg7 arg8 harg8 X ⟨n, h⟩ f5 f6 f7 f8) (pb_k1_t1 𝒱 c bd i arg2 harg2 arg3 harg3 arg4 harg4 arg5 harg5 arg6 harg6 arg7 harg7 arg8 harg8 X g5 g6 g7 g8 n) :=
  (pb_k1_t1_succ (F := F) 𝒱 c bd i arg2 harg2 arg3 harg3 arg4 harg4 arg5 harg5 arg6 harg6 arg7 harg7 arg8 harg8 X g5 g6 g7 g8 ⟨n, h⟩).trans
    (congrArg (fun T => app1 T (pb_k1_t1 𝒱 c bd i arg2 harg2 arg3 harg3 arg4 harg4 arg5 harg5 arg6 harg6 arg7 harg7 arg8 harg8 X g5 g6 g7 g8 n)) (tripL1_indep 𝒱 c bd i arg2 harg2 arg3 harg3 arg4 harg4 arg5 harg5 arg6 harg6 arg7 harg7 arg8 harg8 X ⟨n, h⟩ _ _ _ _ f5 f6 f7 f8))

/-- Past the last trip nothing is added. -/
theorem pbS1_of_not (n : ℕ) (h : ¬ n < k1_t1_loop.trips) (g5 : BufTy.Contents (Elt F) arg5.view.ty) (g6 : BufTy.Contents (Elt F) arg6.view.ty) (g7 : BufTy.Contents (Elt F) arg7.view.ty) (g8 : BufTy.Contents (Elt F) arg8.view.ty) :
    pb_k1_t1 (F := F) 𝒱 c bd i arg2 harg2 arg3 harg3 arg4 harg4 arg5 harg5 arg6 harg6 arg7 harg7 arg8 harg8 X g5 g6 g7 g8 (n + 1) = pb_k1_t1 𝒱 c bd i arg2 harg2 arg3 harg3 arg4 harg4 arg5 harg5 arg6 harg6 arg7 harg7 arg8 harg8 X g5 g6 g7 g8 n := by
  rw [pb_k1_t1.eq_2]; unfold pb_k1_t1Step; rw [dif_neg h]

/-- Nor do the pieces of the first `n` trips. -/
theorem pb1_indep (n : ℕ) (f5 : BufTy.Contents (Elt F) arg5.view.ty) (f6 : BufTy.Contents (Elt F) arg6.view.ty) (f7 : BufTy.Contents (Elt F) arg7.view.ty) (f8 : BufTy.Contents (Elt F) arg8.view.ty) (g5 : BufTy.Contents (Elt F) arg5.view.ty) (g6 : BufTy.Contents (Elt F) arg6.view.ty) (g7 : BufTy.Contents (Elt F) arg7.view.ty) (g8 : BufTy.Contents (Elt F) arg8.view.ty) :
    pb_k1_t1 (F := F) 𝒱 c bd i arg2 harg2 arg3 harg3 arg4 harg4 arg5 harg5 arg6 harg6 arg7 harg7 arg8 harg8 X f5 f6 f7 f8 n = pb_k1_t1 𝒱 c bd i arg2 harg2 arg3 harg3 arg4 harg4 arg5 harg5 arg6 harg6 arg7 harg7 arg8 harg8 X g5 g6 g7 g8 n := by
  induction n with
  | zero => rfl
  | succ n ih =>
    by_cases h : n < k1_t1_loop.trips
    · rw [pbS1 𝒱 c bd i arg2 harg2 arg3 harg3 arg4 harg4 arg5 harg5 arg6 harg6 arg7 harg7 arg8 harg8 X n h f5 f6 f7 f8 f5 f6 f7 f8, pbS1 𝒱 c bd i arg2 harg2 arg3 harg3 arg4 harg4 arg5 harg5 arg6 harg6 arg7 harg7 arg8 harg8 X n h f5 f6 f7 f8 g5 g6 g7 g8, ih]
    · rw [pbS1_of_not 𝒱 c bd i arg2 harg2 arg3 harg3 arg4 harg4 arg5 harg5 arg6 harg6 arg7 harg7 arg8 harg8 X n h, pbS1_of_not 𝒱 c bd i arg2 harg2 arg3 harg3 arg4 harg4 arg5 harg5 arg6 harg6 arg7 harg7 arg8 harg8 X n h, ih]

/-- A piece of trip `k` is one of the first `n` trips' pieces for every `n` past `k`. -/
theorem mem_pb1 (k : Fin k1_t1_loop.trips) (n : ℕ) (hn : k.val < n) (hN : n ≤ k1_t1_loop.trips) (f5 : BufTy.Contents (Elt F) arg5.view.ty) (f6 : BufTy.Contents (Elt F) arg6.view.ty) (f7 : BufTy.Contents (Elt F) arg7.view.ty) (f8 : BufTy.Contents (Elt F) arg8.view.ty) (g5 : BufTy.Contents (Elt F) arg5.view.ty) (g6 : BufTy.Contents (Elt F) arg6.view.ty) (g7 : BufTy.Contents (Elt F) arg7.view.ty) (g8 : BufTy.Contents (Elt F) arg8.view.ty) :
    (∀ p ∈ (tripL_k1_t1 (F := F) 𝒱 c bd i arg2 harg2 arg3 harg3 arg4 harg4 arg5 harg5 arg6 harg6 arg7 harg7 arg8 harg8 X k f5 f6 f7 f8).1, p ∈ (pb_k1_t1 (F := F) 𝒱 c bd i arg2 harg2 arg3 harg3 arg4 harg4 arg5 harg5 arg6 harg6 arg7 harg7 arg8 harg8 X g5 g6 g7 g8 n).1) ∧
    (∀ p ∈ (tripL_k1_t1 (F := F) 𝒱 c bd i arg2 harg2 arg3 harg3 arg4 harg4 arg5 harg5 arg6 harg6 arg7 harg7 arg8 harg8 X k f5 f6 f7 f8).2.1, p ∈ (pb_k1_t1 (F := F) 𝒱 c bd i arg2 harg2 arg3 harg3 arg4 harg4 arg5 harg5 arg6 harg6 arg7 harg7 arg8 harg8 X g5 g6 g7 g8 n).2.1) ∧
    (∀ p ∈ (tripL_k1_t1 (F := F) 𝒱 c bd i arg2 harg2 arg3 harg3 arg4 harg4 arg5 harg5 arg6 harg6 arg7 harg7 arg8 harg8 X k f5 f6 f7 f8).2.2.1, p ∈ (pb_k1_t1 (F := F) 𝒱 c bd i arg2 harg2 arg3 harg3 arg4 harg4 arg5 harg5 arg6 harg6 arg7 harg7 arg8 harg8 X g5 g6 g7 g8 n).2.2.1) ∧
    (∀ p ∈ (tripL_k1_t1 (F := F) 𝒱 c bd i arg2 harg2 arg3 harg3 arg4 harg4 arg5 harg5 arg6 harg6 arg7 harg7 arg8 harg8 X k f5 f6 f7 f8).2.2.2, p ∈ (pb_k1_t1 (F := F) 𝒱 c bd i arg2 harg2 arg3 harg3 arg4 harg4 arg5 harg5 arg6 harg6 arg7 harg7 arg8 harg8 X g5 g6 g7 g8 n).2.2.2) := by
  induction n with
  | zero => exact absurd hn (Nat.not_lt_zero _)
  | succ n ih =>
    rw [pbS1 𝒱 c bd i arg2 harg2 arg3 harg3 arg4 harg4 arg5 harg5 arg6 harg6 arg7 harg7 arg8 harg8 X n hN f5 f6 f7 f8 g5 g6 g7 g8]
    by_cases h : k.val = n
    · obtain rfl : k = ⟨n, hN⟩ := Fin.ext h
      exact ⟨fun p hp => List.mem_append_left _ hp, fun p hp => List.mem_append_left _ hp, fun p hp => List.mem_append_left _ hp, fun p hp => List.mem_append_left _ hp⟩
    · have := ih (by omega) (by omega)
      exact ⟨fun p hp => List.mem_append_right _ (this.1 p hp), fun p hp => List.mem_append_right _ (this.2.1 p hp), fun p hp => List.mem_append_right _ (this.2.2.1 p hp), fun p hp => List.mem_append_right _ (this.2.2.2 p hp)⟩

/-- Conversely each of the first `n` trips' pieces is some trip's. -/
theorem of_mem_pb1 (n : ℕ) (f5 : BufTy.Contents (Elt F) arg5.view.ty) (f6 : BufTy.Contents (Elt F) arg6.view.ty) (f7 : BufTy.Contents (Elt F) arg7.view.ty) (f8 : BufTy.Contents (Elt F) arg8.view.ty) (g5 : BufTy.Contents (Elt F) arg5.view.ty) (g6 : BufTy.Contents (Elt F) arg6.view.ty) (g7 : BufTy.Contents (Elt F) arg7.view.ty) (g8 : BufTy.Contents (Elt F) arg8.view.ty) :
    (∀ p ∈ (pb_k1_t1 (F := F) 𝒱 c bd i arg2 harg2 arg3 harg3 arg4 harg4 arg5 harg5 arg6 harg6 arg7 harg7 arg8 harg8 X g5 g6 g7 g8 n).1, ∃ k : Fin k1_t1_loop.trips, p ∈ (tripL_k1_t1 (F := F) 𝒱 c bd i arg2 harg2 arg3 harg3 arg4 harg4 arg5 harg5 arg6 harg6 arg7 harg7 arg8 harg8 X k f5 f6 f7 f8).1) ∧
    (∀ p ∈ (pb_k1_t1 (F := F) 𝒱 c bd i arg2 harg2 arg3 harg3 arg4 harg4 arg5 harg5 arg6 harg6 arg7 harg7 arg8 harg8 X g5 g6 g7 g8 n).2.1, ∃ k : Fin k1_t1_loop.trips, p ∈ (tripL_k1_t1 (F := F) 𝒱 c bd i arg2 harg2 arg3 harg3 arg4 harg4 arg5 harg5 arg6 harg6 arg7 harg7 arg8 harg8 X k f5 f6 f7 f8).2.1) ∧
    (∀ p ∈ (pb_k1_t1 (F := F) 𝒱 c bd i arg2 harg2 arg3 harg3 arg4 harg4 arg5 harg5 arg6 harg6 arg7 harg7 arg8 harg8 X g5 g6 g7 g8 n).2.2.1, ∃ k : Fin k1_t1_loop.trips, p ∈ (tripL_k1_t1 (F := F) 𝒱 c bd i arg2 harg2 arg3 harg3 arg4 harg4 arg5 harg5 arg6 harg6 arg7 harg7 arg8 harg8 X k f5 f6 f7 f8).2.2.1) ∧
    (∀ p ∈ (pb_k1_t1 (F := F) 𝒱 c bd i arg2 harg2 arg3 harg3 arg4 harg4 arg5 harg5 arg6 harg6 arg7 harg7 arg8 harg8 X g5 g6 g7 g8 n).2.2.2, ∃ k : Fin k1_t1_loop.trips, p ∈ (tripL_k1_t1 (F := F) 𝒱 c bd i arg2 harg2 arg3 harg3 arg4 harg4 arg5 harg5 arg6 harg6 arg7 harg7 arg8 harg8 X k f5 f6 f7 f8).2.2.2) := by
  induction n with
  | zero => exact ⟨fun p hp => absurd hp List.not_mem_nil, fun p hp => absurd hp List.not_mem_nil, fun p hp => absurd hp List.not_mem_nil, fun p hp => absurd hp List.not_mem_nil⟩
  | succ n ih =>
    by_cases h : n < k1_t1_loop.trips
    · rw [pbS1 𝒱 c bd i arg2 harg2 arg3 harg3 arg4 harg4 arg5 harg5 arg6 harg6 arg7 harg7 arg8 harg8 X n h f5 f6 f7 f8 g5 g6 g7 g8]
      exact ⟨fun p hp => (List.mem_append.1 hp).elim (fun hp => ⟨⟨n, h⟩, hp⟩) (ih.1 p), fun p hp => (List.mem_append.1 hp).elim (fun hp => ⟨⟨n, h⟩, hp⟩) (ih.2.1 p), fun p hp => (List.mem_append.1 hp).elim (fun hp => ⟨⟨n, h⟩, hp⟩) (ih.2.2.1 p), fun p hp => (List.mem_append.1 hp).elim (fun hp => ⟨⟨n, h⟩, hp⟩) (ih.2.2.2 p)⟩
    · rw [pbS1_of_not 𝒱 c bd i arg2 harg2 arg3 harg3 arg4 harg4 arg5 harg5 arg6 harg6 arg7 harg7 arg8 harg8 X n h]; exact ih

/-- The offsets the kernel computes, in closed form. -/
theorem k1_off1_eq (k : Fin k1_t1_loop.trips) : k1_off1 k = ![0, 256 * k.val] := by revert k; decide +kernel
theorem k1_off2_eq (k : Fin k1_t1_loop.trips) : k1_off2 k = ![32, 256 * k.val] := by revert k; decide +kernel
theorem k1_off3_eq (k : Fin k1_t1_loop.trips) : k1_off3 k = ![64, 256 * k.val] := by revert k; decide +kernel
theorem k1_off4_eq (k : Fin k1_t1_loop.trips) : k1_off4 k = ![96, 256 * k.val] := by revert k; decide +kernel
theorem k1_off5_eq (k : Fin k1_t1_loop.trips) : k1_off5 k = ![128, 256 * k.val] := by revert k; decide +kernel
theorem k1_off6_eq (k : Fin k1_t1_loop.trips) : k1_off6 k = ![160, 256 * k.val] := by revert k; decide +kernel
theorem k1_off7_eq (k : Fin k1_t1_loop.trips) : k1_off7 k = ![192, 256 * k.val] := by revert k; decide +kernel
theorem k1_off8_eq (k : Fin k1_t1_loop.trips) : k1_off8 k = ![224, 256 * k.val] := by revert k; decide +kernel
theorem k1_off10_eq (k : Fin k1_t1_loop.trips) : k1_off10 k = ![256, 256 * k.val] := by revert k; decide +kernel
theorem k1_off11_eq (k : Fin k1_t1_loop.trips) : k1_off11 k = ![288, 256 * k.val] := by revert k; decide +kernel
theorem k1_off12_eq (k : Fin k1_t1_loop.trips) : k1_off12 k = ![320, 256 * k.val] := by revert k; decide +kernel
theorem k1_off13_eq (k : Fin k1_t1_loop.trips) : k1_off13 k = ![352, 256 * k.val] := by revert k; decide +kernel
theorem k1_off14_eq (k : Fin k1_t1_loop.trips) : k1_off14 k = ![384, 256 * k.val] := by revert k; decide +kernel
theorem k1_off15_eq (k : Fin k1_t1_loop.trips) : k1_off15 k = ![416, 256 * k.val] := by revert k; decide +kernel
theorem k1_off16_eq (k : Fin k1_t1_loop.trips) : k1_off16 k = ![448, 256 * k.val] := by revert k; decide +kernel
theorem k1_off17_eq (k : Fin k1_t1_loop.trips) : k1_off17 k = ![480, 256 * k.val] := by revert k; decide +kernel
theorem k1_off9_eq (k : Fin k1_t1_loop.trips) : k1_off9 k = ![0, 256 * k.val] := by revert k; decide +kernel
theorem k1_off18_eq (k : Fin k1_t1_loop.trips) : k1_off18 k = ![8, 256 * k.val] := by revert k; decide +kernel

/-- One trip fills its 256 columns of the codes. -/
theorem cover1_codes (k : Fin k1_t1_loop.trips) (f5 : BufTy.Contents (Elt F) arg5.view.ty) (f6 : BufTy.Contents (Elt F) arg6.view.ty) (f7 : BufTy.Contents (Elt F) arg7.view.ty) (f8 : BufTy.Contents (Elt F) arg8.view.ty) (y : S512x1024.Idx)
    (hk : (y 1 : ℕ) / 256 = k.val) : ∃ p ∈ (tripL_k1_t1 (F := F) 𝒱 c bd i arg2 harg2 arg3 harg3 arg4 harg4 arg5 harg5 arg6 harg6 arg7 harg7 arg8 harg8 X k f5 f6 f7 f8).1, y ∈ p.1.set := by
  unfold tripL_k1_t1 trip_k1_t1
  dsimp only
  have hy : (y 0 : ℕ) < 512 := (y 0).isLt
  obtain ⟨r, hr⟩ : ∃ r, (y 0 : ℕ) / 32 = r := ⟨_, rfl⟩
  have hr' : r < 16 := by omega
  rcases (by omega : r = 0 ∨ r = 1 ∨ r = 2 ∨ r = 3 ∨ r = 4 ∨ r = 5 ∨ r = 6 ∨ r = 7 ∨ r = 8 ∨ r = 9 ∨ r = 10 ∨ r = 11 ∨ r = 12 ∨ r = 13 ∨ r = 14 ∨ r = 15) with rfl | rfl | rfl | rfl | rfl | rfl | rfl | rfl | rfl | rfl | rfl | rfl | rfl | rfl | rfl | rfl
  · refine exists_of_get _ 15 (by exact (show 15 < 16 by decide)) y ?_; exact (mem_unit2 rfl (inb := k1_off1_inb k) y (by show k1_off1 k 0 ≤ _ ∧ _ < k1_off1 k 0 + 32; rw [k1_off1_eq]; show 0 ≤ (y 0 : ℕ) ∧ (y 0 : ℕ) < 0 + 32; omega) (by show k1_off1 k 1 ≤ _ ∧ _ < k1_off1 k 1 + 256; rw [k1_off1_eq]; show 256 * k.val ≤ (y 1 : ℕ) ∧ (y 1 : ℕ) < 256 * k.val + 256; omega))
  · refine exists_of_get _ 14 (by exact (show 14 < 16 by decide)) y ?_; exact (mem_unit2 rfl (inb := k1_off2_inb k) y (by show k1_off2 k 0 ≤ _ ∧ _ < k1_off2 k 0 + 32; rw [k1_off2_eq]; show 32 ≤ (y 0 : ℕ) ∧ (y 0 : ℕ) < 32 + 32; omega) (by show k1_off2 k 1 ≤ _ ∧ _ < k1_off2 k 1 + 256; rw [k1_off2_eq]; show 256 * k.val ≤ (y 1 : ℕ) ∧ (y 1 : ℕ) < 256 * k.val + 256; omega))
  · refine exists_of_get _ 13 (by exact (show 13 < 16 by decide)) y ?_; exact (mem_unit2 rfl (inb := k1_off3_inb k) y (by show k1_off3 k 0 ≤ _ ∧ _ < k1_off3 k 0 + 32; rw [k1_off3_eq]; show 64 ≤ (y 0 : ℕ) ∧ (y 0 : ℕ) < 64 + 32; omega) (by show k1_off3 k 1 ≤ _ ∧ _ < k1_off3 k 1 + 256; rw [k1_off3_eq]; show 256 * k.val ≤ (y 1 : ℕ) ∧ (y 1 : ℕ) < 256 * k.val + 256; omega))
  · refine exists_of_get _ 12 (by exact (show 12 < 16 by decide)) y ?_; exact (mem_unit2 rfl (inb := k1_off4_inb k) y (by show k1_off4 k 0 ≤ _ ∧ _ < k1_off4 k 0 + 32; rw [k1_off4_eq]; show 96 ≤ (y 0 : ℕ) ∧ (y 0 : ℕ) < 96 + 32; omega) (by show k1_off4 k 1 ≤ _ ∧ _ < k1_off4 k 1 + 256; rw [k1_off4_eq]; show 256 * k.val ≤ (y 1 : ℕ) ∧ (y 1 : ℕ) < 256 * k.val + 256; omega))
  · refine exists_of_get _ 11 (by exact (show 11 < 16 by decide)) y ?_; exact (mem_unit2 rfl (inb := k1_off5_inb k) y (by show k1_off5 k 0 ≤ _ ∧ _ < k1_off5 k 0 + 32; rw [k1_off5_eq]; show 128 ≤ (y 0 : ℕ) ∧ (y 0 : ℕ) < 128 + 32; omega) (by show k1_off5 k 1 ≤ _ ∧ _ < k1_off5 k 1 + 256; rw [k1_off5_eq]; show 256 * k.val ≤ (y 1 : ℕ) ∧ (y 1 : ℕ) < 256 * k.val + 256; omega))
  · refine exists_of_get _ 10 (by exact (show 10 < 16 by decide)) y ?_; exact (mem_unit2 rfl (inb := k1_off6_inb k) y (by show k1_off6 k 0 ≤ _ ∧ _ < k1_off6 k 0 + 32; rw [k1_off6_eq]; show 160 ≤ (y 0 : ℕ) ∧ (y 0 : ℕ) < 160 + 32; omega) (by show k1_off6 k 1 ≤ _ ∧ _ < k1_off6 k 1 + 256; rw [k1_off6_eq]; show 256 * k.val ≤ (y 1 : ℕ) ∧ (y 1 : ℕ) < 256 * k.val + 256; omega))
  · refine exists_of_get _ 9 (by exact (show 9 < 16 by decide)) y ?_; exact (mem_unit2 rfl (inb := k1_off7_inb k) y (by show k1_off7 k 0 ≤ _ ∧ _ < k1_off7 k 0 + 32; rw [k1_off7_eq]; show 192 ≤ (y 0 : ℕ) ∧ (y 0 : ℕ) < 192 + 32; omega) (by show k1_off7 k 1 ≤ _ ∧ _ < k1_off7 k 1 + 256; rw [k1_off7_eq]; show 256 * k.val ≤ (y 1 : ℕ) ∧ (y 1 : ℕ) < 256 * k.val + 256; omega))
  · refine exists_of_get _ 8 (by exact (show 8 < 16 by decide)) y ?_; exact (mem_unit2 rfl (inb := k1_off8_inb k) y (by show k1_off8 k 0 ≤ _ ∧ _ < k1_off8 k 0 + 32; rw [k1_off8_eq]; show 224 ≤ (y 0 : ℕ) ∧ (y 0 : ℕ) < 224 + 32; omega) (by show k1_off8 k 1 ≤ _ ∧ _ < k1_off8 k 1 + 256; rw [k1_off8_eq]; show 256 * k.val ≤ (y 1 : ℕ) ∧ (y 1 : ℕ) < 256 * k.val + 256; omega))
  · refine exists_of_get _ 7 (by exact (show 7 < 16 by decide)) y ?_; exact (mem_unit2 rfl (inb := k1_off10_inb k) y (by show k1_off10 k 0 ≤ _ ∧ _ < k1_off10 k 0 + 32; rw [k1_off10_eq]; show 256 ≤ (y 0 : ℕ) ∧ (y 0 : ℕ) < 256 + 32; omega) (by show k1_off10 k 1 ≤ _ ∧ _ < k1_off10 k 1 + 256; rw [k1_off10_eq]; show 256 * k.val ≤ (y 1 : ℕ) ∧ (y 1 : ℕ) < 256 * k.val + 256; omega))
  · refine exists_of_get _ 6 (by exact (show 6 < 16 by decide)) y ?_; exact (mem_unit2 rfl (inb := k1_off11_inb k) y (by show k1_off11 k 0 ≤ _ ∧ _ < k1_off11 k 0 + 32; rw [k1_off11_eq]; show 288 ≤ (y 0 : ℕ) ∧ (y 0 : ℕ) < 288 + 32; omega) (by show k1_off11 k 1 ≤ _ ∧ _ < k1_off11 k 1 + 256; rw [k1_off11_eq]; show 256 * k.val ≤ (y 1 : ℕ) ∧ (y 1 : ℕ) < 256 * k.val + 256; omega))
  · refine exists_of_get _ 5 (by exact (show 5 < 16 by decide)) y ?_; exact (mem_unit2 rfl (inb := k1_off12_inb k) y (by show k1_off12 k 0 ≤ _ ∧ _ < k1_off12 k 0 + 32; rw [k1_off12_eq]; show 320 ≤ (y 0 : ℕ) ∧ (y 0 : ℕ) < 320 + 32; omega) (by show k1_off12 k 1 ≤ _ ∧ _ < k1_off12 k 1 + 256; rw [k1_off12_eq]; show 256 * k.val ≤ (y 1 : ℕ) ∧ (y 1 : ℕ) < 256 * k.val + 256; omega))
  · refine exists_of_get _ 4 (by exact (show 4 < 16 by decide)) y ?_; exact (mem_unit2 rfl (inb := k1_off13_inb k) y (by show k1_off13 k 0 ≤ _ ∧ _ < k1_off13 k 0 + 32; rw [k1_off13_eq]; show 352 ≤ (y 0 : ℕ) ∧ (y 0 : ℕ) < 352 + 32; omega) (by show k1_off13 k 1 ≤ _ ∧ _ < k1_off13 k 1 + 256; rw [k1_off13_eq]; show 256 * k.val ≤ (y 1 : ℕ) ∧ (y 1 : ℕ) < 256 * k.val + 256; omega))
  · refine exists_of_get _ 3 (by exact (show 3 < 16 by decide)) y ?_; exact (mem_unit2 rfl (inb := k1_off14_inb k) y (by show k1_off14 k 0 ≤ _ ∧ _ < k1_off14 k 0 + 32; rw [k1_off14_eq]; show 384 ≤ (y 0 : ℕ) ∧ (y 0 : ℕ) < 384 + 32; omega) (by show k1_off14 k 1 ≤ _ ∧ _ < k1_off14 k 1 + 256; rw [k1_off14_eq]; show 256 * k.val ≤ (y 1 : ℕ) ∧ (y 1 : ℕ) < 256 * k.val + 256; omega))
  · refine exists_of_get _ 2 (by exact (show 2 < 16 by decide)) y ?_; exact (mem_unit2 rfl (inb := k1_off15_inb k) y (by show k1_off15 k 0 ≤ _ ∧ _ < k1_off15 k 0 + 32; rw [k1_off15_eq]; show 416 ≤ (y 0 : ℕ) ∧ (y 0 : ℕ) < 416 + 32; omega) (by show k1_off15 k 1 ≤ _ ∧ _ < k1_off15 k 1 + 256; rw [k1_off15_eq]; show 256 * k.val ≤ (y 1 : ℕ) ∧ (y 1 : ℕ) < 256 * k.val + 256; omega))
  · refine exists_of_get _ 1 (by exact (show 1 < 16 by decide)) y ?_; exact (mem_unit2 rfl (inb := k1_off16_inb k) y (by show k1_off16 k 0 ≤ _ ∧ _ < k1_off16 k 0 + 32; rw [k1_off16_eq]; show 448 ≤ (y 0 : ℕ) ∧ (y 0 : ℕ) < 448 + 32; omega) (by show k1_off16 k 1 ≤ _ ∧ _ < k1_off16 k 1 + 256; rw [k1_off16_eq]; show 256 * k.val ≤ (y 1 : ℕ) ∧ (y 1 : ℕ) < 256 * k.val + 256; omega))
  · refine exists_of_get _ 0 (by exact (show 0 < 16 by decide)) y ?_; exact (mem_unit2 rfl (inb := k1_off17_inb k) y (by show k1_off17 k 0 ≤ _ ∧ _ < k1_off17 k 0 + 32; rw [k1_off17_eq]; show 480 ≤ (y 0 : ℕ) ∧ (y 0 : ℕ) < 480 + 32; omega) (by show k1_off17 k 1 ≤ _ ∧ _ < k1_off17 k 1 + 256; rw [k1_off17_eq]; show 256 * k.val ≤ (y 1 : ℕ) ∧ (y 1 : ℕ) < 256 * k.val + 256; omega))

/-- One trip fills its 256 columns of the scales. -/
theorem cover1_scale (k : Fin k1_t1_loop.trips) (f5 : BufTy.Contents (Elt F) arg5.view.ty) (f6 : BufTy.Contents (Elt F) arg6.view.ty) (f7 : BufTy.Contents (Elt F) arg7.view.ty) (f8 : BufTy.Contents (Elt F) arg8.view.ty) (y : S16x1024.Idx)
    (hk : (y 1 : ℕ) / 256 = k.val) : ∃ p ∈ (tripL_k1_t1 (F := F) 𝒱 c bd i arg2 harg2 arg3 harg3 arg4 harg4 arg5 harg5 arg6 harg6 arg7 harg7 arg8 harg8 X k f5 f6 f7 f8).2.1, y ∈ p.1.set := by
  unfold tripL_k1_t1 trip_k1_t1
  dsimp only
  have hy : (y 0 : ℕ) < 16 := (y 0).isLt
  obtain ⟨r, hr⟩ : ∃ r, (y 0 : ℕ) / 8 = r := ⟨_, rfl⟩
  have hr' : r < 2 := by omega
  rcases (by omega : r = 0 ∨ r = 1) with rfl | rfl
  · refine exists_of_get _ 1 (by exact (show 1 < 2 by decide)) y ?_; exact (mem_unit2 rfl (inb := k1_off9_inb k) y (by show k1_off9 k 0 ≤ _ ∧ _ < k1_off9 k 0 + 8; rw [k1_off9_eq]; show 0 ≤ (y 0 : ℕ) ∧ (y 0 : ℕ) < 0 + 8; omega) (by show k1_off9 k 1 ≤ _ ∧ _ < k1_off9 k 1 + 256; rw [k1_off9_eq]; show 256 * k.val ≤ (y 1 : ℕ) ∧ (y 1 : ℕ) < 256 * k.val + 256; omega))
  · refine exists_of_get _ 0 (by exact (show 0 < 2 by decide)) y ?_; exact (mem_unit2 rfl (inb := k1_off18_inb k) y (by show k1_off18 k 0 ≤ _ ∧ _ < k1_off18 k 0 + 8; rw [k1_off18_eq]; show 8 ≤ (y 0 : ℕ) ∧ (y 0 : ℕ) < 8 + 8; omega) (by show k1_off18 k 1 ≤ _ ∧ _ < k1_off18 k 1 + 256; rw [k1_off18_eq]; show 256 * k.val ≤ (y 1 : ℕ) ∧ (y 1 : ℕ) < 256 * k.val + 256; omega))

/-- One trip fills its 256 columns of the dequantised block. -/
theorem cover1_hat (k : Fin k1_t1_loop.trips) (f5 : BufTy.Contents (Elt F) arg5.view.ty) (f6 : BufTy.Contents (Elt F) arg6.view.ty) (f7 : BufTy.Contents (Elt F) arg7.view.ty) (f8 : BufTy.Contents (Elt F) arg8.view.ty) (y : S512x1024.Idx)
    (hk : (y 1 : ℕ) / 256 = k.val) : ∃ p ∈ (tripL_k1_t1 (F := F) 𝒱 c bd i arg2 harg2 arg3 harg3 arg4 harg4 arg5 harg5 arg6 harg6 arg7 harg7 arg8 harg8 X k f5 f6 f7 f8).2.2.2, y ∈ p.1.set := by
  unfold tripL_k1_t1 trip_k1_t1
  dsimp only
  have hy : (y 0 : ℕ) < 512 := (y 0).isLt
  obtain ⟨r, hr⟩ : ∃ r, (y 0 : ℕ) / 32 = r := ⟨_, rfl⟩
  have hr' : r < 16 := by omega
  rcases (by omega : r = 0 ∨ r = 1 ∨ r = 2 ∨ r = 3 ∨ r = 4 ∨ r = 5 ∨ r = 6 ∨ r = 7 ∨ r = 8 ∨ r = 9 ∨ r = 10 ∨ r = 11 ∨ r = 12 ∨ r = 13 ∨ r = 14 ∨ r = 15) with rfl | rfl | rfl | rfl | rfl | rfl | rfl | rfl | rfl | rfl | rfl | rfl | rfl | rfl | rfl | rfl
  · refine exists_of_get _ 15 (by exact (show 15 < 16 by decide)) y ?_; exact (mem_unit2 rfl (inb := k1_off1_inb k) y (by show k1_off1 k 0 ≤ _ ∧ _ < k1_off1 k 0 + 32; rw [k1_off1_eq]; show 0 ≤ (y 0 : ℕ) ∧ (y 0 : ℕ) < 0 + 32; omega) (by show k1_off1 k 1 ≤ _ ∧ _ < k1_off1 k 1 + 256; rw [k1_off1_eq]; show 256 * k.val ≤ (y 1 : ℕ) ∧ (y 1 : ℕ) < 256 * k.val + 256; omega))
  · refine exists_of_get _ 14 (by exact (show 14 < 16 by decide)) y ?_; exact (mem_unit2 rfl (inb := k1_off2_inb k) y (by show k1_off2 k 0 ≤ _ ∧ _ < k1_off2 k 0 + 32; rw [k1_off2_eq]; show 32 ≤ (y 0 : ℕ) ∧ (y 0 : ℕ) < 32 + 32; omega) (by show k1_off2 k 1 ≤ _ ∧ _ < k1_off2 k 1 + 256; rw [k1_off2_eq]; show 256 * k.val ≤ (y 1 : ℕ) ∧ (y 1 : ℕ) < 256 * k.val + 256; omega))
  · refine exists_of_get _ 13 (by exact (show 13 < 16 by decide)) y ?_; exact (mem_unit2 rfl (inb := k1_off3_inb k) y (by show k1_off3 k 0 ≤ _ ∧ _ < k1_off3 k 0 + 32; rw [k1_off3_eq]; show 64 ≤ (y 0 : ℕ) ∧ (y 0 : ℕ) < 64 + 32; omega) (by show k1_off3 k 1 ≤ _ ∧ _ < k1_off3 k 1 + 256; rw [k1_off3_eq]; show 256 * k.val ≤ (y 1 : ℕ) ∧ (y 1 : ℕ) < 256 * k.val + 256; omega))
  · refine exists_of_get _ 12 (by exact (show 12 < 16 by decide)) y ?_; exact (mem_unit2 rfl (inb := k1_off4_inb k) y (by show k1_off4 k 0 ≤ _ ∧ _ < k1_off4 k 0 + 32; rw [k1_off4_eq]; show 96 ≤ (y 0 : ℕ) ∧ (y 0 : ℕ) < 96 + 32; omega) (by show k1_off4 k 1 ≤ _ ∧ _ < k1_off4 k 1 + 256; rw [k1_off4_eq]; show 256 * k.val ≤ (y 1 : ℕ) ∧ (y 1 : ℕ) < 256 * k.val + 256; omega))
  · refine exists_of_get _ 11 (by exact (show 11 < 16 by decide)) y ?_; exact (mem_unit2 rfl (inb := k1_off5_inb k) y (by show k1_off5 k 0 ≤ _ ∧ _ < k1_off5 k 0 + 32; rw [k1_off5_eq]; show 128 ≤ (y 0 : ℕ) ∧ (y 0 : ℕ) < 128 + 32; omega) (by show k1_off5 k 1 ≤ _ ∧ _ < k1_off5 k 1 + 256; rw [k1_off5_eq]; show 256 * k.val ≤ (y 1 : ℕ) ∧ (y 1 : ℕ) < 256 * k.val + 256; omega))
  · refine exists_of_get _ 10 (by exact (show 10 < 16 by decide)) y ?_; exact (mem_unit2 rfl (inb := k1_off6_inb k) y (by show k1_off6 k 0 ≤ _ ∧ _ < k1_off6 k 0 + 32; rw [k1_off6_eq]; show 160 ≤ (y 0 : ℕ) ∧ (y 0 : ℕ) < 160 + 32; omega) (by show k1_off6 k 1 ≤ _ ∧ _ < k1_off6 k 1 + 256; rw [k1_off6_eq]; show 256 * k.val ≤ (y 1 : ℕ) ∧ (y 1 : ℕ) < 256 * k.val + 256; omega))
  · refine exists_of_get _ 9 (by exact (show 9 < 16 by decide)) y ?_; exact (mem_unit2 rfl (inb := k1_off7_inb k) y (by show k1_off7 k 0 ≤ _ ∧ _ < k1_off7 k 0 + 32; rw [k1_off7_eq]; show 192 ≤ (y 0 : ℕ) ∧ (y 0 : ℕ) < 192 + 32; omega) (by show k1_off7 k 1 ≤ _ ∧ _ < k1_off7 k 1 + 256; rw [k1_off7_eq]; show 256 * k.val ≤ (y 1 : ℕ) ∧ (y 1 : ℕ) < 256 * k.val + 256; omega))
  · refine exists_of_get _ 8 (by exact (show 8 < 16 by decide)) y ?_; exact (mem_unit2 rfl (inb := k1_off8_inb k) y (by show k1_off8 k 0 ≤ _ ∧ _ < k1_off8 k 0 + 32; rw [k1_off8_eq]; show 224 ≤ (y 0 : ℕ) ∧ (y 0 : ℕ) < 224 + 32; omega) (by show k1_off8 k 1 ≤ _ ∧ _ < k1_off8 k 1 + 256; rw [k1_off8_eq]; show 256 * k.val ≤ (y 1 : ℕ) ∧ (y 1 : ℕ) < 256 * k.val + 256; omega))
  · refine exists_of_get _ 7 (by exact (show 7 < 16 by decide)) y ?_; exact (mem_unit2 rfl (inb := k1_off10_inb k) y (by show k1_off10 k 0 ≤ _ ∧ _ < k1_off10 k 0 + 32; rw [k1_off10_eq]; show 256 ≤ (y 0 : ℕ) ∧ (y 0 : ℕ) < 256 + 32; omega) (by show k1_off10 k 1 ≤ _ ∧ _ < k1_off10 k 1 + 256; rw [k1_off10_eq]; show 256 * k.val ≤ (y 1 : ℕ) ∧ (y 1 : ℕ) < 256 * k.val + 256; omega))
  · refine exists_of_get _ 6 (by exact (show 6 < 16 by decide)) y ?_; exact (mem_unit2 rfl (inb := k1_off11_inb k) y (by show k1_off11 k 0 ≤ _ ∧ _ < k1_off11 k 0 + 32; rw [k1_off11_eq]; show 288 ≤ (y 0 : ℕ) ∧ (y 0 : ℕ) < 288 + 32; omega) (by show k1_off11 k 1 ≤ _ ∧ _ < k1_off11 k 1 + 256; rw [k1_off11_eq]; show 256 * k.val ≤ (y 1 : ℕ) ∧ (y 1 : ℕ) < 256 * k.val + 256; omega))
  · refine exists_of_get _ 5 (by exact (show 5 < 16 by decide)) y ?_; exact (mem_unit2 rfl (inb := k1_off12_inb k) y (by show k1_off12 k 0 ≤ _ ∧ _ < k1_off12 k 0 + 32; rw [k1_off12_eq]; show 320 ≤ (y 0 : ℕ) ∧ (y 0 : ℕ) < 320 + 32; omega) (by show k1_off12 k 1 ≤ _ ∧ _ < k1_off12 k 1 + 256; rw [k1_off12_eq]; show 256 * k.val ≤ (y 1 : ℕ) ∧ (y 1 : ℕ) < 256 * k.val + 256; omega))
  · refine exists_of_get _ 4 (by exact (show 4 < 16 by decide)) y ?_; exact (mem_unit2 rfl (inb := k1_off13_inb k) y (by show k1_off13 k 0 ≤ _ ∧ _ < k1_off13 k 0 + 32; rw [k1_off13_eq]; show 352 ≤ (y 0 : ℕ) ∧ (y 0 : ℕ) < 352 + 32; omega) (by show k1_off13 k 1 ≤ _ ∧ _ < k1_off13 k 1 + 256; rw [k1_off13_eq]; show 256 * k.val ≤ (y 1 : ℕ) ∧ (y 1 : ℕ) < 256 * k.val + 256; omega))
  · refine exists_of_get _ 3 (by exact (show 3 < 16 by decide)) y ?_; exact (mem_unit2 rfl (inb := k1_off14_inb k) y (by show k1_off14 k 0 ≤ _ ∧ _ < k1_off14 k 0 + 32; rw [k1_off14_eq]; show 384 ≤ (y 0 : ℕ) ∧ (y 0 : ℕ) < 384 + 32; omega) (by show k1_off14 k 1 ≤ _ ∧ _ < k1_off14 k 1 + 256; rw [k1_off14_eq]; show 256 * k.val ≤ (y 1 : ℕ) ∧ (y 1 : ℕ) < 256 * k.val + 256; omega))
  · refine exists_of_get _ 2 (by exact (show 2 < 16 by decide)) y ?_; exact (mem_unit2 rfl (inb := k1_off15_inb k) y (by show k1_off15 k 0 ≤ _ ∧ _ < k1_off15 k 0 + 32; rw [k1_off15_eq]; show 416 ≤ (y 0 : ℕ) ∧ (y 0 : ℕ) < 416 + 32; omega) (by show k1_off15 k 1 ≤ _ ∧ _ < k1_off15 k 1 + 256; rw [k1_off15_eq]; show 256 * k.val ≤ (y 1 : ℕ) ∧ (y 1 : ℕ) < 256 * k.val + 256; omega))
  · refine exists_of_get _ 1 (by exact (show 1 < 16 by decide)) y ?_; exact (mem_unit2 rfl (inb := k1_off16_inb k) y (by show k1_off16 k 0 ≤ _ ∧ _ < k1_off16 k 0 + 32; rw [k1_off16_eq]; show 448 ≤ (y 0 : ℕ) ∧ (y 0 : ℕ) < 448 + 32; omega) (by show k1_off16 k 1 ≤ _ ∧ _ < k1_off16 k 1 + 256; rw [k1_off16_eq]; show 256 * k.val ≤ (y 1 : ℕ) ∧ (y 1 : ℕ) < 256 * k.val + 256; omega))
  · refine exists_of_get _ 0 (by exact (show 0 < 16 by decide)) y ?_; exact (mem_unit2 rfl (inb := k1_off17_inb k) y (by show k1_off17 k 0 ≤ _ ∧ _ < k1_off17 k 0 + 32; rw [k1_off17_eq]; show 480 ≤ (y 0 : ℕ) ∧ (y 0 : ℕ) < 480 + 32; omega) (by show k1_off17 k 1 ≤ _ ∧ _ < k1_off17 k 1 + 256; rw [k1_off17_eq]; show 256 * k.val ≤ (y 1 : ℕ) ∧ (y 1 : ℕ) < 256 * k.val + 256; omega))

/-- All the trips together fill it. -/
theorem coverAll1_codes (g5 : BufTy.Contents (Elt F) arg5.view.ty) (g6 : BufTy.Contents (Elt F) arg6.view.ty) (g7 : BufTy.Contents (Elt F) arg7.view.ty) (g8 : BufTy.Contents (Elt F) arg8.view.ty) (y : S512x1024.Idx) :
    ∃ p ∈ (pb_k1_t1 (F := F) 𝒱 c bd i arg2 harg2 arg3 harg3 arg4 harg4 arg5 harg5 arg6 harg6 arg7 harg7 arg8 harg8 X g5 g6 g7 g8 k1_t1_loop.trips).1, y ∈ p.1.set := by
  have hy : (y 1 : ℕ) < 1024 := (y 1).isLt
  have hT : k1_t1_loop.trips = 4 := by decide
  obtain ⟨p, hp, hm⟩ := cover1_codes 𝒱 c bd i arg2 harg2 arg3 harg3 arg4 harg4 arg5 harg5 arg6 harg6 arg7 harg7 arg8 harg8 X ⟨(y 1 : ℕ) / 256, by rw [hT]; omega⟩ g5 g6 g7 g8 y rfl
  exact ⟨p, (mem_pb1 𝒱 c bd i arg2 harg2 arg3 harg3 arg4 harg4 arg5 harg5 arg6 harg6 arg7 harg7 arg8 harg8 X _ _ (by show (y 1 : ℕ) / 256 < k1_t1_loop.trips; rw [hT]; omega) le_rfl g5 g6 g7 g8 g5 g6 g7 g8).1 p hp, hm⟩

/-- All the trips together fill it. -/
theorem coverAll1_scale (g5 : BufTy.Contents (Elt F) arg5.view.ty) (g6 : BufTy.Contents (Elt F) arg6.view.ty) (g7 : BufTy.Contents (Elt F) arg7.view.ty) (g8 : BufTy.Contents (Elt F) arg8.view.ty) (y : S16x1024.Idx) :
    ∃ p ∈ (pb_k1_t1 (F := F) 𝒱 c bd i arg2 harg2 arg3 harg3 arg4 harg4 arg5 harg5 arg6 harg6 arg7 harg7 arg8 harg8 X g5 g6 g7 g8 k1_t1_loop.trips).2.1, y ∈ p.1.set := by
  have hy : (y 1 : ℕ) < 1024 := (y 1).isLt
  have hT : k1_t1_loop.trips = 4 := by decide
  obtain ⟨p, hp, hm⟩ := cover1_scale 𝒱 c bd i arg2 harg2 arg3 harg3 arg4 harg4 arg5 harg5 arg6 harg6 arg7 harg7 arg8 harg8 X ⟨(y 1 : ℕ) / 256, by rw [hT]; omega⟩ g5 g6 g7 g8 y rfl
  exact ⟨p, (mem_pb1 𝒱 c bd i arg2 harg2 arg3 harg3 arg4 harg4 arg5 harg5 arg6 harg6 arg7 harg7 arg8 harg8 X _ _ (by show (y 1 : ℕ) / 256 < k1_t1_loop.trips; rw [hT]; omega) le_rfl g5 g6 g7 g8 g5 g6 g7 g8).2.1 p hp, hm⟩

/-- All the trips together fill it. -/
theorem coverAll1_hat (g5 : BufTy.Contents (Elt F) arg5.view.ty) (g6 : BufTy.Contents (Elt F) arg6.view.ty) (g7 : BufTy.Contents (Elt F) arg7.view.ty) (g8 : BufTy.Contents (Elt F) arg8.view.ty) (y : S512x1024.Idx) :
    ∃ p ∈ (pb_k1_t1 (F := F) 𝒱 c bd i arg2 harg2 arg3 harg3 arg4 harg4 arg5 harg5 arg6 harg6 arg7 harg7 arg8 harg8 X g5 g6 g7 g8 k1_t1_loop.trips).2.2.2, y ∈ p.1.set := by
  have hy : (y 1 : ℕ) < 1024 := (y 1).isLt
  have hT : k1_t1_loop.trips = 4 := by decide
  obtain ⟨p, hp, hm⟩ := cover1_hat 𝒱 c bd i arg2 harg2 arg3 harg3 arg4 harg4 arg5 harg5 arg6 harg6 arg7 harg7 arg8 harg8 X ⟨(y 1 : ℕ) / 256, by rw [hT]; omega⟩ g5 g6 g7 g8 y rfl
  exact ⟨p, (mem_pb1 𝒱 c bd i arg2 harg2 arg3 harg3 arg4 harg4 arg5 harg5 arg6 harg6 arg7 harg7 arg8 harg8 X _ _ (by show (y 1 : ℕ) / 256 < k1_t1_loop.trips; rw [hT]; omega) le_rfl g5 g6 g7 g8 g5 g6 g7 g8).2.2.2 p hp, hm⟩

end K1

end Cert.Proof.Bits

end
-- ==== Proof.Bits.Body.lean ====
/-
  One run of each kernel's body on whole buffers: what it leaves in each output, as a function of the blocks it read.
  Nothing here looks inside the arithmetic.
-/
module

public import proofs.«01_k».proof.Proof.Bits.Trips
public import Idealize.ShloMosaic.Lib.VecWindow

@[expose] public section

set_option maxRecDepth 16384

noncomputable section

namespace Cert.Proof.Bits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- A whole buffer's contents that read as `x`. -/
def ofRead {sp : Space} {s : Shape} {e : EltTy} (m : Memref sig .tc sp s e) (x : s.Idx → Elt F e) : BufTy.Contents (Elt F) m.view.ty :=
  m.view.write (Elt F) m.view.junk x Finset.univ

theorem ofRead_read {sp : Space} {s : Shape} {e : EltTy} (m : Memref sig .tc sp s e) (h : m.IsWhole) (f : BufTy.Contents (Elt F) m.view.ty) :
    ofRead m (m.view.read (Elt F) f) = f := by
  obtain ⟨b, rfl, rfl, rfl, h⟩ := h; cases h
  exact View.write_whole_univ b _ _

theorem read_ofRead {sp : Space} {s : Shape} {e : EltTy} (m : Memref sig .tc sp s e) (h : m.IsWhole) (x : s.Idx → Elt F e) :
    m.view.read (Elt F) (ofRead m x) = x := by
  obtain ⟨b, rfl, rfl, rfl, h⟩ := h; cases h
  exact View.write_whole_univ b _ _

/-! ## Kernel 0 -/

section K0

variable (c : Dev nD) (i : grid0.Coords) (arg1 : Memref sig .tc .vmem S512x4096 .bf16) (harg1 : arg1.IsWhole) (arg2 : Memref sig .tc .vmem S512x4096 .fp8e4m3) (harg2 : arg2.IsWhole) (arg3 : Memref sig .tc .vmem S16x4096 .f32) (harg3 : arg3.IsWhole) (arg4 : Memref sig .tc .vmem S1x4096x512 .bf16) (harg4 : arg4.IsWhole) (arg5 : Memref sig .tc .vmem S2x8x256 .i32) (harg5 : arg5.IsWhole) (arg6 : Memref sig .tc .vmem S256x256 .bf16) (harg6 : arg6.IsWhole)

/-- All the pieces the loop writes over the block `x`. -/
def pieces0 (x : Vec F S512x4096 .bf16) :=
  pb_k0_t1 (F := F) Variants.none c none i arg1 harg1 arg2 harg2 arg3 harg3 arg4 harg4 arg5 harg5 arg6 harg6 (ofRead arg1 x) arg2.view.junk arg3.view.junk arg4.view.junk arg5.view.junk arg6.view.junk k0_t1_loop.trips

/-- The codes, the scales and the transposed dequantised block it leaves. -/
def codes0 (x : Vec F S512x4096 .bf16) : Vec F S512x4096 .fp8e4m3 := View.canon (pieces0 c i arg1 harg1 arg2 harg2 arg3 harg3 arg4 harg4 arg5 harg5 arg6 harg6 x).1
def scale0 (x : Vec F S512x4096 .bf16) : Vec F S16x4096 .f32 := View.canon (pieces0 c i arg1 harg1 arg2 harg2 arg3 harg3 arg4 harg4 arg5 harg5 arg6 harg6 x).2.1
def xt0 (x : Vec F S512x4096 .bf16) : Vec F S1x4096x512 .bf16 := View.canon (pieces0 c i arg1 harg1 arg2 harg2 arg3 harg3 arg4 harg4 arg5 harg5 arg6 harg6 x).2.2.1

/-- The body of kernel 0 on whole buffers. -/
theorem sound_kernel0 (E : Set ℕ) (x : Vec F S512x4096 .bf16) (K : PUnit → sProp 𝕄) :
    iprop(owns (c : Thread nD τ) arg1 fullShare x ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x ∗ owns (c : Thread nD τ) arg2 fullShare (codes0 c i arg1 harg1 arg2 harg2 arg3 harg3 arg4 harg4 arg5 harg5 arg6 harg6 x) ∗ owns (c : Thread nD τ) arg3 fullShare (scale0 c i arg1 harg1 arg2 harg2 arg3 harg3 arg4 harg4 arg5 harg5 arg6 harg6 x) ∗ owns (c : Thread nD τ) arg4 fullShare (xt0 c i arg1 harg1 arg2 harg2 arg3 harg3 arg4 harg4 arg5 harg5 arg6 harg6 x) ∗ (∃ d, owns (c : Thread nD τ) arg5 fullShare d) ∗ (∃ d, owns (c : Thread nD τ) arg6 fullShare d)) -∗ K ⟨⟩))
      ⊢ wp frame (wpE (defs₀ (F := F)) Variants.none c none) E (cc0_quantise_x i arg1 harg1 arg2 harg2 arg3 harg3 arg4 harg4 arg5 harg5 arg6 harg6) K := by
  simp only [cc0_quantise_x_eq_skeleton]; unfold cc0_quantise_x_skel
  unfold owns
  iintro ⟨⟨%f1, %hf1, H1⟩, ⟨%d2, %f2, -, H2⟩, ⟨%d3, %f3, -, H3⟩, ⟨%d4, %f4, -, H4⟩, ⟨%d5, %f5, -, H5⟩, ⟨%d6, %f6, -, H6⟩, Hk⟩
  subst hf1
  sl_exec
  sl_step
  have hp : pb_k0_t1 (F := F) Variants.none c none i arg1 harg1 arg2 harg2 arg3 harg3 arg4 harg4 arg5 harg5 arg6 harg6 f1 f2 f3 f4 f5 f6 k0_t1_loop.trips = pieces0 c i arg1 harg1 arg2 harg2 arg3 harg3 arg4 harg4 arg5 harg5 arg6 harg6 (arg1.view.read (Elt F) f1) := by
    unfold pieces0; rw [ofRead_read arg1 harg1]; exact pb0_indep _ _ _ _ _ _ _ _ _ _ _ _ _ _ _ _ _ _ _ _ _ _ _ _ _ _ _ _
  rw [hp]
  iapply Hk
  isplitl [H1]
  · iexists f1; isplitr; · ipureintro; rfl
    iexact H1
  isplitl [H2]
  · iexists _; isplitr
    swap; · iexact H2
    ipureintro
    exact View.read_writes_eq_canon _ _ _ (coverAll0_codes _ _ _ _ _ _ _ _ _ _ _ _ _ _ _ _ _ _ _ _ _ _)
  isplitl [H3]
  · iexists _; isplitr
    swap; · iexact H3
    ipureintro
    exact View.read_writes_eq_canon _ _ _ (coverAll0_scale _ _ _ _ _ _ _ _ _ _ _ _ _ _ _ _ _ _ _ _ _ _)
  isplitl [H4]
  · iexists _; isplitr
    swap; · iexact H4
    ipureintro
    exact View.read_writes_eq_canon _ _ _ (coverAll0_xt _ _ _ _ _ _ _ _ _ _ _ _ _ _ _ _ _ _ _ _ _ _)
  isplitl [H5]
  · iexists _; iexists _; isplitr
    swap; · iexact H5
    ipureintro; rfl
  iexists _; iexists _; isplitr
  swap; · iexact H6
  ipureintro; rfl

end K0

/-! ## Kernel 1 -/

section K1

variable (c : Dev nD) (i : grid1.Coords) (arg2 : Memref sig .tc .vmem S1x4096x512 .bf16) (harg2 : arg2.IsWhole) (arg3 : Memref sig .tc .vmem S512x1024 .bf16) (harg3 : arg3.IsWhole) (arg4 : Memref sig .tc .vmem S4096x1024 .f32) (harg4 : arg4.IsWhole) (arg5 : Memref sig .tc .vmem S512x1024 .fp8e5m2) (harg5 : arg5.IsWhole) (arg6 : Memref sig .tc .vmem S16x1024 .f32) (harg6 : arg6.IsWhole) (arg7 : Memref sig .tc .vmem S2x8x256 .i32) (harg7 : arg7.IsWhole) (arg8 : Memref sig .tc .vmem S512x1024 .bf16) (harg8 : arg8.IsWhole)

/-- All the pieces the loop writes over the block `y`. -/
def pieces1 (y : Vec F S512x1024 .bf16) :=
  pb_k1_t1 (F := F) Variants.none c none i arg2 harg2 arg3 harg3 arg4 harg4 arg5 harg5 arg6 harg6 arg7 harg7 arg8 harg8 (ofRead arg3 y) arg5.view.junk arg6.view.junk arg7.view.junk arg8.view.junk k1_t1_loop.trips

/-- The codes, the scales and the dequantised block it leaves. -/
def codes1 (y : Vec F S512x1024 .bf16) : Vec F S512x1024 .fp8e5m2 := View.canon (pieces1 c i arg2 harg2 arg3 harg3 arg4 harg4 arg5 harg5 arg6 harg6 arg7 harg7 arg8 harg8 y).1
def scale1 (y : Vec F S512x1024 .bf16) : Vec F S16x1024 .f32 := View.canon (pieces1 c i arg2 harg2 arg3 harg3 arg4 harg4 arg5 harg5 arg6 harg6 arg7 harg7 arg8 harg8 y).2.1
def hat1 (y : Vec F S512x1024 .bf16) : Vec F S512x1024 .bf16 := View.canon (pieces1 c i arg2 harg2 arg3 harg3 arg4 harg4 arg5 harg5 arg6 harg6 arg7 harg7 arg8 harg8 y).2.2.2

/-- The product accumulated: over nothing at the first chunk of tokens, over what the chunk before left after it. -/
def dw1 (xt : Vec F S1x4096x512 .bf16) (y : Vec F S512x1024 .bf16) (prev : Vec F S4096x1024 .f32) : Vec F S4096x1024 .f32 :=
  k1_pay3 (if (i 1).val = 0 then k1_pay1 else prev) xt (hat1 c i arg2 harg2 arg3 harg3 arg4 harg4 arg5 harg5 arg6 harg6 arg7 harg7 arg8 harg8 y)

/-- The condition of the kernel's first branch, decided by the second grid coordinate. -/
theorem cond1 : Scalar.cmpi .ne (Scalar.extui (Scalar.cmpi .eq (BitVec.ofNat 32 (i 1).val) 0#32) : BitVec 32) 0#32 = 1#1 ↔ (i 1).val = 0 := by
  have h : ∀ n : Fin 48, Scalar.cmpi .ne (Scalar.extui (Scalar.cmpi .eq (BitVec.ofNat 32 n.val) 0#32) : BitVec 32) 0#32 = 1#1 ↔ n.val = 0 := by decide +kernel
  exact h (i 1)

/-- The body of kernel 1 on whole buffers. -/
theorem sound_kernel1 (E : Set ℕ) (xt : Vec F S1x4096x512 .bf16) (y : Vec F S512x1024 .bf16) (prev : Vec F S4096x1024 .f32) (K : PUnit → sProp 𝕄) :
    iprop(owns (c : Thread nD τ) arg2 fullShare xt ∗ owns (c : Thread nD τ) arg3 fullShare y ∗ owns (c : Thread nD τ) arg4 fullShare prev ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare xt ∗ owns (c : Thread nD τ) arg3 fullShare y ∗ owns (c : Thread nD τ) arg4 fullShare (dw1 c i arg2 harg2 arg3 harg3 arg4 harg4 arg5 harg5 arg6 harg6 arg7 harg7 arg8 harg8 xt y prev) ∗ owns (c : Thread nD τ) arg5 fullShare (codes1 c i arg2 harg2 arg3 harg3 arg4 harg4 arg5 harg5 arg6 harg6 arg7 harg7 arg8 harg8 y) ∗ owns (c : Thread nD τ) arg6 fullShare (scale1 c i arg2 harg2 arg3 harg3 arg4 harg4 arg5 harg5 arg6 harg6 arg7 harg7 arg8 harg8 y) ∗ (∃ d, owns (c : Thread nD τ) arg7 fullShare d) ∗ (∃ d, owns (c : Thread nD τ) arg8 fullShare d)) -∗ K ⟨⟩))
      ⊢ wp frame (wpE (defs₀ (F := F)) Variants.none c none) E (cc1_quantise_dy_dw i arg2 harg2 arg3 harg3 arg4 harg4 arg5 harg5 arg6 harg6 arg7 harg7 arg8 harg8) K := by
  simp only [cc1_quantise_dy_dw_eq_skeleton]; unfold cc1_quantise_dy_dw_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  subst hf2 hf3 hf4
  have hp : pb_k1_t1 (F := F) Variants.none c none i arg2 harg2 arg3 harg3 arg4 harg4 arg5 harg5 arg6 harg6 arg7 harg7 arg8 harg8 f3 f5 f6 f7 f8 k1_t1_loop.trips = pieces1 c i arg2 harg2 arg3 harg3 arg4 harg4 arg5 harg5 arg6 harg6 arg7 harg7 arg8 harg8 (arg3.view.read (Elt F) f3) := by
    unfold pieces1; rw [ofRead_read arg3 harg3]; exact pb1_indep _ _ _ _ _ _ _ _ _ _ _ _ _ _ _ _ _ _ _ _ _ _ _ _ _ _ _ _
  have hhat : View.readAt (Elt F) arg8.view (Rect.unit ![0, 0] S512x1024.size inb_S512x1024_S512x1024_0_0).toLoadRect
      (arg8.view.writes (Elt F) f8 (pb_k1_t1 Variants.none c none i arg2 harg2 arg3 harg3 arg4 harg4 arg5 harg5 arg6 harg6 arg7 harg7 arg8 harg8 f3 f5 f6 f7 f8 k1_t1_loop.trips).2.2.2) = hat1 c i arg2 harg2 arg3 harg3 arg4 harg4 arg5 harg5 arg6 harg6 arg7 harg7 arg8 harg8 (arg3.view.read (Elt F) f3) := by
    rw [View.readAt_full, hp]
    exact View.read_writes_eq_canon _ _ _ (coverAll1_hat _ _ _ _ _ _ _ _ _ _ _ _ _ _ _ _ _ _ _ _ _ _ _)
  by_cases hi : (i 1).val = 0
  · have hc := cond1 i |>.2 hi
    sl_exec
    sl_step
    iapply Hk
    isplitl [H2]
    · iexists f2; isplitr; · ipureintro; rfl
      iexact H2
    isplitl [H3]
    · iexists f3; isplitr; · ipureintro; rfl
      iexact H3
    isplitl [H4]
    · iexists _; isplitr
      swap; · iexact H4
      ipureintro
      rw [View.read_writes_full]
      unfold dw1
      rw [if_pos hi]
      refine congr (congr (congrArg k1_pay3 ?_) ?_) ?_
      · unfold sound_kernel1.sl.v4; exact View.readCov_full _ _ _ _ _
      · exact View.readAt_full _ _ _
      · rfl
    isplitl [H5]
    · iexists _; isplitr
      swap; · iexact H5
      ipureintro
      exact (congrArg (fun P => arg5.view.read (Elt F) (arg5.view.writes (Elt F) f5 P)) (congrArg Prod.fst hp)).trans (View.read_writes_eq_canon _ _ _ (coverAll1_codes _ _ _ _ _ _ _ _ _ _ _ _ _ _ _ _ _ _ _ _ _ _ _))
    isplitl [H6]
    · iexists _; isplitr
      swap; · iexact H6
      ipureintro
      exact (congrArg (fun P => arg6.view.read (Elt F) (arg6.view.writes (Elt F) f6 P)) (congrArg (fun q => q.2.1) hp)).trans (View.read_writes_eq_canon _ _ _ (coverAll1_scale _ _ _ _ _ _ _ _ _ _ _ _ _ _ _ _ _ _ _ _ _ _ _))
    isplitl [H7]
    · iexists _; iexists _; isplitr
      swap; · iexact H7
      ipureintro; rfl
    iexists _; iexists _; isplitr
    swap; · iexact H8
    ipureintro; rfl
  · have hc := mt (cond1 i).1 hi
    sl_exec
    sl_step
    iapply Hk
    isplitl [H2]
    · iexists f2; isplitr; · ipureintro; rfl
      iexact H2
    isplitl [H3]
    · iexists f3; isplitr; · ipureintro; rfl
      iexact H3
    isplitl [H4]
    · iexists _; isplitr
      swap; · iexact H4
      ipureintro
      rw [View.read_writes_full]
      unfold dw1
      rw [if_neg hi]
      refine congr (congr (congrArg k1_pay3 ?_) ?_) ?_
      · exact View.readAt_full _ _ _
      · exact View.readAt_full _ _ _
      · rfl
    isplitl [H5]
    · iexists _; isplitr
      swap; · iexact H5
      ipureintro
      exact (congrArg (fun P => arg5.view.read (Elt F) (arg5.view.writes (Elt F) f5 P)) (congrArg Prod.fst hp)).trans (View.read_writes_eq_canon _ _ _ (coverAll1_codes _ _ _ _ _ _ _ _ _ _ _ _ _ _ _ _ _ _ _ _ _ _ _))
    isplitl [H6]
    · iexists _; isplitr
      swap; · iexact H6
      ipureintro
      exact (congrArg (fun P => arg6.view.read (Elt F) (arg6.view.writes (Elt F) f6 P)) (congrArg (fun q => q.2.1) hp)).trans (View.read_writes_eq_canon _ _ _ (coverAll1_scale _ _ _ _ _ _ _ _ _ _ _ _ _ _ _ _ _ _ _ _ _ _ _))
    isplitl [H7]
    · iexists _; iexists _; isplitr
      swap; · iexact H7
      ipureintro; rfl
    iexists _; iexists _; isplitr
    swap; · iexact H8
    ipureintro; rfl

end K1

end Cert.Proof.Bits

end
-- ==== Proof.Bits.Region.lean ====
/-
  The two kernels' regions: their proof data from any contents at entry, the body obligations, and the records the
  launch takes.
-/
module

public import proofs.«01_k».proof.Proof.Bits.Body
public import proofs.«01_k».proof.Proof.Gen.Kernel.Points
public import proofs.«01_k».proof.Proof.Gen.Kernel.Regions
public import Idealize.ShloMosaic.Lib.Pipeline.RegionsLoop

@[expose] public section

set_option maxRecDepth 16384

noncomputable section

namespace Cert.Proof.Bits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (UR sig nD τ) ℕ

/-- The buffers' contents when a region is entered, core by core. -/
abbrev Entry (F : FTy → Type) := Dev nD → Valuation τ sig (Elt F)

abbrev 𝒱₀ : Variants := Variants.none
/-- No core owes another anything: no level is assigned. -/
abbrev L : GSem nD τ sig → Finset Unit := fun _ => ∅
abbrev lv : GSem nD τ sig → Unit → ℕ := fun _ _ => 0

variable (V : Entry F)

/-! ## Region 0 -/

/-- The block of `x` the body reads at point `t`. -/
def xblk (c : Dev nD) (t : Fin cfg0.N) : Vec F S512x4096 .bf16 :=
  ((cfg0.win 0).blk t).view.read (Elt F) (V c (Pipeline.arrRef spec0 0))

/-- What the body leaves at point `t`. -/
def codesAt0 (c : Dev nD) (t : Fin cfg0.N) : Vec F S512x4096 .fp8e4m3 :=
  codes0 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) (Memref.whole cc0_scratch1) (Memref.isWhole_whole _) (xblk V c t)
def scaleAt0 (c : Dev nD) (t : Fin cfg0.N) : Vec F S16x4096 .f32 :=
  scale0 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) (Memref.whole cc0_scratch1) (Memref.isWhole_whole _) (xblk V c t)
def xtAt0 (c : Dev nD) (t : Fin cfg0.N) : Vec F S1x4096x512 .bf16 :=
  xt0 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) (Memref.whole cc0_scratch1) (Memref.isWhole_whole _) (xblk V c t)

/-- The proof data of region 0 entered at `V`. -/
def dat0 (c : Dev nD) : Dat τ (Elt F) Unit ℕ (UR sig nD τ) ℕ cfg0 c where
  A w := V c (Pipeline.arrRef spec0 w)
  after w t := match w with
    | ⟨0, _⟩ => xblk V c t
    | ⟨1, _⟩ => codesAt0 V c t
    | ⟨2, _⟩ => scaleAt0 V c t
    | ⟨3, _⟩ => xtAt0 V c t
  Φ _ := Pipeline.scopedRest (Ix := Unit) (Name := ℕ) (U := UR sig nD τ) (Lvl := ℕ) (Val := Elt F) spec0 c
  q _ := fullShare
  owed _ := 0

theorem after0_0 (c : Dev nD) (t : Fin cfg0.N) : (dat0 V c).after 0 t = xblk V c t := by dsimp only [dat0]
theorem after0_1 (c : Dev nD) (t : Fin cfg0.N) : (dat0 V c).after 1 t = codesAt0 V c t := by dsimp only [dat0]
theorem after0_2 (c : Dev nD) (t : Fin cfg0.N) : (dat0 V c).after 2 t = scaleAt0 V c t := by dsimp only [dat0]
theorem after0_3 (c : Dev nD) (t : Fin cfg0.N) : (dat0 V c).after 3 t = xtAt0 V c t := by dsimp only [dat0]

/-- The fetched buffer holds the block when the body runs. -/
theorem before0_0 (c : Dev nD) (t : Fin cfg0.N) (d) : (dat0 V c).before 0 t d = xblk V c t := by
  unfold Dat.before; rw [if_pos (fetch0_0 t)]; rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = Pipeline.scopedRest (Ix := Unit) (Name := ℕ) (U := UR sig nD τ) (Lvl := ℕ) (Val := Elt F) spec0 c from rfl,
    show (dat0 V c).Φ t.castSucc = Pipeline.scopedRest (Ix := Unit) (Name := ℕ) (U := UR sig nD τ) (Lvl := ℕ) (Val := Elt F) spec0 c from rfl,
    show (dat0 V c).owesAt () t.succ = (dat0 V c).owesAt () t.castSucc from rfl,
    after0_0, after0_1, after0_2, after0_3, scopedRest0_eq]
  iintro ⟨⟨⟨%s0, S0⟩, ⟨%s1, S1⟩, HΦ⟩, Ho, ⟨%d0, H0⟩, ⟨%d1, H1⟩, ⟨%d2, H2⟩, ⟨%d3, H3⟩⟩
  iapply (sound_kernel0 c _ _ _ _ _ _ _ _ _ _ _ _ _ Set.univ (xblk V c t) _)
  isplitl [H0]; · iexact H0
  isplitl [H1]; · iexists _; iexact H1
  isplitl [H2]; · iexists _; iexact H2
  isplitl [H3]; · iexists _; iexact H3
  isplitl [S0]
  · iexists _; rw [owns_whole_eq]; iexists s0; isplitr; swap; (· iexact S0); ipureintro; rfl
  isplitl [S1]
  · iexists _; rw [owns_whole_eq]; iexists s1; isplitr; swap; (· iexact S1); ipureintro; rfl
  simp only [owns_whole_eq]
  iintro ⟨H0, H1, H2, H3, ⟨%e0, %g0, -, S0⟩, ⟨%e1, %g1, -, S1⟩⟩
  isplitl [HΦ S0 S1]
  · isplitl [S0]; · iexists _; iexact S0
    isplitl [S1]; · iexists _; iexact S1
    iexact HΦ
  isplitl [Ho]; · iexact Ho
  isplitl [H0]; · iexact H0
  isplitl [H1]; · iexact H1
  isplitl [H2]; · iexact H2
  iexact H3

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 V c) (defs₀ (F := F)) Variants.none () Set.univ := fun t => by
  rw [bigSep_W0, bigSep_W0, defs₀_row0]
  exact triple_restated (sound_body0 V c t) rfl .rfl fun _ => .rfl

/-! ## Region 1 -/

/-- The blocks the body reads at point `t`: the transposed dequantised `x`, and `dy`. -/
def xtblk (c : Dev nD) (t : Fin cfg1.N) : Vec F S1x4096x512 .bf16 :=
  ((cfg1.win 0).blk t).view.read (Elt F) (V c (Pipeline.arrRef spec1 0))
def dyblk (c : Dev nD) (t : Fin cfg1.N) : Vec F S512x1024 .bf16 :=
  ((cfg1.win 1).blk t).view.read (Elt F) (V c (Pipeline.arrRef spec1 1))

/-- What the body leaves at point `t`. -/
def codesAt1 (c : Dev nD) (t : Fin cfg1.N) : Vec F S512x1024 .fp8e5m2 :=
  codes1 c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (Memref.whole cc1_scratch0) (Memref.isWhole_whole _) (Memref.whole cc1_scratch1) (Memref.isWhole_whole _) (dyblk V c t)
def scaleAt1 (c : Dev nD) (t : Fin cfg1.N) : Vec F S16x1024 .f32 :=
  scale1 c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (Memref.whole cc1_scratch0) (Memref.isWhole_whole _) (Memref.whole cc1_scratch1) (Memref.isWhole_whole _) (dyblk V c t)
def dwAt1 (c : Dev nD) (t : Fin cfg1.N) (prev : Vec F S4096x1024 .f32) : Vec F S4096x1024 .f32 :=
  dw1 c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (Memref.whole cc1_scratch0) (Memref.isWhole_whole _) (Memref.whole cc1_scratch1) (Memref.isWhole_whole _) (xtblk V c t) (dyblk V c t) prev

/-- The second grid coordinate of a point. -/
theorem coords1_1 : ∀ t : Fin cfg1.N, (grid1.coords t 1).val = t.val % 48 := by decide +kernel

/-- At the first chunk of a column block nothing is accumulated over. -/
theorem dwAt1_reset (c : Dev nD) (t : Fin cfg1.N) (h : t.val % 48 = 0) (p q : Vec F S4096x1024 .f32) : dwAt1 V c t p = dwAt1 V c t q := by
  unfold dwAt1 dw1; rw [if_pos ((coords1_1 t).trans h), if_pos ((coords1_1 t).trans h)]

/-- The product accumulated up to point `n`. -/
def accAt (c : Dev nD) : (n : ℕ) → n < cfg1.N → Vec F S4096x1024 .f32
  | 0, h => dwAt1 V c ⟨0, h⟩ (k1_pay1 (F := F))
  | n + 1, h => dwAt1 V c ⟨n + 1, h⟩ (accAt c n (Nat.lt_of_succ_lt h))

/-- The proof data of region 1 entered at `V`. -/
def dat1 (c : Dev nD) : Dat τ (Elt F) Unit ℕ (UR sig nD τ) ℕ cfg1 c where
  A w := V c (Pipeline.arrRef spec1 w)
  after w t := match w with
    | ⟨0, _⟩ => xtblk V c t
    | ⟨1, _⟩ => dyblk V c t
    | ⟨2, _⟩ => accAt V c t.val t.isLt
    | ⟨3, _⟩ => codesAt1 V c t
    | ⟨4, _⟩ => scaleAt1 V c t
  Φ _ := Pipeline.scopedRest (Ix := Unit) (Name := ℕ) (U := UR sig nD τ) (Lvl := ℕ) (Val := Elt F) spec1 c
  q _ := fullShare
  owed _ := 0

theorem after1_0 (c : Dev nD) (t : Fin cfg1.N) : (dat1 V c).after 0 t = xtblk V c t := by dsimp only [dat1]
theorem after1_1 (c : Dev nD) (t : Fin cfg1.N) : (dat1 V c).after 1 t = dyblk V c t := by dsimp only [dat1]
theorem after1_2 (c : Dev nD) (t : Fin cfg1.N) : (dat1 V c).after 2 t = accAt V c t.val t.isLt := by dsimp only [dat1]
theorem after1_3 (c : Dev nD) (t : Fin cfg1.N) : (dat1 V c).after 3 t = codesAt1 V c t := by dsimp only [dat1]
theorem after1_4 (c : Dev nD) (t : Fin cfg1.N) : (dat1 V c).after 4 t = scaleAt1 V c t := by dsimp only [dat1]

/-- The fetched buffers hold their blocks when the body runs. -/
theorem before1_0 (c : Dev nD) (t : Fin cfg1.N) (d) : (dat1 V c).before 0 t d = xtblk V c t := by
  unfold Dat.before; rw [if_pos (fetch1_0 t)]; rfl
theorem before1_1 (c : Dev nD) (t : Fin cfg1.N) (d) : (dat1 V c).before 1 t d = dyblk V c t := by
  unfold Dat.before; rw [if_pos (fetch1_1 t)]; rfl

/-- Over what the accumulator's buffer holds when the body runs, it leaves what `accAt` says. -/
theorem dw_before (c : Dev nD) (t : Fin cfg1.N) (d) : dwAt1 V c t ((dat1 V c).before 2 t d) = accAt V c t.val t.isLt := by
  obtain ⟨n, hn⟩ := t
  cases n with
  | zero => unfold accAt; exact dwAt1_reset V c _ rfl _ _
  | succ n =>
    rw [accAt]
    by_cases h : (n + 1) % 48 = 0
    · exact dwAt1_reset V c _ h _ _
    · congr 1
      unfold Dat.before
      have hfl : (cfg1.win 2).flush ⟨n, Nat.lt_of_succ_lt hn⟩ = false := by
        rw [Bool.eq_false_iff]; intro hf; have := (flush1_2 _).1 hf; simp only at this; omega
      rw [if_neg (by rw [show (cfg1.win 2).fetch ⟨n + 1, hn⟩ = false from rfl]; decide), if_neg (by simp)]
      simp only [Nat.add_sub_cancel]
      rw [if_neg (by rw [hfl]; decide)]
      exact after1_2 V c ⟨n, Nat.lt_of_succ_lt hn⟩

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = Pipeline.scopedRest (Ix := Unit) (Name := ℕ) (U := UR sig nD τ) (Lvl := ℕ) (Val := Elt F) spec1 c from rfl,
    show (dat1 V c).Φ t.castSucc = Pipeline.scopedRest (Ix := Unit) (Name := ℕ) (U := UR sig nD τ) (Lvl := ℕ) (Val := Elt F) spec1 c from rfl,
    show (dat1 V c).owesAt () t.succ = (dat1 V c).owesAt () t.castSucc from rfl,
    after1_0, after1_1, after1_2, after1_3, after1_4, scopedRest1_eq]
  iintro ⟨⟨Q0, Q1, Q2, Q3, Q4, Q5, Q6, Q7, Q8, Q9, ⟨%s0, S0⟩, ⟨%s1, S1⟩⟩, Ho, ⟨%d0, H0⟩, ⟨%d1, H1⟩, ⟨%d2, H2⟩, ⟨%d3, H3⟩, ⟨%d4, H4⟩⟩
  rw [← dw_before V c t d2]
  iapply (sound_kernel1 c _ _ _ _ _ _ _ _ _ _ _ _ _ _ _ Set.univ (xtblk V c t) (dyblk V c t) ((dat1 V c).before 2 t d2) _)
  isplitl [H0]; · iexact H0
  isplitl [H1]; · iexact H1
  isplitl [H2]; · iexact H2
  isplitl [H3]; · iexists _; iexact H3
  isplitl [H4]; · iexists _; iexact H4
  isplitl [S0]
  · iexists _; rw [owns_whole_eq]; iexists s0; isplitr; swap; (· iexact S0); ipureintro; rfl
  isplitl [S1]
  · iexists _; rw [owns_whole_eq]; iexists s1; isplitr; swap; (· iexact S1); ipureintro; rfl
  simp only [owns_whole_eq]
  iintro ⟨H0, H1, H2, H3, H4, ⟨%e0, %g0, -, S0⟩, ⟨%e1, %g1, -, S1⟩⟩
  isplitl [Q0 Q1 Q2 Q3 Q4 Q5 Q6 Q7 Q8 Q9 S0 S1]
  · isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [S0]; · iexists _; iexact S0
    iexists _; iexact S1
  isplitl [Ho]; · iexact Ho
  isplitl [H0]; · iexact H0
  isplitl [H1]; · iexact H1
  isplitl [H2]; · iexact H2
  isplitl [H3]; · iexact H3
  iexact H4

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 V c) (defs₀ (F := F)) Variants.none () Set.univ := fun t => by
  rw [bigSep_W1, bigSep_W1, defs₀_row1]
  exact triple_restated (sound_body1 V c t) rfl .rfl fun _ => .rfl

/-! ## The records the launch takes -/

/-- The two regions' proof data, each from its own entry contents. -/
def pdats (V W : Entry F) : (p : Fin 2) → (c : Dev nD) → Dat τ (Elt F) Unit ℕ (UR sig nD τ) ℕ (cfgs p) c
  | ⟨0, _⟩ => fun c => dat0 V c
  | ⟨1, _⟩ => fun c => dat1 W c

/-- What rides along beside the buffers: the core owes nothing. -/
abbrev Rest (c : Dev nD) : sProp 𝕄 := iprop(∃ W, owes (c : Thread nD τ) (0 : CellTallies nD τ sig Unit) W)

set_option backward.isDefEq.respectTransparency.types false in
/-- Region 0, entered with the unscoped buffers at its entry contents and left with them at `Vp`, which has its results'
    arrays as the region computes them and agrees with the entry contents elsewhere. -/
def reg0 (V W Vp : Entry F)
    (h1 : ∀ c, Vp c main_v2_0 = (pdats V W 0 c).arrAt 1 cfg0.N)
    (h2 : ∀ c, Vp c main_v2_1 = (pdats V W 0 c).arrAt 2 cfg0.N)
    (h3 : ∀ c, Vp c main_v2_2 = (pdats V W 0 c).arrAt 3 cfg0.N)
    (hne : ∀ c (b : Ref sig .tc), b ≠ main_v2_0 → b ≠ main_v2_1 → b ≠ main_v2_2 → Vp c b = V c b) :
    Pipeline.RegionSeg (pcfgs (F := F)) adm (pdats V W) () defs₀ 𝒱₀ L lv 0 where
  win := (launch0).win.to₀
  block_pos := (launch0).block_pos
  stage_whole := (launch0).stage_whole
  K := PEmpty
  osem k := k.elim
  ho := Pipeline.OwnSemFacts.none _
  hbody c := (body_obligation0 V c).loose
  hwaits := Pipeline.hwaits_of_owed_zero _ _ _ _ L lv 0 fun _ _ => rfl
  pre c := iprop(unscopedBufs c (fun b => V c b) ∗ Rest c)
  post c := iprop(unscopedBufs c (fun b => Vp c b) ∗ Rest c)
  X _ := BI.emp
  Y _ := BI.emp
  Z c := Pipeline.unscopedRest (Ix := Unit) (Name := ℕ) (U := UR sig nD τ) (Lvl := ℕ) spec0 c (fun b => V c b)
  hentry c := by
    rw [Pipeline.ownSems0_none]
    have hsplit := Pipeline.arrays_of_unscopedBufs (p := 0) (pcfgs (F := F)) adm (pdats V W) (launch0).win (launch0).arr_whole c
      ((pdats V W 0 c).share_full fun _ => rfl) (fun b => V c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V W 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (pdats V W 0 c).Φ (Fin.last _) = Pipeline.scopedRest (Ix := Unit) (Name := ℕ) (U := UR sig nD τ) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ) (launch0).win (launch0).arr_whole c
      (pdats V W) ((pdats V W 0 c).share_full fun _ => rfl) (fun b => V c b) (fun b => Vp c b) ((pdats V W 0 c).arrAt · cfg0.N)
      (fun w => by
        fin_cases w
        · exact ((pdats V W 0 c).arrAt_in 0 rfl _).trans (hne c main_v0 (by decide) (by decide) (by decide)).symm
        · exact (h1 c).symm
        · exact (h2 c).symm
        · exact (h3 c).symm)
      (fun b hb => hne c b (fun h => hb (h ▸ Finset.mem_image.mpr ⟨1, Finset.mem_univ _, rfl⟩)) (fun h => hb (h ▸ Finset.mem_image.mpr ⟨2, Finset.mem_univ _, rfl⟩)) (fun h => hb (h ▸ Finset.mem_image.mpr ⟨3, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- Region 1, entered with the unscoped buffers at its entry contents and left with them at `Vp`, which has its results'
    arrays as the region computes them and agrees with the entry contents elsewhere. -/
def reg1 (V W Vp : Entry F)
    (h2 : ∀ c, Vp c main_v3_0 = (pdats V W 1 c).arrAt 2 cfg1.N)
    (h3 : ∀ c, Vp c main_v3_1 = (pdats V W 1 c).arrAt 3 cfg1.N)
    (h4 : ∀ c, Vp c main_v3_2 = (pdats V W 1 c).arrAt 4 cfg1.N)
    (hne : ∀ c (b : Ref sig .tc), b ≠ main_v3_0 → b ≠ main_v3_1 → b ≠ main_v3_2 → Vp c b = W c b) :
    Pipeline.RegionSeg (pcfgs (F := F)) adm (pdats V W) () defs₀ 𝒱₀ L lv 1 where
  win := (launch1).win.to₀
  block_pos := (launch1).block_pos
  stage_whole := (launch1).stage_whole
  K := PEmpty
  osem k := k.elim
  ho := Pipeline.OwnSemFacts.none _
  hbody c := (body_obligation1 W c).loose
  hwaits := Pipeline.hwaits_of_owed_zero _ _ _ _ L lv 1 fun _ _ => rfl
  pre c := iprop(unscopedBufs c (fun b => W c b) ∗ Rest c)
  post c := iprop(unscopedBufs c (fun b => Vp c b) ∗ Rest c)
  X _ := BI.emp
  Y _ := BI.emp
  Z c := Pipeline.unscopedRest (Ix := Unit) (Name := ℕ) (U := UR sig nD τ) (Lvl := ℕ) spec1 c (fun b => W c b)
  hentry c := by
    rw [Pipeline.ownSems0_none]
    have hsplit := Pipeline.arrays_of_unscopedBufs (p := 1) (pcfgs (F := F)) adm (pdats V W) (launch1).win (launch1).arr_whole c
      ((pdats V W 1 c).share_full fun _ => rfl) (fun b => W c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V W 1 c).Φ 0 = Pipeline.scopedRest (Ix := Unit) (Name := ℕ) (U := UR sig nD τ) (Lvl := ℕ) (Val := Elt F) spec1 c from rfl]
    iintro ⟨-, -, Hr⟩; iexact Hr
  hout c := by
    rw [Pipeline.ownSems0_none, show (pdats V W 1 c).Φ (Fin.last _) = Pipeline.scopedRest (Ix := Unit) (Name := ℕ) (U := UR sig nD τ) (Lvl := ℕ) (Val := Elt F) spec1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ) (launch1).win (launch1).arr_whole c
      (pdats V W) ((pdats V W 1 c).share_full fun _ => rfl) (fun b => W c b) (fun b => Vp c b) ((pdats V W 1 c).arrAt · cfg1.N)
      (fun w => by
        fin_cases w
        · exact ((pdats V W 1 c).arrAt_in 0 rfl _).trans (hne c main_v2_2 (by decide) (by decide) (by decide)).symm
        · exact ((pdats V W 1 c).arrAt_in 1 rfl _).trans (hne c main_v1 (by decide) (by decide) (by decide)).symm
        · exact (h2 c).symm
        · exact (h3 c).symm
        · exact (h4 c).symm)
      (fun b hb => hne c b (fun h => hb (h ▸ Finset.mem_image.mpr ⟨2, Finset.mem_univ _, rfl⟩)) (fun h => hb (h ▸ Finset.mem_image.mpr ⟨3, Finset.mem_univ _, rfl⟩)) (fun h => hb (h ▸ Finset.mem_image.mpr ⟨4, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Proof.Bits

end
-- ==== Proof.Bits.Run.lean ====
/-
  The whole program's run: every buffer at its end, and that the arguments are as launched.
-/
module

public import proofs.«01_k».proof.Proof.Bits.Region

@[expose] public section

set_option maxRecDepth 16384

noncomputable section

namespace Cert.Proof.Bits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The contents entering region 0, entering region 1, and after it. -/
def W1 : Entry F := fun c => V1 m c
def W2 : Entry F := fun c => Function.update (Function.update (Function.update (V1 m c)
  main_v2_0 ((dat0 (W1 m) c).arrAt 1 cfg0.N)) main_v2_1 ((dat0 (W1 m) c).arrAt 2 cfg0.N)) main_v2_2 ((dat0 (W1 m) c).arrAt 3 cfg0.N)
def W3 : Entry F := fun c => Function.update (Function.update (Function.update (W2 m c)
  main_v3_0 ((dat1 (W2 m) c).arrAt 2 cfg1.N)) main_v3_1 ((dat1 (W2 m) c).arrAt 3 cfg1.N)) main_v3_2 ((dat1 (W2 m) c).arrAt 4 cfg1.N)

theorem W2_v2_2 (c : Dev nD) : W2 m c main_v2_2 = (dat0 (W1 m) c).arrAt 3 cfg0.N := by
  unfold W2; exact Function.update_self _ _ _
theorem W2_v2_1 (c : Dev nD) : W2 m c main_v2_1 = (dat0 (W1 m) c).arrAt 2 cfg0.N := by
  unfold W2; exact (Function.update_of_ne (StableHlo.devRef_ne_of_ne (by decide)) _ _).trans (Function.update_self _ _ _)
theorem W2_v2_0 (c : Dev nD) : W2 m c main_v2_0 = (dat0 (W1 m) c).arrAt 1 cfg0.N := by
  unfold W2; exact (Function.update_of_ne (StableHlo.devRef_ne_of_ne (by decide)) _ _).trans ((Function.update_of_ne (StableHlo.devRef_ne_of_ne (by decide)) _ _).trans (Function.update_self _ _ _))
theorem W2_of (c : Dev nD) (b : Ref sig .tc) (h0 : b ≠ main_v2_0) (h1 : b ≠ main_v2_1) (h2 : b ≠ main_v2_2) : W2 m c b = V1 m c b := by
  unfold W2; exact (Function.update_of_ne (StableHlo.devRef_ne_of_ne h2) _ _).trans ((Function.update_of_ne (StableHlo.devRef_ne_of_ne h1) _ _).trans (Function.update_of_ne (StableHlo.devRef_ne_of_ne h0) _ _))
theorem W3_v3_2 (c : Dev nD) : W3 m c main_v3_2 = (dat1 (W2 m) c).arrAt 4 cfg1.N := by
  unfold W3; exact Function.update_self _ _ _
theorem W3_v3_1 (c : Dev nD) : W3 m c main_v3_1 = (dat1 (W2 m) c).arrAt 3 cfg1.N := by
  unfold W3; exact (Function.update_of_ne (StableHlo.devRef_ne_of_ne (by decide)) _ _).trans (Function.update_self _ _ _)
theorem W3_v3_0 (c : Dev nD) : W3 m c main_v3_0 = (dat1 (W2 m) c).arrAt 2 cfg1.N := by
  unfold W3; exact (Function.update_of_ne (StableHlo.devRef_ne_of_ne (by decide)) _ _).trans ((Function.update_of_ne (StableHlo.devRef_ne_of_ne (by decide)) _ _).trans (Function.update_self _ _ _))
theorem W3_of (c : Dev nD) (b : Ref sig .tc) (h0 : b ≠ main_v3_0) (h1 : b ≠ main_v3_1) (h2 : b ≠ main_v3_2) : W3 m c b = W2 m c b := by
  unfold W3; exact (Function.update_of_ne (StableHlo.devRef_ne_of_ne h2) _ _).trans ((Function.update_of_ne (StableHlo.devRef_ne_of_ne h1) _ _).trans (Function.update_of_ne (StableHlo.devRef_ne_of_ne h0) _ _))

/-- What the regions leave, as the launch's frame takes it. -/
def outs : Outs (F := F) := fun k r c => if k = 2 then W2 m c r else W3 m c r

theorem V2_eq (c : Dev nD) : V2 m (outs m) c = W2 m c := by
  unfold V2 outs; simp only [if_true]
  rw [W2_v2_0, W2_v2_1, W2_v2_2]; rfl
theorem V3_eq (c : Dev nD) : V3 m (outs m) c = W3 m c := by
  unfold V3; rw [V2_eq]; unfold outs
  rw [if_neg (by decide), if_neg (by decide), if_neg (by decide), W3_v3_0, W3_v3_1, W3_v3_2]; rfl

def R0 := reg0 (W1 m) (W2 m) (W2 m) (W2_v2_0 m) (W2_v2_1 m) (W2_v2_2 m) (W2_of m)
def R1 := reg1 (W1 m) (W2 m) (W3 m) (W3_v3_0 m) (W3_v3_1 m) (W3_v3_2 m) (W3_of m)

theorem hpre0 (c : Dev nD) : iprop(StableHlo.held (c : Thread nD τ) (Pipeline.ucRefs τ sig) (V1 m c) ∗ Rest c) ⊢ (R0 m).pre c := by
  rw [← Pipeline.unscopedBufs_held]; exact .rfl
theorem hpost0 (c : Dev nD) : (R0 m).post c ⊢ iprop(StableHlo.held (c : Thread nD τ) (Pipeline.ucRefs τ sig) (V2 m (outs m) c) ∗ Rest c) := by
  rw [V2_eq, ← Pipeline.unscopedBufs_held]; exact .rfl
theorem hpre1 (c : Dev nD) : iprop(StableHlo.held (c : Thread nD τ) (Pipeline.ucRefs τ sig) (V2 m (outs m) c) ∗ Rest c) ⊢ (R1 m).pre c := by
  rw [V2_eq, ← Pipeline.unscopedBufs_held]; exact .rfl
theorem hpost1 (c : Dev nD) : (R1 m).post c ⊢ iprop(StableHlo.held (c : Thread nD τ) (Pipeline.ucRefs τ sig) (V3 m (outs m) c) ∗ Rest c) := by
  rw [V3_eq, ← Pipeline.unscopedBufs_held]; exact .rfl

-- the launch theorem's implicit arguments are found by unifying its conclusion with this one
set_option backward.isDefEq.respectTransparency.types false in
/-- The program runs to its end, every unscoped buffer then at the last contents and every semaphore at zero. -/
theorem run_all : θ_run defs (onTc (τ := τ) (main (F := F))) ⟨m, fun _ => 0, ρ⟩ (fun r =>
    (∀ c : Dev nD, ∀ b ∈ Pipeline.ucRefs τ sig, r.2.mem ((c : Thread nD τ).1, b) = V4 m (outs m) c b) ∧ r.2.sem = fun _ => 0) := by
  refine Pipeline.θ_run_regions_kit_dev_sems (pcfgs (F := F)) adm (pdats (W1 m) (W2 m)) () cellOf_inj emb₁ defs₀ 𝒱₀ L lv m ρ main
    (segs m (outs m) 𝒱₀ L lv (fun _ c => Rest c) () (pdats (W1 m) (W2 m)) (R0 m) (R1 m))
    (fun c Q => by
      rewrite [main_chain c, Seg.run_eq_chain,
        show (segs m (outs m) 𝒱₀ L lv (fun _ c => Rest c) () (pdats (W1 m) (W2 m)) (R0 m) (R1 m) c).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (O₀ := 0) (hL := fun _ _ => rfl) (G := fun _ => iprop(emp)) (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ Rest c))
    (Tₙ := fun c => StableHlo.held (c : Thread nD τ) (Pipeline.ucRefs τ sig) (V4 m (outs m) c))
    (hch := fun c => ⟨.rfl, hpre0 m c, (hpost0 m c).trans (hpre1 m c), hpost1 m c, sep_mono .rfl .rfl⟩)
    (hinit := ?_) (QY := fun c s => ∀ b ∈ Pipeline.ucRefs τ sig, s.mem ((c : Thread nD τ).1, b) = V4 m (outs m) c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    iexists ∅; iexact HO
  · -- the end: each argument's buffer read off the last valuation
    unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      exact h
    · iexact HSI

/-- An unscoped buffer of the TensorCore's is one of those. -/
theorem mem_ucRefs (r : Ref sig .tc) (h : ¬ (Proc.devRef (τ := τ) .tc r).isScoped) : Proc.devRef .tc r ∈ Pipeline.ucRefs τ sig :=
  Finset.mem_filter.mpr ⟨StableHlo.devRef_mem_tcRefs r, h⟩

/-- The program runs to its end with the arguments as launched and every semaphore at zero. -/
theorem frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run _ _ _).mono (fun r h => ⟨fun c =>
    ⟨(h.1 c _ (mem_ucRefs main_arg0 (by decide))).trans (V4_main_arg0 m (outs m) c),
      (h.1 c _ (mem_ucRefs main_arg1 (by decide))).trans (V4_main_arg1 m (outs m) c)⟩, h.2⟩) (run_all m ρ)

end Cert.Proof.Bits

end
-- ==== Proof.Ideal.Trips.lean ====
/-
  The pieces one trip of each kernel's loop writes, and all its trips together: they do not depend on what the
  written buffers held, and together they fill the outputs (and the scratch the second kernel multiplies by).
-/
module

public import proofs.«01_k».proof.Proof.Gen.KernelIdeal.Loops
public import Idealize.ShloMosaic.Lib.Pipeline.FrameBody

@[expose] public section

set_option maxRecDepth 16384

noncomputable section

namespace Cert.Proof.Ideal

open Cert.KernelIdeal Cert.KernelIdeal.Gen
open Idealize.ShloMosaic Idealize.ShloMosaic.TcCoe Idealize.ShloMosaic.Tactic
open Idealize.SL Idealize.SL.RA Idealize.SL.BI Idealize.SL.Sem

variable {F : FTy → Type} [FloatOps F]

/-- The piece of a list at a place, as the witness that some piece holds an index. -/
theorem exists_of_get {s : Shape} {e : EltTy} (L : List (View.Piece (Elt F) s e)) (j : ℕ) (hj : j < L.length) (y : s.Idx)
    (h : y ∈ (L[j]'hj).1.set) : ∃ p ∈ L, y ∈ p.1.set := ⟨_, List.getElem_mem hj, h⟩

/-- An index lies in a two-axis rectangle whose offset is the given one. -/
theorem mem_unit2 {s : Shape} (hs : s.rank = 2) {off size : Fin s.rank → ℕ} {inb} (y : s.Idx)
    (h0 : off (Fin.cast hs.symm 0) ≤ y (Fin.cast hs.symm 0) ∧ (y (Fin.cast hs.symm 0) : ℕ) < off (Fin.cast hs.symm 0) + size (Fin.cast hs.symm 0))
    (h1 : off (Fin.cast hs.symm 1) ≤ y (Fin.cast hs.symm 1) ∧ (y (Fin.cast hs.symm 1) : ℕ) < off (Fin.cast hs.symm 1) + size (Fin.cast hs.symm 1)) :
    y ∈ (Rect.unit off size inb).set :=
  Rect.mem_set_unit.2 fun a => by
    obtain ⟨a, rfl⟩ : ∃ b, a = Fin.cast hs.symm b := ⟨Fin.cast hs a, rfl⟩
    fin_cases a
    · exact h0
    · exact h1

/-! ## Kernel 0 -/

section K0

variable (𝒱 : Variants) (c : Dev nD) (bd : Option 𝒱.V) (i : grid0.Coords) (arg1 : Memref sig .tc .vmem S512x4096 .bf16) (harg1 : arg1.IsWhole) (arg2 : Memref sig .tc .vmem S512x4096 .fp8e4m3) (harg2 : arg2.IsWhole) (arg3 : Memref sig .tc .vmem S16x4096 .f32) (harg3 : arg3.IsWhole) (arg4 : Memref sig .tc .vmem S1x4096x512 .bf16) (harg4 : arg4.IsWhole) (arg5 : Memref sig .tc .vmem S2x8x256 .i32) (harg5 : arg5.IsWhole) (arg6 : Memref sig .tc .vmem S256x256 .bf16) (harg6 : arg6.IsWhole)
  (X : BufTy.Contents (Elt F) arg1.view.ty)

/-- One trip's pieces do not depend on what the buffers it writes held. -/
theorem tripL0_indep (k : Fin k0_t1_loop.trips) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (g2 : BufTy.Contents (Elt F) arg2.view.ty) (g3 : BufTy.Contents (Elt F) arg3.view.ty) (g4 : BufTy.Contents (Elt F) arg4.view.ty) (g5 : BufTy.Contents (Elt F) arg5.view.ty) (g6 : BufTy.Contents (Elt F) arg6.view.ty) :
    tripL_k0_t1 (F := F) 𝒱 c bd i arg1 harg1 arg2 harg2 arg3 harg3 arg4 harg4 arg5 harg5 arg6 harg6 X k f2 f3 f4 f5 f6 = tripL_k0_t1 𝒱 c bd i arg1 harg1 arg2 harg2 arg3 harg3 arg4 harg4 arg5 harg5 arg6 harg6 X k g2 g3 g4 g5 g6 := by
  unfold tripL_k0_t1 trip_k0_t1; rfl

/-- A trip's pieces put in front of the earlier trips'. -/
def app0 (T P : List (View.Piece (Elt F) S512x4096 .fp8e4m3) × List (View.Piece (Elt F) S16x4096 .f32) × List (View.Piece (Elt F) S1x4096x512 .bf16) × List (View.Piece (Elt F) S2x8x256 .i32) × List (View.Piece (Elt F) S256x256 .bf16)) : List (View.Piece (Elt F) S512x4096 .fp8e4m3) × List (View.Piece (Elt F) S16x4096 .f32) × List (View.Piece (Elt F) S1x4096x512 .bf16) × List (View.Piece (Elt F) S2x8x256 .i32) × List (View.Piece (Elt F) S256x256 .bf16) := (T.1 ++ P.1, T.2.1 ++ P.2.1, T.2.2.1 ++ P.2.2.1, T.2.2.2.1 ++ P.2.2.2.1, T.2.2.2.2 ++ P.2.2.2.2)

/-- The pieces of one trip more. -/
theorem pbS0 (n : ℕ) (h : n < k0_t1_loop.trips) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (g2 : BufTy.Contents (Elt F) arg2.view.ty) (g3 : BufTy.Contents (Elt F) arg3.view.ty) (g4 : BufTy.Contents (Elt F) arg4.view.ty) (g5 : BufTy.Contents (Elt F) arg5.view.ty) (g6 : BufTy.Contents (Elt F) arg6.view.ty) :
    pb_k0_t1 (F := F) 𝒱 c bd i arg1 harg1 arg2 harg2 arg3 harg3 arg4 harg4 arg5 harg5 arg6 harg6 X g2 g3 g4 g5 g6 (n + 1) = app0 (tripL_k0_t1 𝒱 c bd i arg1 harg1 arg2 harg2 arg3 harg3 arg4 harg4 arg5 harg5 arg6 harg6 X ⟨n, h⟩ f2 f3 f4 f5 f6) (pb_k0_t1 𝒱 c bd i arg1 harg1 arg2 harg2 arg3 harg3 arg4 harg4 arg5 harg5 arg6 harg6 X g2 g3 g4 g5 g6 n) :=
  (pb_k0_t1_succ (F := F) 𝒱 c bd i arg1 harg1 arg2 harg2 arg3 harg3 arg4 harg4 arg5 harg5 arg6 harg6 X g2 g3 g4 g5 g6 ⟨n, h⟩).trans
    (congrArg (fun T => app0 T (pb_k0_t1 𝒱 c bd i arg1 harg1 arg2 harg2 arg3 harg3 arg4 harg4 arg5 harg5 arg6 harg6 X g2 g3 g4 g5 g6 n)) (tripL0_indep 𝒱 c bd i arg1 harg1 arg2 harg2 arg3 harg3 arg4 harg4 arg5 harg5 arg6 harg6 X ⟨n, h⟩ _ _ _ _ _ f2 f3 f4 f5 f6))

/-- Past the last trip nothing is added. -/
theorem pbS0_of_not (n : ℕ) (h : ¬ n < k0_t1_loop.trips) (g2 : BufTy.Contents (Elt F) arg2.view.ty) (g3 : BufTy.Contents (Elt F) arg3.view.ty) (g4 : BufTy.Contents (Elt F) arg4.view.ty) (g5 : BufTy.Contents (Elt F) arg5.view.ty) (g6 : BufTy.Contents (Elt F) arg6.view.ty) :
    pb_k0_t1 (F := F) 𝒱 c bd i arg1 harg1 arg2 harg2 arg3 harg3 arg4 harg4 arg5 harg5 arg6 harg6 X g2 g3 g4 g5 g6 (n + 1) = pb_k0_t1 𝒱 c bd i arg1 harg1 arg2 harg2 arg3 harg3 arg4 harg4 arg5 harg5 arg6 harg6 X g2 g3 g4 g5 g6 n := by
  rw [pb_k0_t1.eq_2]; unfold pb_k0_t1Step; rw [dif_neg h]

/-- Nor do the pieces of the first `n` trips. -/
theorem pb0_indep (n : ℕ) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (g2 : BufTy.Contents (Elt F) arg2.view.ty) (g3 : BufTy.Contents (Elt F) arg3.view.ty) (g4 : BufTy.Contents (Elt F) arg4.view.ty) (g5 : BufTy.Contents (Elt F) arg5.view.ty) (g6 : BufTy.Contents (Elt F) arg6.view.ty) :
    pb_k0_t1 (F := F) 𝒱 c bd i arg1 harg1 arg2 harg2 arg3 harg3 arg4 harg4 arg5 harg5 arg6 harg6 X f2 f3 f4 f5 f6 n = pb_k0_t1 𝒱 c bd i arg1 harg1 arg2 harg2 arg3 harg3 arg4 harg4 arg5 harg5 arg6 harg6 X g2 g3 g4 g5 g6 n := by
  induction n with
  | zero => rfl
  | succ n ih =>
    by_cases h : n < k0_t1_loop.trips
    · rw [pbS0 𝒱 c bd i arg1 harg1 arg2 harg2 arg3 harg3 arg4 harg4 arg5 harg5 arg6 harg6 X n h f2 f3 f4 f5 f6 f2 f3 f4 f5 f6, pbS0 𝒱 c bd i arg1 harg1 arg2 harg2 arg3 harg3 arg4 harg4 arg5 harg5 arg6 harg6 X n h f2 f3 f4 f5 f6 g2 g3 g4 g5 g6, ih]
    · rw [pbS0_of_not 𝒱 c bd i arg1 harg1 arg2 harg2 arg3 harg3 arg4 harg4 arg5 harg5 arg6 harg6 X n h, pbS0_of_not 𝒱 c bd i arg1 harg1 arg2 harg2 arg3 harg3 arg4 harg4 arg5 harg5 arg6 harg6 X n h, ih]

/-- A piece of trip `k` is one of the first `n` trips' pieces for every `n` past `k`. -/
theorem mem_pb0 (k : Fin k0_t1_loop.trips) (n : ℕ) (hn : k.val < n) (hN : n ≤ k0_t1_loop.trips) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (g2 : BufTy.Contents (Elt F) arg2.view.ty) (g3 : BufTy.Contents (Elt F) arg3.view.ty) (g4 : BufTy.Contents (Elt F) arg4.view.ty) (g5 : BufTy.Contents (Elt F) arg5.view.ty) (g6 : BufTy.Contents (Elt F) arg6.view.ty) :
    (∀ p ∈ (tripL_k0_t1 (F := F) 𝒱 c bd i arg1 harg1 arg2 harg2 arg3 harg3 arg4 harg4 arg5 harg5 arg6 harg6 X k f2 f3 f4 f5 f6).1, p ∈ (pb_k0_t1 (F := F) 𝒱 c bd i arg1 harg1 arg2 harg2 arg3 harg3 arg4 harg4 arg5 harg5 arg6 harg6 X g2 g3 g4 g5 g6 n).1) ∧
    (∀ p ∈ (tripL_k0_t1 (F := F) 𝒱 c bd i arg1 harg1 arg2 harg2 arg3 harg3 arg4 harg4 arg5 harg5 arg6 harg6 X k f2 f3 f4 f5 f6).2.1, p ∈ (pb_k0_t1 (F := F) 𝒱 c bd i arg1 harg1 arg2 harg2 arg3 harg3 arg4 harg4 arg5 harg5 arg6 harg6 X g2 g3 g4 g5 g6 n).2.1) ∧
    (∀ p ∈ (tripL_k0_t1 (F := F) 𝒱 c bd i arg1 harg1 arg2 harg2 arg3 harg3 arg4 harg4 arg5 harg5 arg6 harg6 X k f2 f3 f4 f5 f6).2.2.1, p ∈ (pb_k0_t1 (F := F) 𝒱 c bd i arg1 harg1 arg2 harg2 arg3 harg3 arg4 harg4 arg5 harg5 arg6 harg6 X g2 g3 g4 g5 g6 n).2.2.1) ∧
    (∀ p ∈ (tripL_k0_t1 (F := F) 𝒱 c bd i arg1 harg1 arg2 harg2 arg3 harg3 arg4 harg4 arg5 harg5 arg6 harg6 X k f2 f3 f4 f5 f6).2.2.2.1, p ∈ (pb_k0_t1 (F := F) 𝒱 c bd i arg1 harg1 arg2 harg2 arg3 harg3 arg4 harg4 arg5 harg5 arg6 harg6 X g2 g3 g4 g5 g6 n).2.2.2.1) ∧
    (∀ p ∈ (tripL_k0_t1 (F := F) 𝒱 c bd i arg1 harg1 arg2 harg2 arg3 harg3 arg4 harg4 arg5 harg5 arg6 harg6 X k f2 f3 f4 f5 f6).2.2.2.2, p ∈ (pb_k0_t1 (F := F) 𝒱 c bd i arg1 harg1 arg2 harg2 arg3 harg3 arg4 harg4 arg5 harg5 arg6 harg6 X g2 g3 g4 g5 g6 n).2.2.2.2) := by
  induction n with
  | zero => exact absurd hn (Nat.not_lt_zero _)
  | succ n ih =>
    rw [pbS0 𝒱 c bd i arg1 harg1 arg2 harg2 arg3 harg3 arg4 harg4 arg5 harg5 arg6 harg6 X n hN f2 f3 f4 f5 f6 g2 g3 g4 g5 g6]
    by_cases h : k.val = n
    · obtain rfl : k = ⟨n, hN⟩ := Fin.ext h
      exact ⟨fun p hp => List.mem_append_left _ hp, fun p hp => List.mem_append_left _ hp, fun p hp => List.mem_append_left _ hp, fun p hp => List.mem_append_left _ hp, fun p hp => List.mem_append_left _ hp⟩
    · have := ih (by omega) (by omega)
      exact ⟨fun p hp => List.mem_append_right _ (this.1 p hp), fun p hp => List.mem_append_right _ (this.2.1 p hp), fun p hp => List.mem_append_right _ (this.2.2.1 p hp), fun p hp => List.mem_append_right _ (this.2.2.2.1 p hp), fun p hp => List.mem_append_right _ (this.2.2.2.2 p hp)⟩

/-- Conversely each of the first `n` trips' pieces is some trip's. -/
theorem of_mem_pb0 (n : ℕ) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (g2 : BufTy.Contents (Elt F) arg2.view.ty) (g3 : BufTy.Contents (Elt F) arg3.view.ty) (g4 : BufTy.Contents (Elt F) arg4.view.ty) (g5 : BufTy.Contents (Elt F) arg5.view.ty) (g6 : BufTy.Contents (Elt F) arg6.view.ty) :
    (∀ p ∈ (pb_k0_t1 (F := F) 𝒱 c bd i arg1 harg1 arg2 harg2 arg3 harg3 arg4 harg4 arg5 harg5 arg6 harg6 X g2 g3 g4 g5 g6 n).1, ∃ k : Fin k0_t1_loop.trips, p ∈ (tripL_k0_t1 (F := F) 𝒱 c bd i arg1 harg1 arg2 harg2 arg3 harg3 arg4 harg4 arg5 harg5 arg6 harg6 X k f2 f3 f4 f5 f6).1) ∧
    (∀ p ∈ (pb_k0_t1 (F := F) 𝒱 c bd i arg1 harg1 arg2 harg2 arg3 harg3 arg4 harg4 arg5 harg5 arg6 harg6 X g2 g3 g4 g5 g6 n).2.1, ∃ k : Fin k0_t1_loop.trips, p ∈ (tripL_k0_t1 (F := F) 𝒱 c bd i arg1 harg1 arg2 harg2 arg3 harg3 arg4 harg4 arg5 harg5 arg6 harg6 X k f2 f3 f4 f5 f6).2.1) ∧
    (∀ p ∈ (pb_k0_t1 (F := F) 𝒱 c bd i arg1 harg1 arg2 harg2 arg3 harg3 arg4 harg4 arg5 harg5 arg6 harg6 X g2 g3 g4 g5 g6 n).2.2.1, ∃ k : Fin k0_t1_loop.trips, p ∈ (tripL_k0_t1 (F := F) 𝒱 c bd i arg1 harg1 arg2 harg2 arg3 harg3 arg4 harg4 arg5 harg5 arg6 harg6 X k f2 f3 f4 f5 f6).2.2.1) ∧
    (∀ p ∈ (pb_k0_t1 (F := F) 𝒱 c bd i arg1 harg1 arg2 harg2 arg3 harg3 arg4 harg4 arg5 harg5 arg6 harg6 X g2 g3 g4 g5 g6 n).2.2.2.1, ∃ k : Fin k0_t1_loop.trips, p ∈ (tripL_k0_t1 (F := F) 𝒱 c bd i arg1 harg1 arg2 harg2 arg3 harg3 arg4 harg4 arg5 harg5 arg6 harg6 X k f2 f3 f4 f5 f6).2.2.2.1) ∧
    (∀ p ∈ (pb_k0_t1 (F := F) 𝒱 c bd i arg1 harg1 arg2 harg2 arg3 harg3 arg4 harg4 arg5 harg5 arg6 harg6 X g2 g3 g4 g5 g6 n).2.2.2.2, ∃ k : Fin k0_t1_loop.trips, p ∈ (tripL_k0_t1 (F := F) 𝒱 c bd i arg1 harg1 arg2 harg2 arg3 harg3 arg4 harg4 arg5 harg5 arg6 harg6 X k f2 f3 f4 f5 f6).2.2.2.2) := by
  induction n with
  | zero => exact ⟨fun p hp => absurd hp List.not_mem_nil, fun p hp => absurd hp List.not_mem_nil, fun p hp => absurd hp List.not_mem_nil, fun p hp => absurd hp List.not_mem_nil, fun p hp => absurd hp List.not_mem_nil⟩
  | succ n ih =>
    by_cases h : n < k0_t1_loop.trips
    · rw [pbS0 𝒱 c bd i arg1 harg1 arg2 harg2 arg3 harg3 arg4 harg4 arg5 harg5 arg6 harg6 X n h f2 f3 f4 f5 f6 g2 g3 g4 g5 g6]
      exact ⟨fun p hp => (List.mem_append.1 hp).elim (fun hp => ⟨⟨n, h⟩, hp⟩) (ih.1 p), fun p hp => (List.mem_append.1 hp).elim (fun hp => ⟨⟨n, h⟩, hp⟩) (ih.2.1 p), fun p hp => (List.mem_append.1 hp).elim (fun hp => ⟨⟨n, h⟩, hp⟩) (ih.2.2.1 p), fun p hp => (List.mem_append.1 hp).elim (fun hp => ⟨⟨n, h⟩, hp⟩) (ih.2.2.2.1 p), fun p hp => (List.mem_append.1 hp).elim (fun hp => ⟨⟨n, h⟩, hp⟩) (ih.2.2.2.2 p)⟩
    · rw [pbS0_of_not 𝒱 c bd i arg1 harg1 arg2 harg2 arg3 harg3 arg4 harg4 arg5 harg5 arg6 harg6 X n h]; exact ih

/-- The offsets the kernel computes, in closed form. -/
theorem k0_off1_eq (k : Fin k0_t1_loop.trips) : k0_off1 k = ![0, 256 * k.val] := by revert k; decide +kernel
theorem k0_off2_eq (k : Fin k0_t1_loop.trips) : k0_off2 k = ![32, 256 * k.val] := by revert k; decide +kernel
theorem k0_off3_eq (k : Fin k0_t1_loop.trips) : k0_off3 k = ![64, 256 * k.val] := by revert k; decide +kernel
theorem k0_off4_eq (k : Fin k0_t1_loop.trips) : k0_off4 k = ![96, 256 * k.val] := by revert k; decide +kernel
theorem k0_off5_eq (k : Fin k0_t1_loop.trips) : k0_off5 k = ![128, 256 * k.val] := by revert k; decide +kernel
theorem k0_off6_eq (k : Fin k0_t1_loop.trips) : k0_off6 k = ![160, 256 * k.val] := by revert k; decide +kernel
theorem k0_off7_eq (k : Fin k0_t1_loop.trips) : k0_off7 k = ![192, 256 * k.val] := by revert k; decide +kernel
theorem k0_off8_eq (k : Fin k0_t1_loop.trips) : k0_off8 k = ![224, 256 * k.val] := by revert k; decide +kernel
theorem k0_off11_eq (k : Fin k0_t1_loop.trips) : k0_off11 k = ![256, 256 * k.val] := by revert k; decide +kernel
theorem k0_off12_eq (k : Fin k0_t1_loop.trips) : k0_off12 k = ![288, 256 * k.val] := by revert k; decide +kernel
theorem k0_off13_eq (k : Fin k0_t1_loop.trips) : k0_off13 k = ![320, 256 * k.val] := by revert k; decide +kernel
theorem k0_off14_eq (k : Fin k0_t1_loop.trips) : k0_off14 k = ![352, 256 * k.val] := by revert k; decide +kernel
theorem k0_off15_eq (k : Fin k0_t1_loop.trips) : k0_off15 k = ![384, 256 * k.val] := by revert k; decide +kernel
theorem k0_off16_eq (k : Fin k0_t1_loop.trips) : k0_off16 k = ![416, 256 * k.val] := by revert k; decide +kernel
theorem k0_off17_eq (k : Fin k0_t1_loop.trips) : k0_off17 k = ![448, 256 * k.val] := by revert k; decide +kernel
theorem k0_off18_eq (k : Fin k0_t1_loop.trips) : k0_off18 k = ![480, 256 * k.val] := by revert k; decide +kernel
theorem k0_off9_eq (k : Fin k0_t1_loop.trips) : k0_off9 k = ![0, 256 * k.val] := by revert k; decide +kernel
theorem k0_off19_eq (k : Fin k0_t1_loop.trips) : k0_off19 k = ![8, 256 * k.val] := by revert k; decide +kernel
theorem k0_off10_eq (k : Fin k0_t1_loop.trips) : k0_off10 k = ![0, 256 * k.val, 0] := by revert k; decide +kernel
theorem k0_off20_eq (k : Fin k0_t1_loop.trips) : k0_off20 k = ![0, 256 * k.val, 256] := by revert k; decide +kernel

/-- One trip fills its 256 columns of the codes. -/
theorem cover0_codes (k : Fin k0_t1_loop.trips) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (y : S512x4096.Idx)
    (hk : (y 1 : ℕ) / 256 = k.val) : ∃ p ∈ (tripL_k0_t1 (F := F) 𝒱 c bd i arg1 harg1 arg2 harg2 arg3 harg3 arg4 harg4 arg5 harg5 arg6 harg6 X k f2 f3 f4 f5 f6).1, y ∈ p.1.set := by
  unfold tripL_k0_t1 trip_k0_t1
  dsimp only
  have hy : (y 0 : ℕ) < 512 := (y 0).isLt
  obtain ⟨r, hr⟩ : ∃ r, (y 0 : ℕ) / 32 = r := ⟨_, rfl⟩
  have hr' : r < 16 := by omega
  rcases (by omega : r = 0 ∨ r = 1 ∨ r = 2 ∨ r = 3 ∨ r = 4 ∨ r = 5 ∨ r = 6 ∨ r = 7 ∨ r = 8 ∨ r = 9 ∨ r = 10 ∨ r = 11 ∨ r = 12 ∨ r = 13 ∨ r = 14 ∨ r = 15) with rfl | rfl | rfl | rfl | rfl | rfl | rfl | rfl | rfl | rfl | rfl | rfl | rfl | rfl | rfl | rfl
  · refine exists_of_get _ 15 (by exact (show 15 < 16 by decide)) y ?_; exact (mem_unit2 rfl (inb := k0_off1_inb k) y (by show k0_off1 k 0 ≤ _ ∧ _ < k0_off1 k 0 + 32; rw [k0_off1_eq]; show 0 ≤ (y 0 : ℕ) ∧ (y 0 : ℕ) < 0 + 32; omega) (by show k0_off1 k 1 ≤ _ ∧ _ < k0_off1 k 1 + 256; rw [k0_off1_eq]; show 256 * k.val ≤ (y 1 : ℕ) ∧ (y 1 : ℕ) < 256 * k.val + 256; omega))
  · refine exists_of_get _ 14 (by exact (show 14 < 16 by decide)) y ?_; exact (mem_unit2 rfl (inb := k0_off2_inb k) y (by show k0_off2 k 0 ≤ _ ∧ _ < k0_off2 k 0 + 32; rw [k0_off2_eq]; show 32 ≤ (y 0 : ℕ) ∧ (y 0 : ℕ) < 32 + 32; omega) (by show k0_off2 k 1 ≤ _ ∧ _ < k0_off2 k 1 + 256; rw [k0_off2_eq]; show 256 * k.val ≤ (y 1 : ℕ) ∧ (y 1 : ℕ) < 256 * k.val + 256; omega))
  · refine exists_of_get _ 13 (by exact (show 13 < 16 by decide)) y ?_; exact (mem_unit2 rfl (inb := k0_off3_inb k) y (by show k0_off3 k 0 ≤ _ ∧ _ < k0_off3 k 0 + 32; rw [k0_off3_eq]; show 64 ≤ (y 0 : ℕ) ∧ (y 0 : ℕ) < 64 + 32; omega) (by show k0_off3 k 1 ≤ _ ∧ _ < k0_off3 k 1 + 256; rw [k0_off3_eq]; show 256 * k.val ≤ (y 1 : ℕ) ∧ (y 1 : ℕ) < 256 * k.val + 256; omega))
  · refine exists_of_get _ 12 (by exact (show 12 < 16 by decide)) y ?_; exact (mem_unit2 rfl (inb := k0_off4_inb k) y (by show k0_off4 k 0 ≤ _ ∧ _ < k0_off4 k 0 + 32; rw [k0_off4_eq]; show 96 ≤ (y 0 : ℕ) ∧ (y 0 : ℕ) < 96 + 32; omega) (by show k0_off4 k 1 ≤ _ ∧ _ < k0_off4 k 1 + 256; rw [k0_off4_eq]; show 256 * k.val ≤ (y 1 : ℕ) ∧ (y 1 : ℕ) < 256 * k.val + 256; omega))
  · refine exists_of_get _ 11 (by exact (show 11 < 16 by decide)) y ?_; exact (mem_unit2 rfl (inb := k0_off5_inb k) y (by show k0_off5 k 0 ≤ _ ∧ _ < k0_off5 k 0 + 32; rw [k0_off5_eq]; show 128 ≤ (y 0 : ℕ) ∧ (y 0 : ℕ) < 128 + 32; omega) (by show k0_off5 k 1 ≤ _ ∧ _ < k0_off5 k 1 + 256; rw [k0_off5_eq]; show 256 * k.val ≤ (y 1 : ℕ) ∧ (y 1 : ℕ) < 256 * k.val + 256; omega))
  · refine exists_of_get _ 10 (by exact (show 10 < 16 by decide)) y ?_; exact (mem_unit2 rfl (inb := k0_off6_inb k) y (by show k0_off6 k 0 ≤ _ ∧ _ < k0_off6 k 0 + 32; rw [k0_off6_eq]; show 160 ≤ (y 0 : ℕ) ∧ (y 0 : ℕ) < 160 + 32; omega) (by show k0_off6 k 1 ≤ _ ∧ _ < k0_off6 k 1 + 256; rw [k0_off6_eq]; show 256 * k.val ≤ (y 1 : ℕ) ∧ (y 1 : ℕ) < 256 * k.val + 256; omega))
  · refine exists_of_get _ 9 (by exact (show 9 < 16 by decide)) y ?_; exact (mem_unit2 rfl (inb := k0_off7_inb k) y (by show k0_off7 k 0 ≤ _ ∧ _ < k0_off7 k 0 + 32; rw [k0_off7_eq]; show 192 ≤ (y 0 : ℕ) ∧ (y 0 : ℕ) < 192 + 32; omega) (by show k0_off7 k 1 ≤ _ ∧ _ < k0_off7 k 1 + 256; rw [k0_off7_eq]; show 256 * k.val ≤ (y 1 : ℕ) ∧ (y 1 : ℕ) < 256 * k.val + 256; omega))
  · refine exists_of_get _ 8 (by exact (show 8 < 16 by decide)) y ?_; exact (mem_unit2 rfl (inb := k0_off8_inb k) y (by show k0_off8 k 0 ≤ _ ∧ _ < k0_off8 k 0 + 32; rw [k0_off8_eq]; show 224 ≤ (y 0 : ℕ) ∧ (y 0 : ℕ) < 224 + 32; omega) (by show k0_off8 k 1 ≤ _ ∧ _ < k0_off8 k 1 + 256; rw [k0_off8_eq]; show 256 * k.val ≤ (y 1 : ℕ) ∧ (y 1 : ℕ) < 256 * k.val + 256; omega))
  · refine exists_of_get _ 7 (by exact (show 7 < 16 by decide)) y ?_; exact (mem_unit2 rfl (inb := k0_off11_inb k) y (by show k0_off11 k 0 ≤ _ ∧ _ < k0_off11 k 0 + 32; rw [k0_off11_eq]; show 256 ≤ (y 0 : ℕ) ∧ (y 0 : ℕ) < 256 + 32; omega) (by show k0_off11 k 1 ≤ _ ∧ _ < k0_off11 k 1 + 256; rw [k0_off11_eq]; show 256 * k.val ≤ (y 1 : ℕ) ∧ (y 1 : ℕ) < 256 * k.val + 256; omega))
  · refine exists_of_get _ 6 (by exact (show 6 < 16 by decide)) y ?_; exact (mem_unit2 rfl (inb := k0_off12_inb k) y (by show k0_off12 k 0 ≤ _ ∧ _ < k0_off12 k 0 + 32; rw [k0_off12_eq]; show 288 ≤ (y 0 : ℕ) ∧ (y 0 : ℕ) < 288 + 32; omega) (by show k0_off12 k 1 ≤ _ ∧ _ < k0_off12 k 1 + 256; rw [k0_off12_eq]; show 256 * k.val ≤ (y 1 : ℕ) ∧ (y 1 : ℕ) < 256 * k.val + 256; omega))
  · refine exists_of_get _ 5 (by exact (show 5 < 16 by decide)) y ?_; exact (mem_unit2 rfl (inb := k0_off13_inb k) y (by show k0_off13 k 0 ≤ _ ∧ _ < k0_off13 k 0 + 32; rw [k0_off13_eq]; show 320 ≤ (y 0 : ℕ) ∧ (y 0 : ℕ) < 320 + 32; omega) (by show k0_off13 k 1 ≤ _ ∧ _ < k0_off13 k 1 + 256; rw [k0_off13_eq]; show 256 * k.val ≤ (y 1 : ℕ) ∧ (y 1 : ℕ) < 256 * k.val + 256; omega))
  · refine exists_of_get _ 4 (by exact (show 4 < 16 by decide)) y ?_; exact (mem_unit2 rfl (inb := k0_off14_inb k) y (by show k0_off14 k 0 ≤ _ ∧ _ < k0_off14 k 0 + 32; rw [k0_off14_eq]; show 352 ≤ (y 0 : ℕ) ∧ (y 0 : ℕ) < 352 + 32; omega) (by show k0_off14 k 1 ≤ _ ∧ _ < k0_off14 k 1 + 256; rw [k0_off14_eq]; show 256 * k.val ≤ (y 1 : ℕ) ∧ (y 1 : ℕ) < 256 * k.val + 256; omega))
  · refine exists_of_get _ 3 (by exact (show 3 < 16 by decide)) y ?_; exact (mem_unit2 rfl (inb := k0_off15_inb k) y (by show k0_off15 k 0 ≤ _ ∧ _ < k0_off15 k 0 + 32; rw [k0_off15_eq]; show 384 ≤ (y 0 : ℕ) ∧ (y 0 : ℕ) < 384 + 32; omega) (by show k0_off15 k 1 ≤ _ ∧ _ < k0_off15 k 1 + 256; rw [k0_off15_eq]; show 256 * k.val ≤ (y 1 : ℕ) ∧ (y 1 : ℕ) < 256 * k.val + 256; omega))
  · refine exists_of_get _ 2 (by exact (show 2 < 16 by decide)) y ?_; exact (mem_unit2 rfl (inb := k0_off16_inb k) y (by show k0_off16 k 0 ≤ _ ∧ _ < k0_off16 k 0 + 32; rw [k0_off16_eq]; show 416 ≤ (y 0 : ℕ) ∧ (y 0 : ℕ) < 416 + 32; omega) (by show k0_off16 k 1 ≤ _ ∧ _ < k0_off16 k 1 + 256; rw [k0_off16_eq]; show 256 * k.val ≤ (y 1 : ℕ) ∧ (y 1 : ℕ) < 256 * k.val + 256; omega))
  · refine exists_of_get _ 1 (by exact (show 1 < 16 by decide)) y ?_; exact (mem_unit2 rfl (inb := k0_off17_inb k) y (by show k0_off17 k 0 ≤ _ ∧ _ < k0_off17 k 0 + 32; rw [k0_off17_eq]; show 448 ≤ (y 0 : ℕ) ∧ (y 0 : ℕ) < 448 + 32; omega) (by show k0_off17 k 1 ≤ _ ∧ _ < k0_off17 k 1 + 256; rw [k0_off17_eq]; show 256 * k.val ≤ (y 1 : ℕ) ∧ (y 1 : ℕ) < 256 * k.val + 256; omega))
  · refine exists_of_get _ 0 (by exact (show 0 < 16 by decide)) y ?_; exact (mem_unit2 rfl (inb := k0_off18_inb k) y (by show k0_off18 k 0 ≤ _ ∧ _ < k0_off18 k 0 + 32; rw [k0_off18_eq]; show 480 ≤ (y 0 : ℕ) ∧ (y 0 : ℕ) < 480 + 32; omega) (by show k0_off18 k 1 ≤ _ ∧ _ < k0_off18 k 1 + 256; rw [k0_off18_eq]; show 256 * k.val ≤ (y 1 : ℕ) ∧ (y 1 : ℕ) < 256 * k.val + 256; omega))

/-- One trip fills its 256 columns of the scales. -/
theorem cover0_scale (k : Fin k0_t1_loop.trips) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (y : S16x4096.Idx)
    (hk : (y 1 : ℕ) / 256 = k.val) : ∃ p ∈ (tripL_k0_t1 (F := F) 𝒱 c bd i arg1 harg1 arg2 harg2 arg3 harg3 arg4 harg4 arg5 harg5 arg6 harg6 X k f2 f3 f4 f5 f6).2.1, y ∈ p.1.set := by
  unfold tripL_k0_t1 trip_k0_t1
  dsimp only
  have hy : (y 0 : ℕ) < 16 := (y 0).isLt
  obtain ⟨r, hr⟩ : ∃ r, (y 0 : ℕ) / 8 = r := ⟨_, rfl⟩
  have hr' : r < 2 := by omega
  rcases (by omega : r = 0 ∨ r = 1) with rfl | rfl
  · refine exists_of_get _ 1 (by exact (show 1 < 2 by decide)) y ?_; exact (mem_unit2 rfl (inb := k0_off9_inb k) y (by show k0_off9 k 0 ≤ _ ∧ _ < k0_off9 k 0 + 8; rw [k0_off9_eq]; show 0 ≤ (y 0 : ℕ) ∧ (y 0 : ℕ) < 0 + 8; omega) (by show k0_off9 k 1 ≤ _ ∧ _ < k0_off9 k 1 + 256; rw [k0_off9_eq]; show 256 * k.val ≤ (y 1 : ℕ) ∧ (y 1 : ℕ) < 256 * k.val + 256; omega))
  · refine exists_of_get _ 0 (by exact (show 0 < 2 by decide)) y ?_; exact (mem_unit2 rfl (inb := k0_off19_inb k) y (by show k0_off19 k 0 ≤ _ ∧ _ < k0_off19 k 0 + 8; rw [k0_off19_eq]; show 8 ≤ (y 0 : ℕ) ∧ (y 0 : ℕ) < 8 + 8; omega) (by show k0_off19 k 1 ≤ _ ∧ _ < k0_off19 k 1 + 256; rw [k0_off19_eq]; show 256 * k.val ≤ (y 1 : ℕ) ∧ (y 1 : ℕ) < 256 * k.val + 256; omega))

/-- One trip fills its 256 rows of the transposed dequantised block. -/
theorem cover0_xt (k : Fin k0_t1_loop.trips) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (y : S1x4096x512.Idx)
    (hk : (y 1 : ℕ) / 256 = k.val) : ∃ p ∈ (tripL_k0_t1 (F := F) 𝒱 c bd i arg1 harg1 arg2 harg2 arg3 harg3 arg4 harg4 arg5 harg5 arg6 harg6 X k f2 f3 f4 f5 f6).2.2.1, y ∈ p.1.set := by
  unfold tripL_k0_t1 trip_k0_t1
  dsimp only
  have hy : (y 0 : ℕ) < 1 := (y 0).isLt
  have hy2 : (y 2 : ℕ) < 512 := (y 2).isLt
  have hk1 : 256 * k.val ≤ (y 1 : ℕ) ∧ (y 1 : ℕ) < 256 * k.val + 256 := by omega
  by_cases h : (y 2 : ℕ) < 256
  · refine exists_of_get _ 1 (by exact (show 1 < 2 by decide)) y ((Rect.mem_set_unit (inb := k0_off10_inb k)).2 fun a => ?_)
    show k0_off10 k a ≤ (y a : ℕ) ∧ (y a : ℕ) < k0_off10 k a + S1x256x256.size a
    rw [k0_off10_eq]
    fin_cases a
    · exact ⟨Nat.zero_le _, hy⟩
    · exact hk1
    · exact ⟨Nat.zero_le _, by show (y 2 : ℕ) < 0 + 256; omega⟩
  · refine exists_of_get _ 0 (by exact (show 0 < 2 by decide)) y ((Rect.mem_set_unit (inb := k0_off20_inb k)).2 fun a => ?_)
    show k0_off20 k a ≤ (y a : ℕ) ∧ (y a : ℕ) < k0_off20 k a + S1x256x256.size a
    rw [k0_off20_eq]
    fin_cases a
    · exact ⟨Nat.zero_le _, hy⟩
    · exact hk1
    · exact ⟨by show 256 ≤ (y 2 : ℕ); omega, by show (y 2 : ℕ) < 256 + 256; omega⟩

/-- All the trips together fill it. -/
theorem coverAll0_codes (g2 : BufTy.Contents (Elt F) arg2.view.ty) (g3 : BufTy.Contents (Elt F) arg3.view.ty) (g4 : BufTy.Contents (Elt F) arg4.view.ty) (g5 : BufTy.Contents (Elt F) arg5.view.ty) (g6 : BufTy.Contents (Elt F) arg6.view.ty) (y : S512x4096.Idx) :
    ∃ p ∈ (pb_k0_t1 (F := F) 𝒱 c bd i arg1 harg1 arg2 harg2 arg3 harg3 arg4 harg4 arg5 harg5 arg6 harg6 X g2 g3 g4 g5 g6 k0_t1_loop.trips).1, y ∈ p.1.set := by
  have hy : (y 1 : ℕ) < 4096 := (y 1).isLt
  have hT : k0_t1_loop.trips = 16 := by decide
  obtain ⟨p, hp, hm⟩ := cover0_codes 𝒱 c bd i arg1 harg1 arg2 harg2 arg3 harg3 arg4 harg4 arg5 harg5 arg6 harg6 X ⟨(y 1 : ℕ) / 256, by rw [hT]; omega⟩ g2 g3 g4 g5 g6 y rfl
  exact ⟨p, (mem_pb0 𝒱 c bd i arg1 harg1 arg2 harg2 arg3 harg3 arg4 harg4 arg5 harg5 arg6 harg6 X _ _ (by show (y 1 : ℕ) / 256 < k0_t1_loop.trips; rw [hT]; omega) le_rfl g2 g3 g4 g5 g6 g2 g3 g4 g5 g6).1 p hp, hm⟩

/-- All the trips together fill it. -/
theorem coverAll0_scale (g2 : BufTy.Contents (Elt F) arg2.view.ty) (g3 : BufTy.Contents (Elt F) arg3.view.ty) (g4 : BufTy.Contents (Elt F) arg4.view.ty) (g5 : BufTy.Contents (Elt F) arg5.view.ty) (g6 : BufTy.Contents (Elt F) arg6.view.ty) (y : S16x4096.Idx) :
    ∃ p ∈ (pb_k0_t1 (F := F) 𝒱 c bd i arg1 harg1 arg2 harg2 arg3 harg3 arg4 harg4 arg5 harg5 arg6 harg6 X g2 g3 g4 g5 g6 k0_t1_loop.trips).2.1, y ∈ p.1.set := by
  have hy : (y 1 : ℕ) < 4096 := (y 1).isLt
  have hT : k0_t1_loop.trips = 16 := by decide
  obtain ⟨p, hp, hm⟩ := cover0_scale 𝒱 c bd i arg1 harg1 arg2 harg2 arg3 harg3 arg4 harg4 arg5 harg5 arg6 harg6 X ⟨(y 1 : ℕ) / 256, by rw [hT]; omega⟩ g2 g3 g4 g5 g6 y rfl
  exact ⟨p, (mem_pb0 𝒱 c bd i arg1 harg1 arg2 harg2 arg3 harg3 arg4 harg4 arg5 harg5 arg6 harg6 X _ _ (by show (y 1 : ℕ) / 256 < k0_t1_loop.trips; rw [hT]; omega) le_rfl g2 g3 g4 g5 g6 g2 g3 g4 g5 g6).2.1 p hp, hm⟩

/-- All the trips together fill it. -/
theorem coverAll0_xt (g2 : BufTy.Contents (Elt F) arg2.view.ty) (g3 : BufTy.Contents (Elt F) arg3.view.ty) (g4 : BufTy.Contents (Elt F) arg4.view.ty) (g5 : BufTy.Contents (Elt F) arg5.view.ty) (g6 : BufTy.Contents (Elt F) arg6.view.ty) (y : S1x4096x512.Idx) :
    ∃ p ∈ (pb_k0_t1 (F := F) 𝒱 c bd i arg1 harg1 arg2 harg2 arg3 harg3 arg4 harg4 arg5 harg5 arg6 harg6 X g2 g3 g4 g5 g6 k0_t1_loop.trips).2.2.1, y ∈ p.1.set := by
  have hy : (y 1 : ℕ) < 4096 := (y 1).isLt
  have hT : k0_t1_loop.trips = 16 := by decide
  obtain ⟨p, hp, hm⟩ := cover0_xt 𝒱 c bd i arg1 harg1 arg2 harg2 arg3 harg3 arg4 harg4 arg5 harg5 arg6 harg6 X ⟨(y 1 : ℕ) / 256, by rw [hT]; omega⟩ g2 g3 g4 g5 g6 y rfl
  exact ⟨p, (mem_pb0 𝒱 c bd i arg1 harg1 arg2 harg2 arg3 harg3 arg4 harg4 arg5 harg5 arg6 harg6 X _ _ (by show (y 1 : ℕ) / 256 < k0_t1_loop.trips; rw [hT]; omega) le_rfl g2 g3 g4 g5 g6 g2 g3 g4 g5 g6).2.2.1 p hp, hm⟩

end K0

/-! ## Kernel 1 -/

section K1

variable (𝒱 : Variants) (c : Dev nD) (bd : Option 𝒱.V) (i : grid1.Coords) (arg2 : Memref sig .tc .vmem S1x4096x512 .bf16) (harg2 : arg2.IsWhole) (arg3 : Memref sig .tc .vmem S512x1024 .bf16) (harg3 : arg3.IsWhole) (arg4 : Memref sig .tc .vmem S4096x1024 .f32) (harg4 : arg4.IsWhole) (arg5 : Memref sig .tc .vmem S512x1024 .fp8e5m2) (harg5 : arg5.IsWhole) (arg6 : Memref sig .tc .vmem S16x1024 .f32) (harg6 : arg6.IsWhole) (arg7 : Memref sig .tc .vmem S2x8x256 .i32) (harg7 : arg7.IsWhole) (arg8 : Memref sig .tc .vmem S512x1024 .bf16) (harg8 : arg8.IsWhole)
  (X : BufTy.Contents (Elt F) arg3.view.ty)

/-- One trip's pieces do not depend on what the buffers it writes held. -/
theorem tripL1_indep (k : Fin k1_t1_loop.trips) (f5 : BufTy.Contents (Elt F) arg5.view.ty) (f6 : BufTy.Contents (Elt F) arg6.view.ty) (f7 : BufTy.Contents (Elt F) arg7.view.ty) (f8 : BufTy.Contents (Elt F) arg8.view.ty) (g5 : BufTy.Contents (Elt F) arg5.view.ty) (g6 : BufTy.Contents (Elt F) arg6.view.ty) (g7 : BufTy.Contents (Elt F) arg7.view.ty) (g8 : BufTy.Contents (Elt F) arg8.view.ty) :
    tripL_k1_t1 (F := F) 𝒱 c bd i arg2 harg2 arg3 harg3 arg4 harg4 arg5 harg5 arg6 harg6 arg7 harg7 arg8 harg8 X k f5 f6 f7 f8 = tripL_k1_t1 𝒱 c bd i arg2 harg2 arg3 harg3 arg4 harg4 arg5 harg5 arg6 harg6 arg7 harg7 arg8 harg8 X k g5 g6 g7 g8 := by
  unfold tripL_k1_t1 trip_k1_t1; rfl

/-- A trip's pieces put in front of the earlier trips'. -/
def app1 (T P : List (View.Piece (Elt F) S512x1024 .fp8e5m2) × List (View.Piece (Elt F) S16x1024 .f32) × List (View.Piece (Elt F) S2x8x256 .i32) × List (View.Piece (Elt F) S512x1024 .bf16)) : List (View.Piece (Elt F) S512x1024 .fp8e5m2) × List (View.Piece (Elt F) S16x1024 .f32) × List (View.Piece (Elt F) S2x8x256 .i32) × List (View.Piece (Elt F) S512x1024 .bf16) := (T.1 ++ P.1, T.2.1 ++ P.2.1, T.2.2.1 ++ P.2.2.1, T.2.2.2 ++ P.2.2.2)

/-- The pieces of one trip more. -/
theorem pbS1 (n : ℕ) (h : n < k1_t1_loop.trips) (f5 : BufTy.Contents (Elt F) arg5.view.ty) (f6 : BufTy.Contents (Elt F) arg6.view.ty) (f7 : BufTy.Contents (Elt F) arg7.view.ty) (f8 : BufTy.Contents (Elt F) arg8.view.ty) (g5 : BufTy.Contents (Elt F) arg5.view.ty) (g6 : BufTy.Contents (Elt F) arg6.view.ty) (g7 : BufTy.Contents (Elt F) arg7.view.ty) (g8 : BufTy.Contents (Elt F) arg8.view.ty) :
    pb_k1_t1 (F := F) 𝒱 c bd i arg2 harg2 arg3 harg3 arg4 harg4 arg5 harg5 arg6 harg6 arg7 harg7 arg8 harg8 X g5 g6 g7 g8 (n + 1) = app1 (tripL_k1_t1 𝒱 c bd i arg2 harg2 arg3 harg3 arg4 harg4 arg5 harg5 arg6 harg6 arg7 harg7 arg8 harg8 X ⟨n, h⟩ f5 f6 f7 f8) (pb_k1_t1 𝒱 c bd i arg2 harg2 arg3 harg3 arg4 harg4 arg5 harg5 arg6 harg6 arg7 harg7 arg8 harg8 X g5 g6 g7 g8 n) :=
  (pb_k1_t1_succ (F := F) 𝒱 c bd i arg2 harg2 arg3 harg3 arg4 harg4 arg5 harg5 arg6 harg6 arg7 harg7 arg8 harg8 X g5 g6 g7 g8 ⟨n, h⟩).trans
    (congrArg (fun T => app1 T (pb_k1_t1 𝒱 c bd i arg2 harg2 arg3 harg3 arg4 harg4 arg5 harg5 arg6 harg6 arg7 harg7 arg8 harg8 X g5 g6 g7 g8 n)) (tripL1_indep 𝒱 c bd i arg2 harg2 arg3 harg3 arg4 harg4 arg5 harg5 arg6 harg6 arg7 harg7 arg8 harg8 X ⟨n, h⟩ _ _ _ _ f5 f6 f7 f8))

/-- Past the last trip nothing is added. -/
theorem pbS1_of_not (n : ℕ) (h : ¬ n < k1_t1_loop.trips) (g5 : BufTy.Contents (Elt F) arg5.view.ty) (g6 : BufTy.Contents (Elt F) arg6.view.ty) (g7 : BufTy.Contents (Elt F) arg7.view.ty) (g8 : BufTy.Contents (Elt F) arg8.view.ty) :
    pb_k1_t1 (F := F) 𝒱 c bd i arg2 harg2 arg3 harg3 arg4 harg4 arg5 harg5 arg6 harg6 arg7 harg7 arg8 harg8 X g5 g6 g7 g8 (n + 1) = pb_k1_t1 𝒱 c bd i arg2 harg2 arg3 harg3 arg4 harg4 arg5 harg5 arg6 harg6 arg7 harg7 arg8 harg8 X g5 g6 g7 g8 n := by
  rw [pb_k1_t1.eq_2]; unfold pb_k1_t1Step; rw [dif_neg h]

/-- Nor do the pieces of the first `n` trips. -/
theorem pb1_indep (n : ℕ) (f5 : BufTy.Contents (Elt F) arg5.view.ty) (f6 : BufTy.Contents (Elt F) arg6.view.ty) (f7 : BufTy.Contents (Elt F) arg7.view.ty) (f8 : BufTy.Contents (Elt F) arg8.view.ty) (g5 : BufTy.Contents (Elt F) arg5.view.ty) (g6 : BufTy.Contents (Elt F) arg6.view.ty) (g7 : BufTy.Contents (Elt F) arg7.view.ty) (g8 : BufTy.Contents (Elt F) arg8.view.ty) :
    pb_k1_t1 (F := F) 𝒱 c bd i arg2 harg2 arg3 harg3 arg4 harg4 arg5 harg5 arg6 harg6 arg7 harg7 arg8 harg8 X f5 f6 f7 f8 n = pb_k1_t1 𝒱 c bd i arg2 harg2 arg3 harg3 arg4 harg4 arg5 harg5 arg6 harg6 arg7 harg7 arg8 harg8 X g5 g6 g7 g8 n := by
  induction n with
  | zero => rfl
  | succ n ih =>
    by_cases h : n < k1_t1_loop.trips
    · rw [pbS1 𝒱 c bd i arg2 harg2 arg3 harg3 arg4 harg4 arg5 harg5 arg6 harg6 arg7 harg7 arg8 harg8 X n h f5 f6 f7 f8 f5 f6 f7 f8, pbS1 𝒱 c bd i arg2 harg2 arg3 harg3 arg4 harg4 arg5 harg5 arg6 harg6 arg7 harg7 arg8 harg8 X n h f5 f6 f7 f8 g5 g6 g7 g8, ih]
    · rw [pbS1_of_not 𝒱 c bd i arg2 harg2 arg3 harg3 arg4 harg4 arg5 harg5 arg6 harg6 arg7 harg7 arg8 harg8 X n h, pbS1_of_not 𝒱 c bd i arg2 harg2 arg3 harg3 arg4 harg4 arg5 harg5 arg6 harg6 arg7 harg7 arg8 harg8 X n h, ih]

/-- A piece of trip `k` is one of the first `n` trips' pieces for every `n` past `k`. -/
theorem mem_pb1 (k : Fin k1_t1_loop.trips) (n : ℕ) (hn : k.val < n) (hN : n ≤ k1_t1_loop.trips) (f5 : BufTy.Contents (Elt F) arg5.view.ty) (f6 : BufTy.Contents (Elt F) arg6.view.ty) (f7 : BufTy.Contents (Elt F) arg7.view.ty) (f8 : BufTy.Contents (Elt F) arg8.view.ty) (g5 : BufTy.Contents (Elt F) arg5.view.ty) (g6 : BufTy.Contents (Elt F) arg6.view.ty) (g7 : BufTy.Contents (Elt F) arg7.view.ty) (g8 : BufTy.Contents (Elt F) arg8.view.ty) :
    (∀ p ∈ (tripL_k1_t1 (F := F) 𝒱 c bd i arg2 harg2 arg3 harg3 arg4 harg4 arg5 harg5 arg6 harg6 arg7 harg7 arg8 harg8 X k f5 f6 f7 f8).1, p ∈ (pb_k1_t1 (F := F) 𝒱 c bd i arg2 harg2 arg3 harg3 arg4 harg4 arg5 harg5 arg6 harg6 arg7 harg7 arg8 harg8 X g5 g6 g7 g8 n).1) ∧
    (∀ p ∈ (tripL_k1_t1 (F := F) 𝒱 c bd i arg2 harg2 arg3 harg3 arg4 harg4 arg5 harg5 arg6 harg6 arg7 harg7 arg8 harg8 X k f5 f6 f7 f8).2.1, p ∈ (pb_k1_t1 (F := F) 𝒱 c bd i arg2 harg2 arg3 harg3 arg4 harg4 arg5 harg5 arg6 harg6 arg7 harg7 arg8 harg8 X g5 g6 g7 g8 n).2.1) ∧
    (∀ p ∈ (tripL_k1_t1 (F := F) 𝒱 c bd i arg2 harg2 arg3 harg3 arg4 harg4 arg5 harg5 arg6 harg6 arg7 harg7 arg8 harg8 X k f5 f6 f7 f8).2.2.1, p ∈ (pb_k1_t1 (F := F) 𝒱 c bd i arg2 harg2 arg3 harg3 arg4 harg4 arg5 harg5 arg6 harg6 arg7 harg7 arg8 harg8 X g5 g6 g7 g8 n).2.2.1) ∧
    (∀ p ∈ (tripL_k1_t1 (F := F) 𝒱 c bd i arg2 harg2 arg3 harg3 arg4 harg4 arg5 harg5 arg6 harg6 arg7 harg7 arg8 harg8 X k f5 f6 f7 f8).2.2.2, p ∈ (pb_k1_t1 (F := F) 𝒱 c bd i arg2 harg2 arg3 harg3 arg4 harg4 arg5 harg5 arg6 harg6 arg7 harg7 arg8 harg8 X g5 g6 g7 g8 n).2.2.2) := by
  induction n with
  | zero => exact absurd hn (Nat.not_lt_zero _)
  | succ n ih =>
    rw [pbS1 𝒱 c bd i arg2 harg2 arg3 harg3 arg4 harg4 arg5 harg5 arg6 harg6 arg7 harg7 arg8 harg8 X n hN f5 f6 f7 f8 g5 g6 g7 g8]
    by_cases h : k.val = n
    · obtain rfl : k = ⟨n, hN⟩ := Fin.ext h
      exact ⟨fun p hp => List.mem_append_left _ hp, fun p hp => List.mem_append_left _ hp, fun p hp => List.mem_append_left _ hp, fun p hp => List.mem_append_left _ hp⟩
    · have := ih (by omega) (by omega)
      exact ⟨fun p hp => List.mem_append_right _ (this.1 p hp), fun p hp => List.mem_append_right _ (this.2.1 p hp), fun p hp => List.mem_append_right _ (this.2.2.1 p hp), fun p hp => List.mem_append_right _ (this.2.2.2 p hp)⟩

/-- Conversely each of the first `n` trips' pieces is some trip's. -/
theorem of_mem_pb1 (n : ℕ) (f5 : BufTy.Contents (Elt F) arg5.view.ty) (f6 : BufTy.Contents (Elt F) arg6.view.ty) (f7 : BufTy.Contents (Elt F) arg7.view.ty) (f8 : BufTy.Contents (Elt F) arg8.view.ty) (g5 : BufTy.Contents (Elt F) arg5.view.ty) (g6 : BufTy.Contents (Elt F) arg6.view.ty) (g7 : BufTy.Contents (Elt F) arg7.view.ty) (g8 : BufTy.Contents (Elt F) arg8.view.ty) :
    (∀ p ∈ (pb_k1_t1 (F := F) 𝒱 c bd i arg2 harg2 arg3 harg3 arg4 harg4 arg5 harg5 arg6 harg6 arg7 harg7 arg8 harg8 X g5 g6 g7 g8 n).1, ∃ k : Fin k1_t1_loop.trips, p ∈ (tripL_k1_t1 (F := F) 𝒱 c bd i arg2 harg2 arg3 harg3 arg4 harg4 arg5 harg5 arg6 harg6 arg7 harg7 arg8 harg8 X k f5 f6 f7 f8).1) ∧
    (∀ p ∈ (pb_k1_t1 (F := F) 𝒱 c bd i arg2 harg2 arg3 harg3 arg4 harg4 arg5 harg5 arg6 harg6 arg7 harg7 arg8 harg8 X g5 g6 g7 g8 n).2.1, ∃ k : Fin k1_t1_loop.trips, p ∈ (tripL_k1_t1 (F := F) 𝒱 c bd i arg2 harg2 arg3 harg3 arg4 harg4 arg5 harg5 arg6 harg6 arg7 harg7 arg8 harg8 X k f5 f6 f7 f8).2.1) ∧
    (∀ p ∈ (pb_k1_t1 (F := F) 𝒱 c bd i arg2 harg2 arg3 harg3 arg4 harg4 arg5 harg5 arg6 harg6 arg7 harg7 arg8 harg8 X g5 g6 g7 g8 n).2.2.1, ∃ k : Fin k1_t1_loop.trips, p ∈ (tripL_k1_t1 (F := F) 𝒱 c bd i arg2 harg2 arg3 harg3 arg4 harg4 arg5 harg5 arg6 harg6 arg7 harg7 arg8 harg8 X k f5 f6 f7 f8).2.2.1) ∧
    (∀ p ∈ (pb_k1_t1 (F := F) 𝒱 c bd i arg2 harg2 arg3 harg3 arg4 harg4 arg5 harg5 arg6 harg6 arg7 harg7 arg8 harg8 X g5 g6 g7 g8 n).2.2.2, ∃ k : Fin k1_t1_loop.trips, p ∈ (tripL_k1_t1 (F := F) 𝒱 c bd i arg2 harg2 arg3 harg3 arg4 harg4 arg5 harg5 arg6 harg6 arg7 harg7 arg8 harg8 X k f5 f6 f7 f8).2.2.2) := by
  induction n with
  | zero => exact ⟨fun p hp => absurd hp List.not_mem_nil, fun p hp => absurd hp List.not_mem_nil, fun p hp => absurd hp List.not_mem_nil, fun p hp => absurd hp List.not_mem_nil⟩
  | succ n ih =>
    by_cases h : n < k1_t1_loop.trips
    · rw [pbS1 𝒱 c bd i arg2 harg2 arg3 harg3 arg4 harg4 arg5 harg5 arg6 harg6 arg7 harg7 arg8 harg8 X n h f5 f6 f7 f8 g5 g6 g7 g8]
      exact ⟨fun p hp => (List.mem_append.1 hp).elim (fun hp => ⟨⟨n, h⟩, hp⟩) (ih.1 p), fun p hp => (List.mem_append.1 hp).elim (fun hp => ⟨⟨n, h⟩, hp⟩) (ih.2.1 p), fun p hp => (List.mem_append.1 hp).elim (fun hp => ⟨⟨n, h⟩, hp⟩) (ih.2.2.1 p), fun p hp => (List.mem_append.1 hp).elim (fun hp => ⟨⟨n, h⟩, hp⟩) (ih.2.2.2 p)⟩
    · rw [pbS1_of_not 𝒱 c bd i arg2 harg2 arg3 harg3 arg4 harg4 arg5 harg5 arg6 harg6 arg7 harg7 arg8 harg8 X n h]; exact ih

/-- The offsets the kernel computes, in closed form. -/
theorem k1_off1_eq (k : Fin k1_t1_loop.trips) : k1_off1 k = ![0, 256 * k.val] := by revert k; decide +kernel
theorem k1_off2_eq (k : Fin k1_t1_loop.trips) : k1_off2 k = ![32, 256 * k.val] := by revert k; decide +kernel
theorem k1_off3_eq (k : Fin k1_t1_loop.trips) : k1_off3 k = ![64, 256 * k.val] := by revert k; decide +kernel
theorem k1_off4_eq (k : Fin k1_t1_loop.trips) : k1_off4 k = ![96, 256 * k.val] := by revert k; decide +kernel
theorem k1_off5_eq (k : Fin k1_t1_loop.trips) : k1_off5 k = ![128, 256 * k.val] := by revert k; decide +kernel
theorem k1_off6_eq (k : Fin k1_t1_loop.trips) : k1_off6 k = ![160, 256 * k.val] := by revert k; decide +kernel
theorem k1_off7_eq (k : Fin k1_t1_loop.trips) : k1_off7 k = ![192, 256 * k.val] := by revert k; decide +kernel
theorem k1_off8_eq (k : Fin k1_t1_loop.trips) : k1_off8 k = ![224, 256 * k.val] := by revert k; decide +kernel
theorem k1_off10_eq (k : Fin k1_t1_loop.trips) : k1_off10 k = ![256, 256 * k.val] := by revert k; decide +kernel
theorem k1_off11_eq (k : Fin k1_t1_loop.trips) : k1_off11 k = ![288, 256 * k.val] := by revert k; decide +kernel
theorem k1_off12_eq (k : Fin k1_t1_loop.trips) : k1_off12 k = ![320, 256 * k.val] := by revert k; decide +kernel
theorem k1_off13_eq (k : Fin k1_t1_loop.trips) : k1_off13 k = ![352, 256 * k.val] := by revert k; decide +kernel
theorem k1_off14_eq (k : Fin k1_t1_loop.trips) : k1_off14 k = ![384, 256 * k.val] := by revert k; decide +kernel
theorem k1_off15_eq (k : Fin k1_t1_loop.trips) : k1_off15 k = ![416, 256 * k.val] := by revert k; decide +kernel
theorem k1_off16_eq (k : Fin k1_t1_loop.trips) : k1_off16 k = ![448, 256 * k.val] := by revert k; decide +kernel
theorem k1_off17_eq (k : Fin k1_t1_loop.trips) : k1_off17 k = ![480, 256 * k.val] := by revert k; decide +kernel
theorem k1_off9_eq (k : Fin k1_t1_loop.trips) : k1_off9 k = ![0, 256 * k.val] := by revert k; decide +kernel
theorem k1_off18_eq (k : Fin k1_t1_loop.trips) : k1_off18 k = ![8, 256 * k.val] := by revert k; decide +kernel

/-- One trip fills its 256 columns of the codes. -/
theorem cover1_codes (k : Fin k1_t1_loop.trips) (f5 : BufTy.Contents (Elt F) arg5.view.ty) (f6 : BufTy.Contents (Elt F) arg6.view.ty) (f7 : BufTy.Contents (Elt F) arg7.view.ty) (f8 : BufTy.Contents (Elt F) arg8.view.ty) (y : S512x1024.Idx)
    (hk : (y 1 : ℕ) / 256 = k.val) : ∃ p ∈ (tripL_k1_t1 (F := F) 𝒱 c bd i arg2 harg2 arg3 harg3 arg4 harg4 arg5 harg5 arg6 harg6 arg7 harg7 arg8 harg8 X k f5 f6 f7 f8).1, y ∈ p.1.set := by
  unfold tripL_k1_t1 trip_k1_t1
  dsimp only
  have hy : (y 0 : ℕ) < 512 := (y 0).isLt
  obtain ⟨r, hr⟩ : ∃ r, (y 0 : ℕ) / 32 = r := ⟨_, rfl⟩
  have hr' : r < 16 := by omega
  rcases (by omega : r = 0 ∨ r = 1 ∨ r = 2 ∨ r = 3 ∨ r = 4 ∨ r = 5 ∨ r = 6 ∨ r = 7 ∨ r = 8 ∨ r = 9 ∨ r = 10 ∨ r = 11 ∨ r = 12 ∨ r = 13 ∨ r = 14 ∨ r = 15) with rfl | rfl | rfl | rfl | rfl | rfl | rfl | rfl | rfl | rfl | rfl | rfl | rfl | rfl | rfl | rfl
  · refine exists_of_get _ 15 (by exact (show 15 < 16 by decide)) y ?_; exact (mem_unit2 rfl (inb := k1_off1_inb k) y (by show k1_off1 k 0 ≤ _ ∧ _ < k1_off1 k 0 + 32; rw [k1_off1_eq]; show 0 ≤ (y 0 : ℕ) ∧ (y 0 : ℕ) < 0 + 32; omega) (by show k1_off1 k 1 ≤ _ ∧ _ < k1_off1 k 1 + 256; rw [k1_off1_eq]; show 256 * k.val ≤ (y 1 : ℕ) ∧ (y 1 : ℕ) < 256 * k.val + 256; omega))
  · refine exists_of_get _ 14 (by exact (show 14 < 16 by decide)) y ?_; exact (mem_unit2 rfl (inb := k1_off2_inb k) y (by show k1_off2 k 0 ≤ _ ∧ _ < k1_off2 k 0 + 32; rw [k1_off2_eq]; show 32 ≤ (y 0 : ℕ) ∧ (y 0 : ℕ) < 32 + 32; omega) (by show k1_off2 k 1 ≤ _ ∧ _ < k1_off2 k 1 + 256; rw [k1_off2_eq]; show 256 * k.val ≤ (y 1 : ℕ) ∧ (y 1 : ℕ) < 256 * k.val + 256; omega))
  · refine exists_of_get _ 13 (by exact (show 13 < 16 by decide)) y ?_; exact (mem_unit2 rfl (inb := k1_off3_inb k) y (by show k1_off3 k 0 ≤ _ ∧ _ < k1_off3 k 0 + 32; rw [k1_off3_eq]; show 64 ≤ (y 0 : ℕ) ∧ (y 0 : ℕ) < 64 + 32; omega) (by show k1_off3 k 1 ≤ _ ∧ _ < k1_off3 k 1 + 256; rw [k1_off3_eq]; show 256 * k.val ≤ (y 1 : ℕ) ∧ (y 1 : ℕ) < 256 * k.val + 256; omega))
  · refine exists_of_get _ 12 (by exact (show 12 < 16 by decide)) y ?_; exact (mem_unit2 rfl (inb := k1_off4_inb k) y (by show k1_off4 k 0 ≤ _ ∧ _ < k1_off4 k 0 + 32; rw [k1_off4_eq]; show 96 ≤ (y 0 : ℕ) ∧ (y 0 : ℕ) < 96 + 32; omega) (by show k1_off4 k 1 ≤ _ ∧ _ < k1_off4 k 1 + 256; rw [k1_off4_eq]; show 256 * k.val ≤ (y 1 : ℕ) ∧ (y 1 : ℕ) < 256 * k.val + 256; omega))
  · refine exists_of_get _ 11 (by exact (show 11 < 16 by decide)) y ?_; exact (mem_unit2 rfl (inb := k1_off5_inb k) y (by show k1_off5 k 0 ≤ _ ∧ _ < k1_off5 k 0 + 32; rw [k1_off5_eq]; show 128 ≤ (y 0 : ℕ) ∧ (y 0 : ℕ) < 128 + 32; omega) (by show k1_off5 k 1 ≤ _ ∧ _ < k1_off5 k 1 + 256; rw [k1_off5_eq]; show 256 * k.val ≤ (y 1 : ℕ) ∧ (y 1 : ℕ) < 256 * k.val + 256; omega))
  · refine exists_of_get _ 10 (by exact (show 10 < 16 by decide)) y ?_; exact (mem_unit2 rfl (inb := k1_off6_inb k) y (by show k1_off6 k 0 ≤ _ ∧ _ < k1_off6 k 0 + 32; rw [k1_off6_eq]; show 160 ≤ (y 0 : ℕ) ∧ (y 0 : ℕ) < 160 + 32; omega) (by show k1_off6 k 1 ≤ _ ∧ _ < k1_off6 k 1 + 256; rw [k1_off6_eq]; show 256 * k.val ≤ (y 1 : ℕ) ∧ (y 1 : ℕ) < 256 * k.val + 256; omega))
  · refine exists_of_get _ 9 (by exact (show 9 < 16 by decide)) y ?_; exact (mem_unit2 rfl (inb := k1_off7_inb k) y (by show k1_off7 k 0 ≤ _ ∧ _ < k1_off7 k 0 + 32; rw [k1_off7_eq]; show 192 ≤ (y 0 : ℕ) ∧ (y 0 : ℕ) < 192 + 32; omega) (by show k1_off7 k 1 ≤ _ ∧ _ < k1_off7 k 1 + 256; rw [k1_off7_eq]; show 256 * k.val ≤ (y 1 : ℕ) ∧ (y 1 : ℕ) < 256 * k.val + 256; omega))
  · refine exists_of_get _ 8 (by exact (show 8 < 16 by decide)) y ?_; exact (mem_unit2 rfl (inb := k1_off8_inb k) y (by show k1_off8 k 0 ≤ _ ∧ _ < k1_off8 k 0 + 32; rw [k1_off8_eq]; show 224 ≤ (y 0 : ℕ) ∧ (y 0 : ℕ) < 224 + 32; omega) (by show k1_off8 k 1 ≤ _ ∧ _ < k1_off8 k 1 + 256; rw [k1_off8_eq]; show 256 * k.val ≤ (y 1 : ℕ) ∧ (y 1 : ℕ) < 256 * k.val + 256; omega))
  · refine exists_of_get _ 7 (by exact (show 7 < 16 by decide)) y ?_; exact (mem_unit2 rfl (inb := k1_off10_inb k) y (by show k1_off10 k 0 ≤ _ ∧ _ < k1_off10 k 0 + 32; rw [k1_off10_eq]; show 256 ≤ (y 0 : ℕ) ∧ (y 0 : ℕ) < 256 + 32; omega) (by show k1_off10 k 1 ≤ _ ∧ _ < k1_off10 k 1 + 256; rw [k1_off10_eq]; show 256 * k.val ≤ (y 1 : ℕ) ∧ (y 1 : ℕ) < 256 * k.val + 256; omega))
  · refine exists_of_get _ 6 (by exact (show 6 < 16 by decide)) y ?_; exact (mem_unit2 rfl (inb := k1_off11_inb k) y (by show k1_off11 k 0 ≤ _ ∧ _ < k1_off11 k 0 + 32; rw [k1_off11_eq]; show 288 ≤ (y 0 : ℕ) ∧ (y 0 : ℕ) < 288 + 32; omega) (by show k1_off11 k 1 ≤ _ ∧ _ < k1_off11 k 1 + 256; rw [k1_off11_eq]; show 256 * k.val ≤ (y 1 : ℕ) ∧ (y 1 : ℕ) < 256 * k.val + 256; omega))
  · refine exists_of_get _ 5 (by exact (show 5 < 16 by decide)) y ?_; exact (mem_unit2 rfl (inb := k1_off12_inb k) y (by show k1_off12 k 0 ≤ _ ∧ _ < k1_off12 k 0 + 32; rw [k1_off12_eq]; show 320 ≤ (y 0 : ℕ) ∧ (y 0 : ℕ) < 320 + 32; omega) (by show k1_off12 k 1 ≤ _ ∧ _ < k1_off12 k 1 + 256; rw [k1_off12_eq]; show 256 * k.val ≤ (y 1 : ℕ) ∧ (y 1 : ℕ) < 256 * k.val + 256; omega))
  · refine exists_of_get _ 4 (by exact (show 4 < 16 by decide)) y ?_; exact (mem_unit2 rfl (inb := k1_off13_inb k) y (by show k1_off13 k 0 ≤ _ ∧ _ < k1_off13 k 0 + 32; rw [k1_off13_eq]; show 352 ≤ (y 0 : ℕ) ∧ (y 0 : ℕ) < 352 + 32; omega) (by show k1_off13 k 1 ≤ _ ∧ _ < k1_off13 k 1 + 256; rw [k1_off13_eq]; show 256 * k.val ≤ (y 1 : ℕ) ∧ (y 1 : ℕ) < 256 * k.val + 256; omega))
  · refine exists_of_get _ 3 (by exact (show 3 < 16 by decide)) y ?_; exact (mem_unit2 rfl (inb := k1_off14_inb k) y (by show k1_off14 k 0 ≤ _ ∧ _ < k1_off14 k 0 + 32; rw [k1_off14_eq]; show 384 ≤ (y 0 : ℕ) ∧ (y 0 : ℕ) < 384 + 32; omega) (by show k1_off14 k 1 ≤ _ ∧ _ < k1_off14 k 1 + 256; rw [k1_off14_eq]; show 256 * k.val ≤ (y 1 : ℕ) ∧ (y 1 : ℕ) < 256 * k.val + 256; omega))
  · refine exists_of_get _ 2 (by exact (show 2 < 16 by decide)) y ?_; exact (mem_unit2 rfl (inb := k1_off15_inb k) y (by show k1_off15 k 0 ≤ _ ∧ _ < k1_off15 k 0 + 32; rw [k1_off15_eq]; show 416 ≤ (y 0 : ℕ) ∧ (y 0 : ℕ) < 416 + 32; omega) (by show k1_off15 k 1 ≤ _ ∧ _ < k1_off15 k 1 + 256; rw [k1_off15_eq]; show 256 * k.val ≤ (y 1 : ℕ) ∧ (y 1 : ℕ) < 256 * k.val + 256; omega))
  · refine exists_of_get _ 1 (by exact (show 1 < 16 by decide)) y ?_; exact (mem_unit2 rfl (inb := k1_off16_inb k) y (by show k1_off16 k 0 ≤ _ ∧ _ < k1_off16 k 0 + 32; rw [k1_off16_eq]; show 448 ≤ (y 0 : ℕ) ∧ (y 0 : ℕ) < 448 + 32; omega) (by show k1_off16 k 1 ≤ _ ∧ _ < k1_off16 k 1 + 256; rw [k1_off16_eq]; show 256 * k.val ≤ (y 1 : ℕ) ∧ (y 1 : ℕ) < 256 * k.val + 256; omega))
  · refine exists_of_get _ 0 (by exact (show 0 < 16 by decide)) y ?_; exact (mem_unit2 rfl (inb := k1_off17_inb k) y (by show k1_off17 k 0 ≤ _ ∧ _ < k1_off17 k 0 + 32; rw [k1_off17_eq]; show 480 ≤ (y 0 : ℕ) ∧ (y 0 : ℕ) < 480 + 32; omega) (by show k1_off17 k 1 ≤ _ ∧ _ < k1_off17 k 1 + 256; rw [k1_off17_eq]; show 256 * k.val ≤ (y 1 : ℕ) ∧ (y 1 : ℕ) < 256 * k.val + 256; omega))

/-- One trip fills its 256 columns of the scales. -/
theorem cover1_scale (k : Fin k1_t1_loop.trips) (f5 : BufTy.Contents (Elt F) arg5.view.ty) (f6 : BufTy.Contents (Elt F) arg6.view.ty) (f7 : BufTy.Contents (Elt F) arg7.view.ty) (f8 : BufTy.Contents (Elt F) arg8.view.ty) (y : S16x1024.Idx)
    (hk : (y 1 : ℕ) / 256 = k.val) : ∃ p ∈ (tripL_k1_t1 (F := F) 𝒱 c bd i arg2 harg2 arg3 harg3 arg4 harg4 arg5 harg5 arg6 harg6 arg7 harg7 arg8 harg8 X k f5 f6 f7 f8).2.1, y ∈ p.1.set := by
  unfold tripL_k1_t1 trip_k1_t1
  dsimp only
  have hy : (y 0 : ℕ) < 16 := (y 0).isLt
  obtain ⟨r, hr⟩ : ∃ r, (y 0 : ℕ) / 8 = r := ⟨_, rfl⟩
  have hr' : r < 2 := by omega
  rcases (by omega : r = 0 ∨ r = 1) with rfl | rfl
  · refine exists_of_get _ 1 (by exact (show 1 < 2 by decide)) y ?_; exact (mem_unit2 rfl (inb := k1_off9_inb k) y (by show k1_off9 k 0 ≤ _ ∧ _ < k1_off9 k 0 + 8; rw [k1_off9_eq]; show 0 ≤ (y 0 : ℕ) ∧ (y 0 : ℕ) < 0 + 8; omega) (by show k1_off9 k 1 ≤ _ ∧ _ < k1_off9 k 1 + 256; rw [k1_off9_eq]; show 256 * k.val ≤ (y 1 : ℕ) ∧ (y 1 : ℕ) < 256 * k.val + 256; omega))
  · refine exists_of_get _ 0 (by exact (show 0 < 2 by decide)) y ?_; exact (mem_unit2 rfl (inb := k1_off18_inb k) y (by show k1_off18 k 0 ≤ _ ∧ _ < k1_off18 k 0 + 8; rw [k1_off18_eq]; show 8 ≤ (y 0 : ℕ) ∧ (y 0 : ℕ) < 8 + 8; omega) (by show k1_off18 k 1 ≤ _ ∧ _ < k1_off18 k 1 + 256; rw [k1_off18_eq]; show 256 * k.val ≤ (y 1 : ℕ) ∧ (y 1 : ℕ) < 256 * k.val + 256; omega))

/-- One trip fills its 256 columns of the dequantised block. -/
theorem cover1_hat (k : Fin k1_t1_loop.trips) (f5 : BufTy.Contents (Elt F) arg5.view.ty) (f6 : BufTy.Contents (Elt F) arg6.view.ty) (f7 : BufTy.Contents (Elt F) arg7.view.ty) (f8 : BufTy.Contents (Elt F) arg8.view.ty) (y : S512x1024.Idx)
    (hk : (y 1 : ℕ) / 256 = k.val) : ∃ p ∈ (tripL_k1_t1 (F := F) 𝒱 c bd i arg2 harg2 arg3 harg3 arg4 harg4 arg5 harg5 arg6 harg6 arg7 harg7 arg8 harg8 X k f5 f6 f7 f8).2.2.2, y ∈ p.1.set := by
  unfold tripL_k1_t1 trip_k1_t1
  dsimp only
  have hy : (y 0 : ℕ) < 512 := (y 0).isLt
  obtain ⟨r, hr⟩ : ∃ r, (y 0 : ℕ) / 32 = r := ⟨_, rfl⟩
  have hr' : r < 16 := by omega
  rcases (by omega : r = 0 ∨ r = 1 ∨ r = 2 ∨ r = 3 ∨ r = 4 ∨ r = 5 ∨ r = 6 ∨ r = 7 ∨ r = 8 ∨ r = 9 ∨ r = 10 ∨ r = 11 ∨ r = 12 ∨ r = 13 ∨ r = 14 ∨ r = 15) with rfl | rfl | rfl | rfl | rfl | rfl | rfl | rfl | rfl | rfl | rfl | rfl | rfl | rfl | rfl | rfl
  · refine exists_of_get _ 15 (by exact (show 15 < 16 by decide)) y ?_; exact (mem_unit2 rfl (inb := k1_off1_inb k) y (by show k1_off1 k 0 ≤ _ ∧ _ < k1_off1 k 0 + 32; rw [k1_off1_eq]; show 0 ≤ (y 0 : ℕ) ∧ (y 0 : ℕ) < 0 + 32; omega) (by show k1_off1 k 1 ≤ _ ∧ _ < k1_off1 k 1 + 256; rw [k1_off1_eq]; show 256 * k.val ≤ (y 1 : ℕ) ∧ (y 1 : ℕ) < 256 * k.val + 256; omega))
  · refine exists_of_get _ 14 (by exact (show 14 < 16 by decide)) y ?_; exact (mem_unit2 rfl (inb := k1_off2_inb k) y (by show k1_off2 k 0 ≤ _ ∧ _ < k1_off2 k 0 + 32; rw [k1_off2_eq]; show 32 ≤ (y 0 : ℕ) ∧ (y 0 : ℕ) < 32 + 32; omega) (by show k1_off2 k 1 ≤ _ ∧ _ < k1_off2 k 1 + 256; rw [k1_off2_eq]; show 256 * k.val ≤ (y 1 : ℕ) ∧ (y 1 : ℕ) < 256 * k.val + 256; omega))
  · refine exists_of_get _ 13 (by exact (show 13 < 16 by decide)) y ?_; exact (mem_unit2 rfl (inb := k1_off3_inb k) y (by show k1_off3 k 0 ≤ _ ∧ _ < k1_off3 k 0 + 32; rw [k1_off3_eq]; show 64 ≤ (y 0 : ℕ) ∧ (y 0 : ℕ) < 64 + 32; omega) (by show k1_off3 k 1 ≤ _ ∧ _ < k1_off3 k 1 + 256; rw [k1_off3_eq]; show 256 * k.val ≤ (y 1 : ℕ) ∧ (y 1 : ℕ) < 256 * k.val + 256; omega))
  · refine exists_of_get _ 12 (by exact (show 12 < 16 by decide)) y ?_; exact (mem_unit2 rfl (inb := k1_off4_inb k) y (by show k1_off4 k 0 ≤ _ ∧ _ < k1_off4 k 0 + 32; rw [k1_off4_eq]; show 96 ≤ (y 0 : ℕ) ∧ (y 0 : ℕ) < 96 + 32; omega) (by show k1_off4 k 1 ≤ _ ∧ _ < k1_off4 k 1 + 256; rw [k1_off4_eq]; show 256 * k.val ≤ (y 1 : ℕ) ∧ (y 1 : ℕ) < 256 * k.val + 256; omega))
  · refine exists_of_get _ 11 (by exact (show 11 < 16 by decide)) y ?_; exact (mem_unit2 rfl (inb := k1_off5_inb k) y (by show k1_off5 k 0 ≤ _ ∧ _ < k1_off5 k 0 + 32; rw [k1_off5_eq]; show 128 ≤ (y 0 : ℕ) ∧ (y 0 : ℕ) < 128 + 32; omega) (by show k1_off5 k 1 ≤ _ ∧ _ < k1_off5 k 1 + 256; rw [k1_off5_eq]; show 256 * k.val ≤ (y 1 : ℕ) ∧ (y 1 : ℕ) < 256 * k.val + 256; omega))
  · refine exists_of_get _ 10 (by exact (show 10 < 16 by decide)) y ?_; exact (mem_unit2 rfl (inb := k1_off6_inb k) y (by show k1_off6 k 0 ≤ _ ∧ _ < k1_off6 k 0 + 32; rw [k1_off6_eq]; show 160 ≤ (y 0 : ℕ) ∧ (y 0 : ℕ) < 160 + 32; omega) (by show k1_off6 k 1 ≤ _ ∧ _ < k1_off6 k 1 + 256; rw [k1_off6_eq]; show 256 * k.val ≤ (y 1 : ℕ) ∧ (y 1 : ℕ) < 256 * k.val + 256; omega))
  · refine exists_of_get _ 9 (by exact (show 9 < 16 by decide)) y ?_; exact (mem_unit2 rfl (inb := k1_off7_inb k) y (by show k1_off7 k 0 ≤ _ ∧ _ < k1_off7 k 0 + 32; rw [k1_off7_eq]; show 192 ≤ (y 0 : ℕ) ∧ (y 0 : ℕ) < 192 + 32; omega) (by show k1_off7 k 1 ≤ _ ∧ _ < k1_off7 k 1 + 256; rw [k1_off7_eq]; show 256 * k.val ≤ (y 1 : ℕ) ∧ (y 1 : ℕ) < 256 * k.val + 256; omega))
  · refine exists_of_get _ 8 (by exact (show 8 < 16 by decide)) y ?_; exact (mem_unit2 rfl (inb := k1_off8_inb k) y (by show k1_off8 k 0 ≤ _ ∧ _ < k1_off8 k 0 + 32; rw [k1_off8_eq]; show 224 ≤ (y 0 : ℕ) ∧ (y 0 : ℕ) < 224 + 32; omega) (by show k1_off8 k 1 ≤ _ ∧ _ < k1_off8 k 1 + 256; rw [k1_off8_eq]; show 256 * k.val ≤ (y 1 : ℕ) ∧ (y 1 : ℕ) < 256 * k.val + 256; omega))
  · refine exists_of_get _ 7 (by exact (show 7 < 16 by decide)) y ?_; exact (mem_unit2 rfl (inb := k1_off10_inb k) y (by show k1_off10 k 0 ≤ _ ∧ _ < k1_off10 k 0 + 32; rw [k1_off10_eq]; show 256 ≤ (y 0 : ℕ) ∧ (y 0 : ℕ) < 256 + 32; omega) (by show k1_off10 k 1 ≤ _ ∧ _ < k1_off10 k 1 + 256; rw [k1_off10_eq]; show 256 * k.val ≤ (y 1 : ℕ) ∧ (y 1 : ℕ) < 256 * k.val + 256; omega))
  · refine exists_of_get _ 6 (by exact (show 6 < 16 by decide)) y ?_; exact (mem_unit2 rfl (inb := k1_off11_inb k) y (by show k1_off11 k 0 ≤ _ ∧ _ < k1_off11 k 0 + 32; rw [k1_off11_eq]; show 288 ≤ (y 0 : ℕ) ∧ (y 0 : ℕ) < 288 + 32; omega) (by show k1_off11 k 1 ≤ _ ∧ _ < k1_off11 k 1 + 256; rw [k1_off11_eq]; show 256 * k.val ≤ (y 1 : ℕ) ∧ (y 1 : ℕ) < 256 * k.val + 256; omega))
  · refine exists_of_get _ 5 (by exact (show 5 < 16 by decide)) y ?_; exact (mem_unit2 rfl (inb := k1_off12_inb k) y (by show k1_off12 k 0 ≤ _ ∧ _ < k1_off12 k 0 + 32; rw [k1_off12_eq]; show 320 ≤ (y 0 : ℕ) ∧ (y 0 : ℕ) < 320 + 32; omega) (by show k1_off12 k 1 ≤ _ ∧ _ < k1_off12 k 1 + 256; rw [k1_off12_eq]; show 256 * k.val ≤ (y 1 : ℕ) ∧ (y 1 : ℕ) < 256 * k.val + 256; omega))
  · refine exists_of_get _ 4 (by exact (show 4 < 16 by decide)) y ?_; exact (mem_unit2 rfl (inb := k1_off13_inb k) y (by show k1_off13 k 0 ≤ _ ∧ _ < k1_off13 k 0 + 32; rw [k1_off13_eq]; show 352 ≤ (y 0 : ℕ) ∧ (y 0 : ℕ) < 352 + 32; omega) (by show k1_off13 k 1 ≤ _ ∧ _ < k1_off13 k 1 + 256; rw [k1_off13_eq]; show 256 * k.val ≤ (y 1 : ℕ) ∧ (y 1 : ℕ) < 256 * k.val + 256; omega))
  · refine exists_of_get _ 3 (by exact (show 3 < 16 by decide)) y ?_; exact (mem_unit2 rfl (inb := k1_off14_inb k) y (by show k1_off14 k 0 ≤ _ ∧ _ < k1_off14 k 0 + 32; rw [k1_off14_eq]; show 384 ≤ (y 0 : ℕ) ∧ (y 0 : ℕ) < 384 + 32; omega) (by show k1_off14 k 1 ≤ _ ∧ _ < k1_off14 k 1 + 256; rw [k1_off14_eq]; show 256 * k.val ≤ (y 1 : ℕ) ∧ (y 1 : ℕ) < 256 * k.val + 256; omega))
  · refine exists_of_get _ 2 (by exact (show 2 < 16 by decide)) y ?_; exact (mem_unit2 rfl (inb := k1_off15_inb k) y (by show k1_off15 k 0 ≤ _ ∧ _ < k1_off15 k 0 + 32; rw [k1_off15_eq]; show 416 ≤ (y 0 : ℕ) ∧ (y 0 : ℕ) < 416 + 32; omega) (by show k1_off15 k 1 ≤ _ ∧ _ < k1_off15 k 1 + 256; rw [k1_off15_eq]; show 256 * k.val ≤ (y 1 : ℕ) ∧ (y 1 : ℕ) < 256 * k.val + 256; omega))
  · refine exists_of_get _ 1 (by exact (show 1 < 16 by decide)) y ?_; exact (mem_unit2 rfl (inb := k1_off16_inb k) y (by show k1_off16 k 0 ≤ _ ∧ _ < k1_off16 k 0 + 32; rw [k1_off16_eq]; show 448 ≤ (y 0 : ℕ) ∧ (y 0 : ℕ) < 448 + 32; omega) (by show k1_off16 k 1 ≤ _ ∧ _ < k1_off16 k 1 + 256; rw [k1_off16_eq]; show 256 * k.val ≤ (y 1 : ℕ) ∧ (y 1 : ℕ) < 256 * k.val + 256; omega))
  · refine exists_of_get _ 0 (by exact (show 0 < 16 by decide)) y ?_; exact (mem_unit2 rfl (inb := k1_off17_inb k) y (by show k1_off17 k 0 ≤ _ ∧ _ < k1_off17 k 0 + 32; rw [k1_off17_eq]; show 480 ≤ (y 0 : ℕ) ∧ (y 0 : ℕ) < 480 + 32; omega) (by show k1_off17 k 1 ≤ _ ∧ _ < k1_off17 k 1 + 256; rw [k1_off17_eq]; show 256 * k.val ≤ (y 1 : ℕ) ∧ (y 1 : ℕ) < 256 * k.val + 256; omega))

/-- All the trips together fill it. -/
theorem coverAll1_codes (g5 : BufTy.Contents (Elt F) arg5.view.ty) (g6 : BufTy.Contents (Elt F) arg6.view.ty) (g7 : BufTy.Contents (Elt F) arg7.view.ty) (g8 : BufTy.Contents (Elt F) arg8.view.ty) (y : S512x1024.Idx) :
    ∃ p ∈ (pb_k1_t1 (F := F) 𝒱 c bd i arg2 harg2 arg3 harg3 arg4 harg4 arg5 harg5 arg6 harg6 arg7 harg7 arg8 harg8 X g5 g6 g7 g8 k1_t1_loop.trips).1, y ∈ p.1.set := by
  have hy : (y 1 : ℕ) < 1024 := (y 1).isLt
  have hT : k1_t1_loop.trips = 4 := by decide
  obtain ⟨p, hp, hm⟩ := cover1_codes 𝒱 c bd i arg2 harg2 arg3 harg3 arg4 harg4 arg5 harg5 arg6 harg6 arg7 harg7 arg8 harg8 X ⟨(y 1 : ℕ) / 256, by rw [hT]; omega⟩ g5 g6 g7 g8 y rfl
  exact ⟨p, (mem_pb1 𝒱 c bd i arg2 harg2 arg3 harg3 arg4 harg4 arg5 harg5 arg6 harg6 arg7 harg7 arg8 harg8 X _ _ (by show (y 1 : ℕ) / 256 < k1_t1_loop.trips; rw [hT]; omega) le_rfl g5 g6 g7 g8 g5 g6 g7 g8).1 p hp, hm⟩

/-- All the trips together fill it. -/
theorem coverAll1_scale (g5 : BufTy.Contents (Elt F) arg5.view.ty) (g6 : BufTy.Contents (Elt F) arg6.view.ty) (g7 : BufTy.Contents (Elt F) arg7.view.ty) (g8 : BufTy.Contents (Elt F) arg8.view.ty) (y : S16x1024.Idx) :
    ∃ p ∈ (pb_k1_t1 (F := F) 𝒱 c bd i arg2 harg2 arg3 harg3 arg4 harg4 arg5 harg5 arg6 harg6 arg7 harg7 arg8 harg8 X g5 g6 g7 g8 k1_t1_loop.trips).2.1, y ∈ p.1.set := by
  have hy : (y 1 : ℕ) < 1024 := (y 1).isLt
  have hT : k1_t1_loop.trips = 4 := by decide
  obtain ⟨p, hp, hm⟩ := cover1_scale 𝒱 c bd i arg2 harg2 arg3 harg3 arg4 harg4 arg5 harg5 arg6 harg6 arg7 harg7 arg8 harg8 X ⟨(y 1 : ℕ) / 256, by rw [hT]; omega⟩ g5 g6 g7 g8 y rfl
  exact ⟨p, (mem_pb1 𝒱 c bd i arg2 harg2 arg3 harg3 arg4 harg4 arg5 harg5 arg6 harg6 arg7 harg7 arg8 harg8 X _ _ (by show (y 1 : ℕ) / 256 < k1_t1_loop.trips; rw [hT]; omega) le_rfl g5 g6 g7 g8 g5 g6 g7 g8).2.1 p hp, hm⟩

/-- All the trips together fill it. -/
theorem coverAll1_hat (g5 : BufTy.Contents (Elt F) arg5.view.ty) (g6 : BufTy.Contents (Elt F) arg6.view.ty) (g7 : BufTy.Contents (Elt F) arg7.view.ty) (g8 : BufTy.Contents (Elt F) arg8.view.ty) (y : S512x1024.Idx) :
    ∃ p ∈ (pb_k1_t1 (F := F) 𝒱 c bd i arg2 harg2 arg3 harg3 arg4 harg4 arg5 harg5 arg6 harg6 arg7 harg7 arg8 harg8 X g5 g6 g7 g8 k1_t1_loop.trips).2.2.2, y ∈ p.1.set := by
  have hy : (y 1 : ℕ) < 1024 := (y 1).isLt
  have hT : k1_t1_loop.trips = 4 := by decide
  obtain ⟨p, hp, hm⟩ := cover1_hat 𝒱 c bd i arg2 harg2 arg3 harg3 arg4 harg4 arg5 harg5 arg6 harg6 arg7 harg7 arg8 harg8 X ⟨(y 1 : ℕ) / 256, by rw [hT]; omega⟩ g5 g6 g7 g8 y rfl
  exact ⟨p, (mem_pb1 𝒱 c bd i arg2 harg2 arg3 harg3 arg4 harg4 arg5 harg5 arg6 harg6 arg7 harg7 arg8 harg8 X _ _ (by show (y 1 : ℕ) / 256 < k1_t1_loop.trips; rw [hT]; omega) le_rfl g5 g6 g7 g8 g5 g6 g7 g8).2.2.2 p hp, hm⟩

end K1

end Cert.Proof.Ideal

end
-- ==== Proof.Ideal.Body.lean ====
/-
  One run of each kernel's body on whole buffers: what it leaves in each output, as a function of the blocks it read.
  Nothing here looks inside the arithmetic.
-/
module

public import proofs.«01_k».proof.Proof.Ideal.Trips
public import Idealize.ShloMosaic.Lib.VecWindow

@[expose] public section

set_option maxRecDepth 16384

noncomputable section

namespace Cert.Proof.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A whole buffer's contents that read as `x`. -/
def ofRead {sp : Space} {s : Shape} {e : EltTy} (m : Memref sig .tc sp s e) (x : s.Idx → Elt F e) : BufTy.Contents (Elt F) m.view.ty :=
  m.view.write (Elt F) m.view.junk x Finset.univ

theorem ofRead_read {sp : Space} {s : Shape} {e : EltTy} (m : Memref sig .tc sp s e) (h : m.IsWhole) (f : BufTy.Contents (Elt F) m.view.ty) :
    ofRead m (m.view.read (Elt F) f) = f := by
  obtain ⟨b, rfl, rfl, rfl, h⟩ := h; cases h
  exact View.write_whole_univ b _ _

theorem read_ofRead {sp : Space} {s : Shape} {e : EltTy} (m : Memref sig .tc sp s e) (h : m.IsWhole) (x : s.Idx → Elt F e) :
    m.view.read (Elt F) (ofRead m x) = x := by
  obtain ⟨b, rfl, rfl, rfl, h⟩ := h; cases h
  exact View.write_whole_univ b _ _

/-! ## Kernel 0 -/

section K0

variable (c : Dev nD) (i : grid0.Coords) (arg1 : Memref sig .tc .vmem S512x4096 .bf16) (harg1 : arg1.IsWhole) (arg2 : Memref sig .tc .vmem S512x4096 .fp8e4m3) (harg2 : arg2.IsWhole) (arg3 : Memref sig .tc .vmem S16x4096 .f32) (harg3 : arg3.IsWhole) (arg4 : Memref sig .tc .vmem S1x4096x512 .bf16) (harg4 : arg4.IsWhole) (arg5 : Memref sig .tc .vmem S2x8x256 .i32) (harg5 : arg5.IsWhole) (arg6 : Memref sig .tc .vmem S256x256 .bf16) (harg6 : arg6.IsWhole)

/-- All the pieces the loop writes over the block `x`. -/
def pieces0 (x : Vec F S512x4096 .bf16) :=
  pb_k0_t1 (F := F) Variants.none c none i arg1 harg1 arg2 harg2 arg3 harg3 arg4 harg4 arg5 harg5 arg6 harg6 (ofRead arg1 x) arg2.view.junk arg3.view.junk arg4.view.junk arg5.view.junk arg6.view.junk k0_t1_loop.trips

/-- The codes, the scales and the transposed dequantised block it leaves. -/
def codes0 (x : Vec F S512x4096 .bf16) : Vec F S512x4096 .fp8e4m3 := View.canon (pieces0 c i arg1 harg1 arg2 harg2 arg3 harg3 arg4 harg4 arg5 harg5 arg6 harg6 x).1
def scale0 (x : Vec F S512x4096 .bf16) : Vec F S16x4096 .f32 := View.canon (pieces0 c i arg1 harg1 arg2 harg2 arg3 harg3 arg4 harg4 arg5 harg5 arg6 harg6 x).2.1
def xt0 (x : Vec F S512x4096 .bf16) : Vec F S1x4096x512 .bf16 := View.canon (pieces0 c i arg1 harg1 arg2 harg2 arg3 harg3 arg4 harg4 arg5 harg5 arg6 harg6 x).2.2.1

/-- The body of kernel 0 on whole buffers. -/
theorem sound_kernel0 (E : Set ℕ) (x : Vec F S512x4096 .bf16) (K : PUnit → sProp 𝕄) :
    iprop(owns (c : Thread nD τ) arg1 fullShare x ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x ∗ owns (c : Thread nD τ) arg2 fullShare (codes0 c i arg1 harg1 arg2 harg2 arg3 harg3 arg4 harg4 arg5 harg5 arg6 harg6 x) ∗ owns (c : Thread nD τ) arg3 fullShare (scale0 c i arg1 harg1 arg2 harg2 arg3 harg3 arg4 harg4 arg5 harg5 arg6 harg6 x) ∗ owns (c : Thread nD τ) arg4 fullShare (xt0 c i arg1 harg1 arg2 harg2 arg3 harg3 arg4 harg4 arg5 harg5 arg6 harg6 x) ∗ (∃ d, owns (c : Thread nD τ) arg5 fullShare d) ∗ (∃ d, owns (c : Thread nD τ) arg6 fullShare d)) -∗ K ⟨⟩))
      ⊢ wp frame (wpE (defs₀ (F := F)) Variants.none c none) E (cc0_quantise_x i arg1 harg1 arg2 harg2 arg3 harg3 arg4 harg4 arg5 harg5 arg6 harg6) K := by
  simp only [cc0_quantise_x_eq_skeleton]; unfold cc0_quantise_x_skel
  unfold owns
  iintro ⟨⟨%f1, %hf1, H1⟩, ⟨%d2, %f2, -, H2⟩, ⟨%d3, %f3, -, H3⟩, ⟨%d4, %f4, -, H4⟩, ⟨%d5, %f5, -, H5⟩, ⟨%d6, %f6, -, H6⟩, Hk⟩
  subst hf1
  sl_exec
  sl_step
  have hp : pb_k0_t1 (F := F) Variants.none c none i arg1 harg1 arg2 harg2 arg3 harg3 arg4 harg4 arg5 harg5 arg6 harg6 f1 f2 f3 f4 f5 f6 k0_t1_loop.trips = pieces0 c i arg1 harg1 arg2 harg2 arg3 harg3 arg4 harg4 arg5 harg5 arg6 harg6 (arg1.view.read (Elt F) f1) := by
    unfold pieces0; rw [ofRead_read arg1 harg1]; exact pb0_indep _ _ _ _ _ _ _ _ _ _ _ _ _ _ _ _ _ _ _ _ _ _ _ _ _ _ _ _
  rw [hp]
  iapply Hk
  isplitl [H1]
  · iexists f1; isplitr; · ipureintro; rfl
    iexact H1
  isplitl [H2]
  · iexists _; isplitr
    swap; · iexact H2
    ipureintro
    exact View.read_writes_eq_canon _ _ _ (coverAll0_codes _ _ _ _ _ _ _ _ _ _ _ _ _ _ _ _ _ _ _ _ _ _)
  isplitl [H3]
  · iexists _; isplitr
    swap; · iexact H3
    ipureintro
    exact View.read_writes_eq_canon _ _ _ (coverAll0_scale _ _ _ _ _ _ _ _ _ _ _ _ _ _ _ _ _ _ _ _ _ _)
  isplitl [H4]
  · iexists _; isplitr
    swap; · iexact H4
    ipureintro
    exact View.read_writes_eq_canon _ _ _ (coverAll0_xt _ _ _ _ _ _ _ _ _ _ _ _ _ _ _ _ _ _ _ _ _ _)
  isplitl [H5]
  · iexists _; iexists _; isplitr
    swap; · iexact H5
    ipureintro; rfl
  iexists _; iexists _; isplitr
  swap; · iexact H6
  ipureintro; rfl

end K0

/-! ## Kernel 1 -/

section K1

variable (c : Dev nD) (i : grid1.Coords) (arg2 : Memref sig .tc .vmem S1x4096x512 .bf16) (harg2 : arg2.IsWhole) (arg3 : Memref sig .tc .vmem S512x1024 .bf16) (harg3 : arg3.IsWhole) (arg4 : Memref sig .tc .vmem S4096x1024 .f32) (harg4 : arg4.IsWhole) (arg5 : Memref sig .tc .vmem S512x1024 .fp8e5m2) (harg5 : arg5.IsWhole) (arg6 : Memref sig .tc .vmem S16x1024 .f32) (harg6 : arg6.IsWhole) (arg7 : Memref sig .tc .vmem S2x8x256 .i32) (harg7 : arg7.IsWhole) (arg8 : Memref sig .tc .vmem S512x1024 .bf16) (harg8 : arg8.IsWhole)

/-- All the pieces the loop writes over the block `y`. -/
def pieces1 (y : Vec F S512x1024 .bf16) :=
  pb_k1_t1 (F := F) Variants.none c none i arg2 harg2 arg3 harg3 arg4 harg4 arg5 harg5 arg6 harg6 arg7 harg7 arg8 harg8 (ofRead arg3 y) arg5.view.junk arg6.view.junk arg7.view.junk arg8.view.junk k1_t1_loop.trips

/-- The codes, the scales and the dequantised block it leaves. -/
def codes1 (y : Vec F S512x1024 .bf16) : Vec F S512x1024 .fp8e5m2 := View.canon (pieces1 c i arg2 harg2 arg3 harg3 arg4 harg4 arg5 harg5 arg6 harg6 arg7 harg7 arg8 harg8 y).1
def scale1 (y : Vec F S512x1024 .bf16) : Vec F S16x1024 .f32 := View.canon (pieces1 c i arg2 harg2 arg3 harg3 arg4 harg4 arg5 harg5 arg6 harg6 arg7 harg7 arg8 harg8 y).2.1
def hat1 (y : Vec F S512x1024 .bf16) : Vec F S512x1024 .bf16 := View.canon (pieces1 c i arg2 harg2 arg3 harg3 arg4 harg4 arg5 harg5 arg6 harg6 arg7 harg7 arg8 harg8 y).2.2.2

/-- The product accumulated: over nothing at the first chunk of tokens, over what the chunk before left after it. -/
def dw1 (xt : Vec F S1x4096x512 .bf16) (y : Vec F S512x1024 .bf16) (prev : Vec F S4096x1024 .f32) : Vec F S4096x1024 .f32 :=
  k1_pay4 (if (i 1).val = 0 then k1_pay1 else prev) xt (hat1 c i arg2 harg2 arg3 harg3 arg4 harg4 arg5 harg5 arg6 harg6 arg7 harg7 arg8 harg8 y)

/-- The condition of the kernel's first branch, decided by the second grid coordinate. -/
theorem cond1 : Scalar.cmpi .ne (Scalar.extui (Scalar.cmpi .eq (BitVec.ofNat 32 (i 1).val) 0#32) : BitVec 32) 0#32 = 1#1 ↔ (i 1).val = 0 := by
  have h : ∀ n : Fin 48, Scalar.cmpi .ne (Scalar.extui (Scalar.cmpi .eq (BitVec.ofNat 32 n.val) 0#32) : BitVec 32) 0#32 = 1#1 ↔ n.val = 0 := by decide +kernel
  exact h (i 1)

/-- The body of kernel 1 on whole buffers. -/
theorem sound_kernel1 (E : Set ℕ) (xt : Vec F S1x4096x512 .bf16) (y : Vec F S512x1024 .bf16) (prev : Vec F S4096x1024 .f32) (K : PUnit → sProp 𝕄) :
    iprop(owns (c : Thread nD τ) arg2 fullShare xt ∗ owns (c : Thread nD τ) arg3 fullShare y ∗ owns (c : Thread nD τ) arg4 fullShare prev ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare xt ∗ owns (c : Thread nD τ) arg3 fullShare y ∗ owns (c : Thread nD τ) arg4 fullShare (dw1 c i arg2 harg2 arg3 harg3 arg4 harg4 arg5 harg5 arg6 harg6 arg7 harg7 arg8 harg8 xt y prev) ∗ owns (c : Thread nD τ) arg5 fullShare (codes1 c i arg2 harg2 arg3 harg3 arg4 harg4 arg5 harg5 arg6 harg6 arg7 harg7 arg8 harg8 y) ∗ owns (c : Thread nD τ) arg6 fullShare (scale1 c i arg2 harg2 arg3 harg3 arg4 harg4 arg5 harg5 arg6 harg6 arg7 harg7 arg8 harg8 y) ∗ (∃ d, owns (c : Thread nD τ) arg7 fullShare d) ∗ (∃ d, owns (c : Thread nD τ) arg8 fullShare d)) -∗ K ⟨⟩))
      ⊢ wp frame (wpE (defs₀ (F := F)) Variants.none c none) E (cc1_quantise_dy_dw i arg2 harg2 arg3 harg3 arg4 harg4 arg5 harg5 arg6 harg6 arg7 harg7 arg8 harg8) K := by
  simp only [cc1_quantise_dy_dw_eq_skeleton]; unfold cc1_quantise_dy_dw_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  subst hf2 hf3 hf4
  have hp : pb_k1_t1 (F := F) Variants.none c none i arg2 harg2 arg3 harg3 arg4 harg4 arg5 harg5 arg6 harg6 arg7 harg7 arg8 harg8 f3 f5 f6 f7 f8 k1_t1_loop.trips = pieces1 c i arg2 harg2 arg3 harg3 arg4 harg4 arg5 harg5 arg6 harg6 arg7 harg7 arg8 harg8 (arg3.view.read (Elt F) f3) := by
    unfold pieces1; rw [ofRead_read arg3 harg3]; exact pb1_indep _ _ _ _ _ _ _ _ _ _ _ _ _ _ _ _ _ _ _ _ _ _ _ _ _ _ _ _
  have hhat : View.readAt (Elt F) arg8.view (Rect.unit ![0, 0] S512x1024.size inb_S512x1024_S512x1024_0_0).toLoadRect
      (arg8.view.writes (Elt F) f8 (pb_k1_t1 Variants.none c none i arg2 harg2 arg3 harg3 arg4 harg4 arg5 harg5 arg6 harg6 arg7 harg7 arg8 harg8 f3 f5 f6 f7 f8 k1_t1_loop.trips).2.2.2) = hat1 c i arg2 harg2 arg3 harg3 arg4 harg4 arg5 harg5 arg6 harg6 arg7 harg7 arg8 harg8 (arg3.view.read (Elt F) f3) := by
    rw [View.readAt_full, hp]
    exact View.read_writes_eq_canon _ _ _ (coverAll1_hat _ _ _ _ _ _ _ _ _ _ _ _ _ _ _ _ _ _ _ _ _ _ _)
  by_cases hi : (i 1).val = 0
  · have hc := cond1 i |>.2 hi
    sl_exec
    sl_step
    iapply Hk
    isplitl [H2]
    · iexists f2; isplitr; · ipureintro; rfl
      iexact H2
    isplitl [H3]
    · iexists f3; isplitr; · ipureintro; rfl
      iexact H3
    isplitl [H4]
    · iexists _; isplitr
      swap; · iexact H4
      ipureintro
      rw [View.read_writes_full]
      unfold dw1
      rw [if_pos hi]
      refine congr (congr (congrArg k1_pay4 ?_) ?_) ?_
      · unfold sound_kernel1.sl.v4; exact View.readCov_full _ _ _ _ _
      · exact View.readAt_full _ _ _
      · rfl
    isplitl [H5]
    · iexists _; isplitr
      swap; · iexact H5
      ipureintro
      exact (congrArg (fun P => arg5.view.read (Elt F) (arg5.view.writes (Elt F) f5 P)) (congrArg Prod.fst hp)).trans (View.read_writes_eq_canon _ _ _ (coverAll1_codes _ _ _ _ _ _ _ _ _ _ _ _ _ _ _ _ _ _ _ _ _ _ _))
    isplitl [H6]
    · iexists _; isplitr
      swap; · iexact H6
      ipureintro
      exact (congrArg (fun P => arg6.view.read (Elt F) (arg6.view.writes (Elt F) f6 P)) (congrArg (fun q => q.2.1) hp)).trans (View.read_writes_eq_canon _ _ _ (coverAll1_scale _ _ _ _ _ _ _ _ _ _ _ _ _ _ _ _ _ _ _ _ _ _ _))
    isplitl [H7]
    · iexists _; iexists _; isplitr
      swap; · iexact H7
      ipureintro; rfl
    iexists _; iexists _; isplitr
    swap; · iexact H8
    ipureintro; rfl
  · have hc := mt (cond1 i).1 hi
    sl_exec
    sl_step
    iapply Hk
    isplitl [H2]
    · iexists f2; isplitr; · ipureintro; rfl
      iexact H2
    isplitl [H3]
    · iexists f3; isplitr; · ipureintro; rfl
      iexact H3
    isplitl [H4]
    · iexists _; isplitr
      swap; · iexact H4
      ipureintro
      rw [View.read_writes_full]
      unfold dw1
      rw [if_neg hi]
      refine congr (congr (congrArg k1_pay4 ?_) ?_) ?_
      · exact View.readAt_full _ _ _
      · exact View.readAt_full _ _ _
      · rfl
    isplitl [H5]
    · iexists _; isplitr
      swap; · iexact H5
      ipureintro
      exact (congrArg (fun P => arg5.view.read (Elt F) (arg5.view.writes (Elt F) f5 P)) (congrArg Prod.fst hp)).trans (View.read_writes_eq_canon _ _ _ (coverAll1_codes _ _ _ _ _ _ _ _ _ _ _ _ _ _ _ _ _ _ _ _ _ _ _))
    isplitl [H6]
    · iexists _; isplitr
      swap; · iexact H6
      ipureintro
      exact (congrArg (fun P => arg6.view.read (Elt F) (arg6.view.writes (Elt F) f6 P)) (congrArg (fun q => q.2.1) hp)).trans (View.read_writes_eq_canon _ _ _ (coverAll1_scale _ _ _ _ _ _ _ _ _ _ _ _ _ _ _ _ _ _ _ _ _ _ _))
    isplitl [H7]
    · iexists _; iexists _; isplitr
      swap; · iexact H7
      ipureintro; rfl
    iexists _; iexists _; isplitr
    swap; · iexact H8
    ipureintro; rfl

end K1

end Cert.Proof.Ideal

end
-- ==== Proof.Ideal.Region.lean ====
/-
  The two kernels' regions: their proof data from any contents at entry, the body obligations, and the records the
  launch takes.
-/
module

public import proofs.«01_k».proof.Proof.Ideal.Body
public import proofs.«01_k».proof.Proof.Gen.KernelIdeal.Points
public import proofs.«01_k».proof.Proof.Gen.KernelIdeal.Regions
public import Idealize.ShloMosaic.Lib.Pipeline.RegionsLoop

@[expose] public section

set_option maxRecDepth 16384

noncomputable section

namespace Cert.Proof.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The buffers' contents when a region is entered, core by core. -/
abbrev Entry (F : FTy → Type) := Dev nD → Valuation τ sig (Elt F)

abbrev 𝒱₀ : Variants := Variants.none
/-- No core owes another anything: no level is assigned. -/
abbrev L : GSem nD τ sig → Finset Unit := fun _ => ∅
abbrev lv : GSem nD τ sig → Unit → ℕ := fun _ _ => 0

variable (V : Entry F)

/-! ## Region 0 -/

/-- The block of `x` the body reads at point `t`. -/
def xblk (c : Dev nD) (t : Fin cfg0.N) : Vec F S512x4096 .bf16 :=
  ((cfg0.win 0).blk t).view.read (Elt F) (V c (Pipeline.arrRef spec0 0))

/-- What the body leaves at point `t`. -/
def codesAt0 (c : Dev nD) (t : Fin cfg0.N) : Vec F S512x4096 .fp8e4m3 :=
  codes0 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) (Memref.whole cc0_scratch1) (Memref.isWhole_whole _) (xblk V c t)
def scaleAt0 (c : Dev nD) (t : Fin cfg0.N) : Vec F S16x4096 .f32 :=
  scale0 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) (Memref.whole cc0_scratch1) (Memref.isWhole_whole _) (xblk V c t)
def xtAt0 (c : Dev nD) (t : Fin cfg0.N) : Vec F S1x4096x512 .bf16 :=
  xt0 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) (Memref.whole cc0_scratch1) (Memref.isWhole_whole _) (xblk V c t)

/-- The proof data of region 0 entered at `V`. -/
def dat0 (c : Dev nD) : Dat τ (Elt F) Unit ℕ (UR sig nD τ) ℕ cfg0 c where
  A w := V c (Pipeline.arrRef spec0 w)
  after w t := match w with
    | ⟨0, _⟩ => xblk V c t
    | ⟨1, _⟩ => codesAt0 V c t
    | ⟨2, _⟩ => scaleAt0 V c t
    | ⟨3, _⟩ => xtAt0 V c t
  Φ _ := Pipeline.scopedRest (Ix := Unit) (Name := ℕ) (U := UR sig nD τ) (Lvl := ℕ) (Val := Elt F) spec0 c
  q _ := fullShare
  owed _ := 0

theorem after0_0 (c : Dev nD) (t : Fin cfg0.N) : (dat0 V c).after 0 t = xblk V c t := by dsimp only [dat0]
theorem after0_1 (c : Dev nD) (t : Fin cfg0.N) : (dat0 V c).after 1 t = codesAt0 V c t := by dsimp only [dat0]
theorem after0_2 (c : Dev nD) (t : Fin cfg0.N) : (dat0 V c).after 2 t = scaleAt0 V c t := by dsimp only [dat0]
theorem after0_3 (c : Dev nD) (t : Fin cfg0.N) : (dat0 V c).after 3 t = xtAt0 V c t := by dsimp only [dat0]

/-- The fetched buffer holds the block when the body runs. -/
theorem before0_0 (c : Dev nD) (t : Fin cfg0.N) (d) : (dat0 V c).before 0 t d = xblk V c t := by
  unfold Dat.before; rw [if_pos (fetch0_0 t)]; rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = Pipeline.scopedRest (Ix := Unit) (Name := ℕ) (U := UR sig nD τ) (Lvl := ℕ) (Val := Elt F) spec0 c from rfl,
    show (dat0 V c).Φ t.castSucc = Pipeline.scopedRest (Ix := Unit) (Name := ℕ) (U := UR sig nD τ) (Lvl := ℕ) (Val := Elt F) spec0 c from rfl,
    show (dat0 V c).owesAt () t.succ = (dat0 V c).owesAt () t.castSucc from rfl,
    after0_0, after0_1, after0_2, after0_3, scopedRest0_eq]
  iintro ⟨⟨⟨%s0, S0⟩, ⟨%s1, S1⟩, HΦ⟩, Ho, ⟨%d0, H0⟩, ⟨%d1, H1⟩, ⟨%d2, H2⟩, ⟨%d3, H3⟩⟩
  iapply (sound_kernel0 c _ _ _ _ _ _ _ _ _ _ _ _ _ Set.univ (xblk V c t) _)
  isplitl [H0]; · iexact H0
  isplitl [H1]; · iexists _; iexact H1
  isplitl [H2]; · iexists _; iexact H2
  isplitl [H3]; · iexists _; iexact H3
  isplitl [S0]
  · iexists _; rw [owns_whole_eq]; iexists s0; isplitr; swap; (· iexact S0); ipureintro; rfl
  isplitl [S1]
  · iexists _; rw [owns_whole_eq]; iexists s1; isplitr; swap; (· iexact S1); ipureintro; rfl
  simp only [owns_whole_eq]
  iintro ⟨H0, H1, H2, H3, ⟨%e0, %g0, -, S0⟩, ⟨%e1, %g1, -, S1⟩⟩
  isplitl [HΦ S0 S1]
  · isplitl [S0]; · iexists _; iexact S0
    isplitl [S1]; · iexists _; iexact S1
    iexact HΦ
  isplitl [Ho]; · iexact Ho
  isplitl [H0]; · iexact H0
  isplitl [H1]; · iexact H1
  isplitl [H2]; · iexact H2
  iexact H3

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 V c) (defs₀ (F := F)) Variants.none () Set.univ := fun t => by
  rw [bigSep_W0, bigSep_W0, defs₀_row0]
  exact triple_restated (sound_body0 V c t) rfl .rfl fun _ => .rfl

/-! ## Region 1 -/

/-- The blocks the body reads at point `t`: the transposed dequantised `x`, and `dy`. -/
def xtblk (c : Dev nD) (t : Fin cfg1.N) : Vec F S1x4096x512 .bf16 :=
  ((cfg1.win 0).blk t).view.read (Elt F) (V c (Pipeline.arrRef spec1 0))
def dyblk (c : Dev nD) (t : Fin cfg1.N) : Vec F S512x1024 .bf16 :=
  ((cfg1.win 1).blk t).view.read (Elt F) (V c (Pipeline.arrRef spec1 1))

/-- What the body leaves at point `t`. -/
def codesAt1 (c : Dev nD) (t : Fin cfg1.N) : Vec F S512x1024 .fp8e5m2 :=
  codes1 c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (Memref.whole cc1_scratch0) (Memref.isWhole_whole _) (Memref.whole cc1_scratch1) (Memref.isWhole_whole _) (dyblk V c t)
def scaleAt1 (c : Dev nD) (t : Fin cfg1.N) : Vec F S16x1024 .f32 :=
  scale1 c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (Memref.whole cc1_scratch0) (Memref.isWhole_whole _) (Memref.whole cc1_scratch1) (Memref.isWhole_whole _) (dyblk V c t)
def dwAt1 (c : Dev nD) (t : Fin cfg1.N) (prev : Vec F S4096x1024 .f32) : Vec F S4096x1024 .f32 :=
  dw1 c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (Memref.whole cc1_scratch0) (Memref.isWhole_whole _) (Memref.whole cc1_scratch1) (Memref.isWhole_whole _) (xtblk V c t) (dyblk V c t) prev

/-- The second grid coordinate of a point. -/
theorem coords1_1 : ∀ t : Fin cfg1.N, (grid1.coords t 1).val = t.val % 48 := by decide +kernel

/-- At the first chunk of a column block nothing is accumulated over. -/
theorem dwAt1_reset (c : Dev nD) (t : Fin cfg1.N) (h : t.val % 48 = 0) (p q : Vec F S4096x1024 .f32) : dwAt1 V c t p = dwAt1 V c t q := by
  unfold dwAt1 dw1; rw [if_pos ((coords1_1 t).trans h), if_pos ((coords1_1 t).trans h)]

/-- The product accumulated up to point `n`. -/
def accAt (c : Dev nD) : (n : ℕ) → n < cfg1.N → Vec F S4096x1024 .f32
  | 0, h => dwAt1 V c ⟨0, h⟩ (k1_pay1 (F := F))
  | n + 1, h => dwAt1 V c ⟨n + 1, h⟩ (accAt c n (Nat.lt_of_succ_lt h))

/-- The proof data of region 1 entered at `V`. -/
def dat1 (c : Dev nD) : Dat τ (Elt F) Unit ℕ (UR sig nD τ) ℕ cfg1 c where
  A w := V c (Pipeline.arrRef spec1 w)
  after w t := match w with
    | ⟨0, _⟩ => xtblk V c t
    | ⟨1, _⟩ => dyblk V c t
    | ⟨2, _⟩ => accAt V c t.val t.isLt
    | ⟨3, _⟩ => codesAt1 V c t
    | ⟨4, _⟩ => scaleAt1 V c t
  Φ _ := Pipeline.scopedRest (Ix := Unit) (Name := ℕ) (U := UR sig nD τ) (Lvl := ℕ) (Val := Elt F) spec1 c
  q _ := fullShare
  owed _ := 0

theorem after1_0 (c : Dev nD) (t : Fin cfg1.N) : (dat1 V c).after 0 t = xtblk V c t := by dsimp only [dat1]
theorem after1_1 (c : Dev nD) (t : Fin cfg1.N) : (dat1 V c).after 1 t = dyblk V c t := by dsimp only [dat1]
theorem after1_2 (c : Dev nD) (t : Fin cfg1.N) : (dat1 V c).after 2 t = accAt V c t.val t.isLt := by dsimp only [dat1]
theorem after1_3 (c : Dev nD) (t : Fin cfg1.N) : (dat1 V c).after 3 t = codesAt1 V c t := by dsimp only [dat1]
theorem after1_4 (c : Dev nD) (t : Fin cfg1.N) : (dat1 V c).after 4 t = scaleAt1 V c t := by dsimp only [dat1]

/-- The fetched buffers hold their blocks when the body runs. -/
theorem before1_0 (c : Dev nD) (t : Fin cfg1.N) (d) : (dat1 V c).before 0 t d = xtblk V c t := by
  unfold Dat.before; rw [if_pos (fetch1_0 t)]; rfl
theorem before1_1 (c : Dev nD) (t : Fin cfg1.N) (d) : (dat1 V c).before 1 t d = dyblk V c t := by
  unfold Dat.before; rw [if_pos (fetch1_1 t)]; rfl

/-- Over what the accumulator's buffer holds when the body runs, it leaves what `accAt` says. -/
theorem dw_before (c : Dev nD) (t : Fin cfg1.N) (d) : dwAt1 V c t ((dat1 V c).before 2 t d) = accAt V c t.val t.isLt := by
  obtain ⟨n, hn⟩ := t
  cases n with
  | zero => unfold accAt; exact dwAt1_reset V c _ rfl _ _
  | succ n =>
    rw [accAt]
    by_cases h : (n + 1) % 48 = 0
    · exact dwAt1_reset V c _ h _ _
    · congr 1
      unfold Dat.before
      have hfl : (cfg1.win 2).flush ⟨n, Nat.lt_of_succ_lt hn⟩ = false := by
        rw [Bool.eq_false_iff]; intro hf; have := (flush1_2 _).1 hf; simp only at this; omega
      rw [if_neg (by rw [show (cfg1.win 2).fetch ⟨n + 1, hn⟩ = false from rfl]; decide), if_neg (by simp)]
      simp only [Nat.add_sub_cancel]
      rw [if_neg (by rw [hfl]; decide)]
      exact after1_2 V c ⟨n, Nat.lt_of_succ_lt hn⟩

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = Pipeline.scopedRest (Ix := Unit) (Name := ℕ) (U := UR sig nD τ) (Lvl := ℕ) (Val := Elt F) spec1 c from rfl,
    show (dat1 V c).Φ t.castSucc = Pipeline.scopedRest (Ix := Unit) (Name := ℕ) (U := UR sig nD τ) (Lvl := ℕ) (Val := Elt F) spec1 c from rfl,
    show (dat1 V c).owesAt () t.succ = (dat1 V c).owesAt () t.castSucc from rfl,
    after1_0, after1_1, after1_2, after1_3, after1_4, scopedRest1_eq]
  iintro ⟨⟨Q0, Q1, Q2, Q3, Q4, Q5, Q6, Q7, Q8, Q9, ⟨%s0, S0⟩, ⟨%s1, S1⟩⟩, Ho, ⟨%d0, H0⟩, ⟨%d1, H1⟩, ⟨%d2, H2⟩, ⟨%d3, H3⟩, ⟨%d4, H4⟩⟩
  rw [← dw_before V c t d2]
  iapply (sound_kernel1 c _ _ _ _ _ _ _ _ _ _ _ _ _ _ _ Set.univ (xtblk V c t) (dyblk V c t) ((dat1 V c).before 2 t d2) _)
  isplitl [H0]; · iexact H0
  isplitl [H1]; · iexact H1
  isplitl [H2]; · iexact H2
  isplitl [H3]; · iexists _; iexact H3
  isplitl [H4]; · iexists _; iexact H4
  isplitl [S0]
  · iexists _; rw [owns_whole_eq]; iexists s0; isplitr; swap; (· iexact S0); ipureintro; rfl
  isplitl [S1]
  · iexists _; rw [owns_whole_eq]; iexists s1; isplitr; swap; (· iexact S1); ipureintro; rfl
  simp only [owns_whole_eq]
  iintro ⟨H0, H1, H2, H3, H4, ⟨%e0, %g0, -, S0⟩, ⟨%e1, %g1, -, S1⟩⟩
  isplitl [Q0 Q1 Q2 Q3 Q4 Q5 Q6 Q7 Q8 Q9 S0 S1]
  · isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [S0]; · iexists _; iexact S0
    iexists _; iexact S1
  isplitl [Ho]; · iexact Ho
  isplitl [H0]; · iexact H0
  isplitl [H1]; · iexact H1
  isplitl [H2]; · iexact H2
  isplitl [H3]; · iexact H3
  iexact H4

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 V c) (defs₀ (F := F)) Variants.none () Set.univ := fun t => by
  rw [bigSep_W1, bigSep_W1, defs₀_row1]
  exact triple_restated (sound_body1 V c t) rfl .rfl fun _ => .rfl

/-! ## The records the launch takes -/

/-- The two regions' proof data, each from its own entry contents. -/
def pdats (V W : Entry F) : (p : Fin 2) → (c : Dev nD) → Dat τ (Elt F) Unit ℕ (UR sig nD τ) ℕ (cfgs p) c
  | ⟨0, _⟩ => fun c => dat0 V c
  | ⟨1, _⟩ => fun c => dat1 W c

/-- What rides along beside the buffers: the core owes nothing. -/
abbrev Rest (c : Dev nD) : sProp 𝕄 := iprop(∃ W, owes (c : Thread nD τ) (0 : CellTallies nD τ sig Unit) W)

set_option backward.isDefEq.respectTransparency.types false in
/-- Region 0, entered with the unscoped buffers at its entry contents and left with them at `Vp`, which has its results'
    arrays as the region computes them and agrees with the entry contents elsewhere. -/
def reg0 (V W Vp : Entry F)
    (h1 : ∀ c, Vp c main_v2_0 = (pdats V W 0 c).arrAt 1 cfg0.N)
    (h2 : ∀ c, Vp c main_v2_1 = (pdats V W 0 c).arrAt 2 cfg0.N)
    (h3 : ∀ c, Vp c main_v2_2 = (pdats V W 0 c).arrAt 3 cfg0.N)
    (hne : ∀ c (b : Ref sig .tc), b ≠ main_v2_0 → b ≠ main_v2_1 → b ≠ main_v2_2 → Vp c b = V c b) :
    Pipeline.RegionSeg (pcfgs (F := F)) adm (pdats V W) () defs₀ 𝒱₀ L lv 0 where
  win := (launch0).win.to₀
  block_pos := (launch0).block_pos
  stage_whole := (launch0).stage_whole
  K := PEmpty
  osem k := k.elim
  ho := Pipeline.OwnSemFacts.none _
  hbody c := (body_obligation0 V c).loose
  hwaits := Pipeline.hwaits_of_owed_zero _ _ _ _ L lv 0 fun _ _ => rfl
  pre c := iprop(unscopedBufs c (fun b => V c b) ∗ Rest c)
  post c := iprop(unscopedBufs c (fun b => Vp c b) ∗ Rest c)
  X _ := BI.emp
  Y _ := BI.emp
  Z c := Pipeline.unscopedRest (Ix := Unit) (Name := ℕ) (U := UR sig nD τ) (Lvl := ℕ) spec0 c (fun b => V c b)
  hentry c := by
    rw [Pipeline.ownSems0_none]
    have hsplit := Pipeline.arrays_of_unscopedBufs (p := 0) (pcfgs (F := F)) adm (pdats V W) (launch0).win (launch0).arr_whole c
      ((pdats V W 0 c).share_full fun _ => rfl) (fun b => V c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V W 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (pdats V W 0 c).Φ (Fin.last _) = Pipeline.scopedRest (Ix := Unit) (Name := ℕ) (U := UR sig nD τ) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ) (launch0).win (launch0).arr_whole c
      (pdats V W) ((pdats V W 0 c).share_full fun _ => rfl) (fun b => V c b) (fun b => Vp c b) ((pdats V W 0 c).arrAt · cfg0.N)
      (fun w => by
        fin_cases w
        · exact ((pdats V W 0 c).arrAt_in 0 rfl _).trans (hne c main_v0 (by decide) (by decide) (by decide)).symm
        · exact (h1 c).symm
        · exact (h2 c).symm
        · exact (h3 c).symm)
      (fun b hb => hne c b (fun h => hb (h ▸ Finset.mem_image.mpr ⟨1, Finset.mem_univ _, rfl⟩)) (fun h => hb (h ▸ Finset.mem_image.mpr ⟨2, Finset.mem_univ _, rfl⟩)) (fun h => hb (h ▸ Finset.mem_image.mpr ⟨3, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- Region 1, entered with the unscoped buffers at its entry contents and left with them at `Vp`, which has its results'
    arrays as the region computes them and agrees with the entry contents elsewhere. -/
def reg1 (V W Vp : Entry F)
    (h2 : ∀ c, Vp c main_v3_0 = (pdats V W 1 c).arrAt 2 cfg1.N)
    (h3 : ∀ c, Vp c main_v3_1 = (pdats V W 1 c).arrAt 3 cfg1.N)
    (h4 : ∀ c, Vp c main_v3_2 = (pdats V W 1 c).arrAt 4 cfg1.N)
    (hne : ∀ c (b : Ref sig .tc), b ≠ main_v3_0 → b ≠ main_v3_1 → b ≠ main_v3_2 → Vp c b = W c b) :
    Pipeline.RegionSeg (pcfgs (F := F)) adm (pdats V W) () defs₀ 𝒱₀ L lv 1 where
  win := (launch1).win.to₀
  block_pos := (launch1).block_pos
  stage_whole := (launch1).stage_whole
  K := PEmpty
  osem k := k.elim
  ho := Pipeline.OwnSemFacts.none _
  hbody c := (body_obligation1 W c).loose
  hwaits := Pipeline.hwaits_of_owed_zero _ _ _ _ L lv 1 fun _ _ => rfl
  pre c := iprop(unscopedBufs c (fun b => W c b) ∗ Rest c)
  post c := iprop(unscopedBufs c (fun b => Vp c b) ∗ Rest c)
  X _ := BI.emp
  Y _ := BI.emp
  Z c := Pipeline.unscopedRest (Ix := Unit) (Name := ℕ) (U := UR sig nD τ) (Lvl := ℕ) spec1 c (fun b => W c b)
  hentry c := by
    rw [Pipeline.ownSems0_none]
    have hsplit := Pipeline.arrays_of_unscopedBufs (p := 1) (pcfgs (F := F)) adm (pdats V W) (launch1).win (launch1).arr_whole c
      ((pdats V W 1 c).share_full fun _ => rfl) (fun b => W c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V W 1 c).Φ 0 = Pipeline.scopedRest (Ix := Unit) (Name := ℕ) (U := UR sig nD τ) (Lvl := ℕ) (Val := Elt F) spec1 c from rfl]
    iintro ⟨-, -, Hr⟩; iexact Hr
  hout c := by
    rw [Pipeline.ownSems0_none, show (pdats V W 1 c).Φ (Fin.last _) = Pipeline.scopedRest (Ix := Unit) (Name := ℕ) (U := UR sig nD τ) (Lvl := ℕ) (Val := Elt F) spec1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ) (launch1).win (launch1).arr_whole c
      (pdats V W) ((pdats V W 1 c).share_full fun _ => rfl) (fun b => W c b) (fun b => Vp c b) ((pdats V W 1 c).arrAt · cfg1.N)
      (fun w => by
        fin_cases w
        · exact ((pdats V W 1 c).arrAt_in 0 rfl _).trans (hne c main_v2_2 (by decide) (by decide) (by decide)).symm
        · exact ((pdats V W 1 c).arrAt_in 1 rfl _).trans (hne c main_v1 (by decide) (by decide) (by decide)).symm
        · exact (h2 c).symm
        · exact (h3 c).symm
        · exact (h4 c).symm)
      (fun b hb => hne c b (fun h => hb (h ▸ Finset.mem_image.mpr ⟨2, Finset.mem_univ _, rfl⟩)) (fun h => hb (h ▸ Finset.mem_image.mpr ⟨3, Finset.mem_univ _, rfl⟩)) (fun h => hb (h ▸ Finset.mem_image.mpr ⟨4, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Proof.Ideal

end
-- ==== Proof.Ideal.Run.lean ====
/-
  The whole program's run: every buffer at its end, and that the arguments are as launched.
-/
module

public import proofs.«01_k».proof.Proof.Ideal.Region

@[expose] public section

set_option maxRecDepth 16384

noncomputable section

namespace Cert.Proof.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents entering region 0, entering region 1, and after it. -/
def W1 : Entry F := fun c => V1 m c
def W2 : Entry F := fun c => Function.update (Function.update (Function.update (V1 m c)
  main_v2_0 ((dat0 (W1 m) c).arrAt 1 cfg0.N)) main_v2_1 ((dat0 (W1 m) c).arrAt 2 cfg0.N)) main_v2_2 ((dat0 (W1 m) c).arrAt 3 cfg0.N)
def W3 : Entry F := fun c => Function.update (Function.update (Function.update (W2 m c)
  main_v3_0 ((dat1 (W2 m) c).arrAt 2 cfg1.N)) main_v3_1 ((dat1 (W2 m) c).arrAt 3 cfg1.N)) main_v3_2 ((dat1 (W2 m) c).arrAt 4 cfg1.N)

theorem W2_v2_2 (c : Dev nD) : W2 m c main_v2_2 = (dat0 (W1 m) c).arrAt 3 cfg0.N := by
  unfold W2; exact Function.update_self _ _ _
theorem W2_v2_1 (c : Dev nD) : W2 m c main_v2_1 = (dat0 (W1 m) c).arrAt 2 cfg0.N := by
  unfold W2; exact (Function.update_of_ne (StableHlo.devRef_ne_of_ne (by decide)) _ _).trans (Function.update_self _ _ _)
theorem W2_v2_0 (c : Dev nD) : W2 m c main_v2_0 = (dat0 (W1 m) c).arrAt 1 cfg0.N := by
  unfold W2; exact (Function.update_of_ne (StableHlo.devRef_ne_of_ne (by decide)) _ _).trans ((Function.update_of_ne (StableHlo.devRef_ne_of_ne (by decide)) _ _).trans (Function.update_self _ _ _))
theorem W2_of (c : Dev nD) (b : Ref sig .tc) (h0 : b ≠ main_v2_0) (h1 : b ≠ main_v2_1) (h2 : b ≠ main_v2_2) : W2 m c b = V1 m c b := by
  unfold W2; exact (Function.update_of_ne (StableHlo.devRef_ne_of_ne h2) _ _).trans ((Function.update_of_ne (StableHlo.devRef_ne_of_ne h1) _ _).trans (Function.update_of_ne (StableHlo.devRef_ne_of_ne h0) _ _))
theorem W3_v3_2 (c : Dev nD) : W3 m c main_v3_2 = (dat1 (W2 m) c).arrAt 4 cfg1.N := by
  unfold W3; exact Function.update_self _ _ _
theorem W3_v3_1 (c : Dev nD) : W3 m c main_v3_1 = (dat1 (W2 m) c).arrAt 3 cfg1.N := by
  unfold W3; exact (Function.update_of_ne (StableHlo.devRef_ne_of_ne (by decide)) _ _).trans (Function.update_self _ _ _)
theorem W3_v3_0 (c : Dev nD) : W3 m c main_v3_0 = (dat1 (W2 m) c).arrAt 2 cfg1.N := by
  unfold W3; exact (Function.update_of_ne (StableHlo.devRef_ne_of_ne (by decide)) _ _).trans ((Function.update_of_ne (StableHlo.devRef_ne_of_ne (by decide)) _ _).trans (Function.update_self _ _ _))
theorem W3_of (c : Dev nD) (b : Ref sig .tc) (h0 : b ≠ main_v3_0) (h1 : b ≠ main_v3_1) (h2 : b ≠ main_v3_2) : W3 m c b = W2 m c b := by
  unfold W3; exact (Function.update_of_ne (StableHlo.devRef_ne_of_ne h2) _ _).trans ((Function.update_of_ne (StableHlo.devRef_ne_of_ne h1) _ _).trans (Function.update_of_ne (StableHlo.devRef_ne_of_ne h0) _ _))

/-- What the regions leave, as the launch's frame takes it. -/
def outs : Outs (F := F) := fun k r c => if k = 2 then W2 m c r else W3 m c r

theorem V2_eq (c : Dev nD) : V2 m (outs m) c = W2 m c := by
  unfold V2 outs; simp only [if_true]
  rw [W2_v2_0, W2_v2_1, W2_v2_2]; rfl
theorem V3_eq (c : Dev nD) : V3 m (outs m) c = W3 m c := by
  unfold V3; rw [V2_eq]; unfold outs
  rw [if_neg (by decide), if_neg (by decide), if_neg (by decide), W3_v3_0, W3_v3_1, W3_v3_2]; rfl

def R0 := reg0 (W1 m) (W2 m) (W2 m) (W2_v2_0 m) (W2_v2_1 m) (W2_v2_2 m) (W2_of m)
def R1 := reg1 (W1 m) (W2 m) (W3 m) (W3_v3_0 m) (W3_v3_1 m) (W3_v3_2 m) (W3_of m)

theorem hpre0 (c : Dev nD) : iprop(StableHlo.held (c : Thread nD τ) (Pipeline.ucRefs τ sig) (V1 m c) ∗ Rest c) ⊢ (R0 m).pre c := by
  rw [← Pipeline.unscopedBufs_held]; exact .rfl
theorem hpost0 (c : Dev nD) : (R0 m).post c ⊢ iprop(StableHlo.held (c : Thread nD τ) (Pipeline.ucRefs τ sig) (V2 m (outs m) c) ∗ Rest c) := by
  rw [V2_eq, ← Pipeline.unscopedBufs_held]; exact .rfl
theorem hpre1 (c : Dev nD) : iprop(StableHlo.held (c : Thread nD τ) (Pipeline.ucRefs τ sig) (V2 m (outs m) c) ∗ Rest c) ⊢ (R1 m).pre c := by
  rw [V2_eq, ← Pipeline.unscopedBufs_held]; exact .rfl
theorem hpost1 (c : Dev nD) : (R1 m).post c ⊢ iprop(StableHlo.held (c : Thread nD τ) (Pipeline.ucRefs τ sig) (V3 m (outs m) c) ∗ Rest c) := by
  rw [V3_eq, ← Pipeline.unscopedBufs_held]; exact .rfl

-- the launch theorem's implicit arguments are found by unifying its conclusion with this one
set_option backward.isDefEq.respectTransparency.types false in
/-- The program runs to its end, every unscoped buffer then at the last contents and every semaphore at zero. -/
theorem run_all : θ_run defs (onTc (τ := τ) (main (F := F))) ⟨m, fun _ => 0, ρ⟩ (fun r =>
    (∀ c : Dev nD, ∀ b ∈ Pipeline.ucRefs τ sig, r.2.mem ((c : Thread nD τ).1, b) = V4 m (outs m) c b) ∧ r.2.sem = fun _ => 0) := by
  refine Pipeline.θ_run_regions_kit_dev_sems (pcfgs (F := F)) adm (pdats (W1 m) (W2 m)) () cellOf_inj emb₁ defs₀ 𝒱₀ L lv m ρ main
    (segs m (outs m) 𝒱₀ L lv (fun _ c => Rest c) () (pdats (W1 m) (W2 m)) (R0 m) (R1 m))
    (fun c Q => by
      rewrite [main_chain c, Seg.run_eq_chain,
        show (segs m (outs m) 𝒱₀ L lv (fun _ c => Rest c) () (pdats (W1 m) (W2 m)) (R0 m) (R1 m) c).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (O₀ := 0) (hL := fun _ _ => rfl) (G := fun _ => iprop(emp)) (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ Rest c))
    (Tₙ := fun c => StableHlo.held (c : Thread nD τ) (Pipeline.ucRefs τ sig) (V4 m (outs m) c))
    (hch := fun c => ⟨.rfl, hpre0 m c, (hpost0 m c).trans (hpre1 m c), hpost1 m c, sep_mono .rfl .rfl⟩)
    (hinit := ?_) (QY := fun c s => ∀ b ∈ Pipeline.ucRefs τ sig, s.mem ((c : Thread nD τ).1, b) = V4 m (outs m) c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    iexists ∅; iexact HO
  · -- the end: each argument's buffer read off the last valuation
    unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      exact h
    · iexact HSI

/-- An unscoped buffer of the TensorCore's is one of those. -/
theorem mem_ucRefs (r : Ref sig .tc) (h : ¬ (Proc.devRef (τ := τ) .tc r).isScoped) : Proc.devRef .tc r ∈ Pipeline.ucRefs τ sig :=
  Finset.mem_filter.mpr ⟨StableHlo.devRef_mem_tcRefs r, h⟩

/-- The program runs to its end with the arguments as launched and every semaphore at zero. -/
theorem frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run _ _ _).mono (fun r h => ⟨fun c =>
    ⟨(h.1 c _ (mem_ucRefs main_arg0 (by decide))).trans (V4_main_arg0 m (outs m) c),
      (h.1 c _ (mem_ucRefs main_arg1 (by decide))).trans (V4_main_arg1 m (outs m) c)⟩, h.2⟩) (run_all m ρ)

end Cert.Proof.Ideal

end
-- ==== Proof.Ideal.Group.lean ====
/-
  One group of eight 32-row blocks, as both kernels quantise it: the blocks' largest magnitudes, the exponent field of
  each, the words the inverse and the scale are kept in, and the codes and dequantised values of one block.
-/
module

public import proofs.«01_k».proof.Proof.Gen.KernelIdeal.Loops

@[expose] public section

set_option maxRecDepth 16384

noncomputable section

namespace Cert.Proof.Ideal

open Cert.KernelIdeal Cert.KernelIdeal.Gen
open Idealize.ShloMosaic Idealize.ShloMosaic.TcCoe Idealize.ShloMosaic.Tactic

variable {F : FTy → Type} [FloatOps F]

/-- A block's largest magnitude in each column, repeated over eight rows. -/
def blkMax (v : Vec F S32x256 .bf16) : FVec F S8x256 .f32 :=
  have a : FVec F S32x256 .bf16 := absf (shapeCast S32x256 v shapeCasts_S32x256_S32x256)
  have h : FVec F S16x256 .bf16 := maximumf (extractStridedSlice S16x256 ![0, 0] a slices_S32x256_o0_0_S16x256) (extractStridedSlice S16x256 ![16, 0] a slices_S32x256_o16_0_S16x256)
  have lo : FVec F S8x256 .bf16 := rowsOfParity 0 S8x256 h bitcasts_S16x256_w16_S8x256_w32
  have hi : FVec F S8x256 .bf16 := rowsOfParity 1 S8x256 h bitcasts_S16x256_w16_S8x256_w32
  have m : FVec F S8x256 .f32 := maximumf (extf .f32 hi) (extf .f32 lo)
  have r : FVec F S256 .f32 := multiReduction .maximumf [0] S256 m 0xFF800000#32 reduces_S8x256_S256 (.inl rfl) rfl
  broadcastTo S8x256 (shapeCast S1x256 (shapeCast S1x256 r shapeCasts_S256_S1x256) shapeCasts_S1x256_S1x256) broadcasts_S1x256_S8x256

/-- Row `n` of the first, the other rows of the second. -/
def pick (n : BitVec 32) (a b : FVec F S8x256 .f32) : FVec F S8x256 .f32 :=
  select (cmpi .eq (iota .tc S8x256 32 [0] iota_S8x256_d0_w32) (broadcast S8x256 n)) a b

/-- The largest magnitudes of a group: row `b` holds block `b`'s. -/
def grpMax (A : Fin 8 → Vec F S32x256 .bf16) : FVec F S8x256 .f32 :=
  pick 7#32 (blkMax (A 7)) (pick 6#32 (blkMax (A 6)) (pick 5#32 (blkMax (A 5)) (pick 4#32 (blkMax (A 4))
    (pick 3#32 (blkMax (A 3)) (pick 2#32 (blkMax (A 2)) (pick 1#32 (blkMax (A 1)) (blkMax (A 0))))))))

/-- The scaled magnitudes. -/
def grpY (r : BitVec 32) (A : Fin 8 → Vec F S32x256 .bf16) : FVec F S8x256 .f32 :=
  mulf (grpMax A) (broadcast S8x256 (Scalar.ofBits .f32 r : F .f32))

/-- One step of the search: the bit is kept if the float it makes is not above `y`. -/
def probe (y : FVec F S8x256 .f32) (n : BitVec 32) (e : IVec S8x256 32) : IVec S8x256 32 :=
  select (cmpf .olt y (bitcastToFloat .f32 (addi e (broadcast S8x256 n)))) e (addi e (broadcast S8x256 n))

/-- The search for the exponent field, highest bit first. -/
def expBits (y : FVec F S8x256 .f32) : IVec S8x256 32 :=
  probe y 8388608#32 (probe y 16777216#32 (probe y 33554432#32 (probe y 67108864#32 (probe y 134217728#32
    (probe y 268435456#32 (probe y 536870912#32 (probe y 1073741824#32 (broadcast S8x256 0#32))))))))

def isZero (e : IVec S8x256 32) : IVec S8x256 1 := cmpi .eq e (broadcast S8x256 0#32)

def scaleBits (e : IVec S8x256 32) : IVec S8x256 32 :=
  select (isZero e) (broadcast S8x256 1065353216#32) (addi e (broadcast S8x256 8388608#32))

def invBits (e : IVec S8x256 32) : IVec S8x256 32 :=
  select (isZero e) (broadcast S8x256 1065353216#32) (subi (broadcast S8x256 2122317824#32) e)

/-- Both halves of a word hold its upper half (the lower half being zero). -/
def word (b : IVec S8x256 32) : IVec S1x8x256 32 :=
  shapeCast S1x8x256 (ori b (shrui b (broadcast S8x256 16#32))) shapeCasts_S8x256_S1x8x256

/-- A row of words, read as pairs of floats and repeated over a block. -/
def spread (w : Vec F S1x1x256 .i32) : FVec F S32x256 .bf16 :=
  have b : IVec S8x256 32 := broadcastTo S8x256 (shapeCast S1x256 (shapeCast S1x256 (w : IVec S1x1x256 32) shapeCasts_S1x1x256_S1x256) shapeCasts_S1x256_S1x256) broadcasts_S1x256_S8x256
  have h : FVec F S16x256 .bf16 := bitcastToFloat .bf16 (bitcast S16x256 16 b bitcasts_S8x256_w32_S16x256_w16)
  concatenate S32x256 0 [⟨S16x256, h⟩, ⟨S16x256, h⟩] concatenates_S16x256_S16x256_S32x256_d0

/-- A block's codes, from the row of words holding its inverse scales. -/
def codeBlk (φ : FTy) (h : φ.bits < FTy.bf16.bits) (lo hi : BitVec 16) (v : Vec F S32x256 .bf16) (w : Vec F S1x1x256 .i32) : FVec F S32x256 φ :=
  truncf φ (minimumf (broadcast S32x256 (Scalar.ofBits .bf16 hi : F .bf16)) (maximumf (broadcast S32x256 (Scalar.ofBits .bf16 lo : F .bf16))
    (mulf (shapeCast S32x256 v shapeCasts_S32x256_S32x256) (spread w)))) h

/-- A block's dequantised values, from its codes and the row of words holding its scales. -/
def hatBlk (φ : FTy) (h : φ.bits < FTy.bf16.bits) (q : FVec F S32x256 φ) (w : Vec F S1x1x256 .i32) : FVec F S32x256 .bf16 :=
  shapeCast S32x256 (mulf (extf .bf16 q h) (spread w)) shapeCasts_S32x256_S32x256

/-- The two words of a group, as the scratch holds them: the inverse first, the scale second. -/
def wordPieces (e : IVec S8x256 32) (L : List (View.Piece (Elt F) S2x8x256 .i32)) : List (View.Piece (Elt F) S2x8x256 .i32) :=
  ⟨Rect.unit ![1, 0, 0] S1x8x256.size inb_S2x8x256_S1x8x256_1_0_0, word (scaleBits e)⟩ ::
    ⟨Rect.unit ![0, 0, 0] S1x8x256.size inb_S2x8x256_S1x8x256_0_0_0, word (invBits e)⟩ :: L

theorem wrow_inb (a : Fin 2) (b : Fin 8) : ∀ d, (![a.val, b.val, 0] : Fin 3 → ℕ) d + S1x1x256.size d ≤ S2x8x256.size d := by
  revert a b; decide +kernel

/-- A row of the scratch of words. -/
def wrow (m : Memref sig .tc .vmem S2x8x256 .i32) (L : List (View.Piece (Elt F) S2x8x256 .i32)) (a : Fin 2) (b : Fin 8) : Vec F S1x1x256 .i32 :=
  m.view.readCov L (Rect.unit (s := S2x8x256) ![a.val, b.val, 0] S1x1x256.size (wrow_inb a b)).toLoadRect

/-- The pieces of the eight blocks of a group, the last first. -/
def eight {s : Shape} {e : EltTy} (f : Fin 8 → View.Piece (Elt F) s e) (L : List (View.Piece (Elt F) s e)) : List (View.Piece (Elt F) s e) :=
  f 7 :: f 6 :: f 5 :: f 4 :: f 3 :: f 2 :: f 1 :: f 0 :: L

theorem mem_eight {s : Shape} {e : EltTy} (f : Fin 8 → View.Piece (Elt F) s e) (L : List (View.Piece (Elt F) s e)) {p} :
    p ∈ eight f L ↔ (∃ b, p = f b) ∨ p ∈ L := by
  simp only [eight, List.mem_cons]
  constructor
  · rintro (h | h | h | h | h | h | h | h | h)
    exacts [.inl ⟨_, h⟩, .inl ⟨_, h⟩, .inl ⟨_, h⟩, .inl ⟨_, h⟩, .inl ⟨_, h⟩, .inl ⟨_, h⟩, .inl ⟨_, h⟩, .inl ⟨_, h⟩, .inr h]
  · rintro (⟨b, rfl⟩ | h)
    · fin_cases b <;> simp
    · simp [h]

end Cert.Proof.Ideal

end
-- ==== Proof.Ideal.Scalar.lean ====
/-
  The scalar side of the quantisation at the extended reals: powers of two by their exponent fields, the search for the
  exponent field of a magnitude, and the scale and its inverse.
-/
module

public import Idealize.ShloMosaic.Lib.ValueIdx
public import Idealize.ShloMosaic.PureOps

@[expose] public section

set_option maxRecDepth 16384

noncomputable section

namespace Cert.Proof.Ideal

open Idealize.ShloMosaic Idealize.ShloMosaic.ValueIdx

/-- The float whose exponent field is `k` and whose other bits are zero. -/
def pw (k : ℕ) : EReal := Ideal.ofBits .f32 (BitVec.ofNat 32 (k * 8388608))

theorem fields32 : ∀ k : Fin 256, ((BitVec.ofNat 32 (k.val * 8388608)).extractLsb' 31 1 == 1#1) = false ∧
    ((BitVec.ofNat 32 (k.val * 8388608)).extractLsb' 23 8).toNat = k.val ∧ ((BitVec.ofNat 32 (k.val * 8388608)).extractLsb' 0 23).toNat = 0 := by
  decide +kernel

theorem fields16 : ∀ k : Fin 256, ((BitVec.ofNat 16 (k.val * 128)).extractLsb' 15 1 == 1#1) = false ∧
    ((BitVec.ofNat 16 (k.val * 128)).extractLsb' 7 8).toNat = k.val ∧ ((BitVec.ofNat 16 (k.val * 128)).extractLsb' 0 7).toNat = 0 := by
  decide +kernel

theorem ofBits32 (b : BitVec 32) : Ideal.ofBits .f32 b =
    if (b.extractLsb' 23 8).toNat = 2 ^ 8 - 1 then (if (b.extractLsb' 0 23).toNat = 0 then (if (b.extractLsb' 31 1 == 1#1) then ⊥ else ⊤) else ⊥)
    else if (b.extractLsb' 23 8).toNat = 0 then (((if (b.extractLsb' 31 1 == 1#1) then -1 else 1) * (b.extractLsb' 0 23).toNat * (2 : ℝ) ^ (1 - (2 ^ (8 - 1) - 1) - (23 : ℕ) : Int) : ℝ) : EReal)
    else (((if (b.extractLsb' 31 1 == 1#1) then -1 else 1) * (2 ^ 23 + (b.extractLsb' 0 23).toNat : ℕ) * (2 : ℝ) ^ (((b.extractLsb' 23 8).toNat : Int) - (2 ^ (8 - 1) - 1) - (23 : ℕ)) : ℝ) : EReal) := rfl

theorem ofBits16 (b : BitVec 16) : Ideal.ofBits .bf16 b =
    if (b.extractLsb' 7 8).toNat = 2 ^ 8 - 1 then (if (b.extractLsb' 0 7).toNat = 0 then (if (b.extractLsb' 15 1 == 1#1) then ⊥ else ⊤) else ⊥)
    else if (b.extractLsb' 7 8).toNat = 0 then (((if (b.extractLsb' 15 1 == 1#1) then -1 else 1) * (b.extractLsb' 0 7).toNat * (2 : ℝ) ^ (1 - (2 ^ (8 - 1) - 1) - (7 : ℕ) : Int) : ℝ) : EReal)
    else (((if (b.extractLsb' 15 1 == 1#1) then -1 else 1) * (2 ^ 7 + (b.extractLsb' 0 7).toNat : ℕ) * (2 : ℝ) ^ (((b.extractLsb' 7 8).toNat : Int) - (2 ^ (8 - 1) - 1) - (7 : ℕ)) : ℝ) : EReal) := rfl

theorem pw_eq {k : ℕ} (h0 : 0 < k) (h : k < 255) : pw k = (((2 : ℝ) ^ ((k : ℤ) - 127) : ℝ) : EReal) := by
  obtain ⟨a, b, c⟩ := fields32 ⟨k, by omega⟩
  rw [pw, ofBits32, a, b, c, if_neg (by norm_num; omega), if_neg (by norm_num; omega)]
  congr 1
  rw [show ((k : ℤ) - 127) = ((k : ℤ) - (2 ^ (8 - 1) - 1) - (23 : ℕ)) + (23 : ℕ) by norm_num, zpow_add₀ (by norm_num), zpow_natCast]
  push_cast
  ring

theorem pw_bf16 {k : ℕ} (h0 : 0 < k) (h : k < 255) : Ideal.ofBits .bf16 (BitVec.ofNat 16 (k * 128)) = pw k := by
  rw [pw_eq h0 h]
  obtain ⟨a, b, c⟩ := fields16 ⟨k, by omega⟩
  rw [ofBits16, a, b, c, if_neg (by norm_num; omega), if_neg (by norm_num; omega)]
  congr 1
  rw [show ((k : ℤ) - 127) = ((k : ℤ) - (2 ^ (8 - 1) - 1) - (7 : ℕ)) + (7 : ℕ) by norm_num, zpow_add₀ (by norm_num), zpow_natCast]
  push_cast
  ring

theorem pw_zero : pw 0 = 0 := by
  unfold pw Ideal.ofBits Ideal.ieee
  norm_num

theorem pw_top : pw 255 = ⊤ := by
  obtain ⟨a, b, c⟩ := fields32 255
  unfold pw Ideal.ofBits Ideal.ieee
  have e : ((255 : Fin 256) : ℕ) = 255 := rfl
  rw [e] at a b c
  simp only [a, b, c]
  norm_num

theorem pw_mono {j k : ℕ} (h0 : 0 < j) (h : j ≤ k) (hk : k < 255) : pw j ≤ pw k := by
  rw [pw_eq h0 (by omega), pw_eq (by omega) hk, EReal.coe_le_coe_iff]
  exact zpow_le_zpow_right₀ (by norm_num) (by omega)

theorem pw_pos {k : ℕ} (h0 : 0 < k) (hk : k < 255) : 0 < pw k := by
  rw [pw_eq h0 hk]; exact EReal.coe_pos.2 (zpow_pos (by norm_num) _)

/-- The exponent fields of a power of two and of its inverse add up to 254. -/
theorem pw_inv {k : ℕ} (h0 : 0 < k) (hk : k < 254) : (pw k)⁻¹ = pw (254 - k) := by
  rw [pw_eq h0 (by omega), pw_eq (by omega) (by omega), ← EReal.coe_inv, ← zpow_neg]
  congr 2; push_cast [Nat.cast_sub (show k ≤ 254 by omega)]; ring

/-- One step of the search on one magnitude. -/
def probeS (y : EReal) (n e : BitVec 32) : BitVec 32 :=
  Scalar.select (Ideal.cmp .olt y (Ideal.ofBits .f32 (e + n))) e (e + n)

/-- The exponent field the search finds. -/
def eS (y : EReal) : BitVec 32 :=
  probeS y 8388608#32 (probeS y 16777216#32 (probeS y 33554432#32 (probeS y 67108864#32 (probeS y 134217728#32
    (probeS y 268435456#32 (probeS y 536870912#32 (probeS y 1073741824#32 0#32)))))))

/-- The scale's bits, from the exponent field. -/
def sbS (e : BitVec 32) : BitVec 32 := Scalar.select (IntOp.cmpi .eq e 0#32) 1065353216#32 (e + 8388608#32)

/-- The inverse scale's bits, from the exponent field. -/
def ibS (e : BitVec 32) : BitVec 32 := Scalar.select (IntOp.cmpi .eq e 0#32) 1065353216#32 (2122317824#32 - e)

theorem cmp_olt (x y : EReal) : Ideal.cmp .olt x y = BitVec.ofBool (decide (x < y)) := rfl

/-- What the search keeps: the field so far is at most `y`, and adding `w` passes it. -/
def Inv (y : EReal) (w : ℕ) (e : BitVec 32) : Prop :=
  ∃ k : ℕ, e = BitVec.ofNat 32 (k * 8388608) ∧ (k = 0 ∨ pw k ≤ y) ∧ k + w ≤ 256 ∧ (k + w = 256 ∨ y < pw (k + w))

theorem probe_inv (y : EReal) (w : ℕ) (e n : BitVec 32) (hn : n = BitVec.ofNat 32 (w * 8388608)) (h : Inv y (2 * w) e) (hw : 0 < w) : Inv y w (probeS y n e) := by
  obtain ⟨k, rfl, hk, hb, hy⟩ := h
  subst hn
  have hadd : BitVec.ofNat 32 (k * 8388608) + BitVec.ofNat 32 (w * 8388608) = BitVec.ofNat 32 ((k + w) * 8388608) := by
    rw [← BitVec.ofNat_add]; exact congrArg (BitVec.ofNat 32) (by ring)
  unfold probeS
  rw [hadd]
  have hc : Ideal.cmp .olt y (Ideal.ofBits .f32 (BitVec.ofNat 32 ((k + w) * 8388608))) = BitVec.ofBool (decide (y < pw (k + w))) := by
    rw [cmp_olt, pw]
  rw [hc]
  by_cases hlt : y < pw (k + w)
  · rw [decide_eq_true hlt, show BitVec.ofBool true = 1#1 from rfl, select_one]
    exact ⟨k, rfl, hk, by omega, .inr hlt⟩
  · rw [decide_eq_false hlt, show BitVec.ofBool false = 0#1 from rfl, select_zero]
    refine ⟨k + w, rfl, .inr (not_lt.1 hlt), by omega, ?_⟩
    rw [show k + w + w = k + 2 * w by ring]
    exact hy

theorem eS_inv (y : EReal) : Inv y 1 (eS y) := by
  have h0 : Inv y 256 0#32 := ⟨0, by rfl, .inl rfl, by norm_num, .inl rfl⟩
  unfold eS
  exact probe_inv y 1 _ _ (by rfl) (probe_inv y 2 _ _ (by rfl) (probe_inv y 4 _ _ (by rfl) (probe_inv y 8 _ _ (by rfl) (probe_inv y 16 _ _ (by rfl)
    (probe_inv y 32 _ _ (by rfl) (probe_inv y 64 _ _ (by rfl) (probe_inv y 128 _ _ (by rfl) h0 (by norm_num)) (by norm_num)) (by norm_num))
    (by norm_num)) (by norm_num)) (by norm_num)) (by norm_num)) (by norm_num)

/-- For a magnitude below 2^120 the scale is the power of two with field `m`, its inverse the one with field
    `254 - m`; `m` is the least field whose power is above the magnitude, and 127 for a magnitude below 2^-126. -/
theorem scale_spec (y : EReal) (hy : y < pw 247) : ∃ m : ℕ, 0 < m ∧ m < 254 ∧ sbS (eS y) = BitVec.ofNat 32 (m * 8388608) ∧
    ibS (eS y) = BitVec.ofNat 32 ((254 - m) * 8388608) ∧ (y < pw 1 → m = 127) ∧ (¬ y < pw 1 → y < pw m ∧ ∀ j, 0 < j → j < m → pw j ≤ y) := by
  obtain ⟨k, he, hk, hb, hlt⟩ := eS_inv y
  have hk255 : k < 247 := by
    by_contra hc
    rcases hk with h | h
    · omega
    rcases lt_or_ge k 255 with h5 | h5
    · exact absurd (lt_of_le_of_lt ((pw_mono (by norm_num) (by omega) h5).trans h) hy) (lt_irrefl _)
    · have : k = 255 := by omega
      subst this; rw [pw_top] at h; exact absurd (lt_of_le_of_lt h hy) (by simp)
  have hlt' : y < pw (k + 1) := by rcases hlt with h | h; · omega
                                   · exact h
  rw [he]
  rcases Nat.eq_zero_or_pos k with rfl | hpos
  · refine ⟨127, by norm_num, by norm_num, by rfl, by rfl, fun _ => rfl, fun h => absurd (by simpa using hlt') h⟩
  · have hne : BitVec.ofNat 32 (k * 8388608) ≠ 0#32 := by
      intro h
      have := congrArg BitVec.toNat h
      rw [BitVec.toNat_ofNat, BitVec.toNat_ofNat] at this
      omega
    have hc : IntOp.cmpi .eq (BitVec.ofNat 32 (k * 8388608)) 0#32 = 0#1 := by
      show BitVec.ofBool (_ == _) = _
      rw [beq_eq_false_iff_ne.2 hne]; rfl
    have hle : pw k ≤ y := by rcases hk with h | h; · omega
                              · exact h
    refine ⟨k + 1, by omega, by omega, ?_, ?_, ?_, ?_⟩
    · rw [sbS, hc, select_zero, show (8388608#32 : BitVec 32) = BitVec.ofNat 32 8388608 from rfl, ← BitVec.ofNat_add]; exact congrArg (BitVec.ofNat 32) (by ring)
    · rw [ibS, hc, select_zero]
      apply BitVec.eq_of_toNat_eq
      rw [BitVec.toNat_sub, BitVec.toNat_ofNat, BitVec.toNat_ofNat, BitVec.toNat_ofNat]
      omega
    · intro h
      exact absurd (lt_of_le_of_lt ((pw_mono (by norm_num) hpos (by omega)).trans hle) h) (lt_irrefl _)
    · intro _
      exact ⟨hlt', fun j hj hjk => (pw_mono hj (by omega) (by omega)).trans hle⟩

/-- The half of a word that holds a power of two twice. -/
def half (b : BitVec 32) : BitVec 16 := b.extractLsb' 16 16

theorem half_pw : ∀ m : Fin 256, half (BitVec.ofNat 32 (m.val * 8388608)) = BitVec.ofNat 16 (m.val * 128) := by decide +kernel

/-- The scale of a magnitude `a`, at the format whose inverse largest value has bits `r`. -/
def scS (r : BitVec 32) (a : EReal) : EReal := Ideal.ofBits .f32 (sbS (eS (a * Ideal.ofBits .f32 r)))

/-- Its inverse, as the word's half holds it. -/
def inS (r : BitVec 32) (a : EReal) : EReal := Ideal.ofBits .bf16 (half (ibS (eS (a * Ideal.ofBits .f32 r))))

/-- The scale, as the word's half holds it. -/
def hsS (r : BitVec 32) (a : EReal) : EReal := Ideal.ofBits .bf16 (half (sbS (eS (a * Ideal.ofBits .f32 r))))

/-- The code of `v` in a block of largest magnitude `a`. -/
def codeS (r : BitVec 32) (lo hi : BitVec 16) (a v : EReal) : EReal := min (Ideal.ofBits .bf16 hi) (max (Ideal.ofBits .bf16 lo) (v * inS r a))

/-- The dequantised `v`. -/
def hatS (r : BitVec 32) (lo hi : BitVec 16) (a v : EReal) : EReal := codeS r lo hi a v * hsS r a

theorem halves_sb : ∀ k : Fin 256, ∀ p : Fin 2, (sbS (BitVec.ofNat 32 (k.val * 8388608)) ||| sbS (BitVec.ofNat 32 (k.val * 8388608)) >>> 16).extractLsb' (16 * p.val) 16 = half (sbS (BitVec.ofNat 32 (k.val * 8388608))) := by
  decide +kernel

theorem halves_ib : ∀ k : Fin 256, ∀ p : Fin 2, (ibS (BitVec.ofNat 32 (k.val * 8388608)) ||| ibS (BitVec.ofNat 32 (k.val * 8388608)) >>> 16).extractLsb' (16 * p.val) 16 = half (ibS (BitVec.ofNat 32 (k.val * 8388608))) := by
  decide +kernel

theorem halves_sbS (y : EReal) (p : Fin 2) : (sbS (eS y) ||| sbS (eS y) >>> 16).extractLsb' (16 * p.val) 16 = half (sbS (eS y)) := by
  obtain ⟨k, he, -, hk, -⟩ := eS_inv y
  rw [he]; exact halves_sb ⟨k, by omega⟩ p

theorem halves_ibS (y : EReal) (p : Fin 2) : (ibS (eS y) ||| ibS (eS y) >>> 16).extractLsb' (16 * p.val) 16 = half (ibS (eS y)) := by
  obtain ⟨k, he, -, hk, -⟩ := eS_inv y
  rw [he]; exact halves_ib ⟨k, by omega⟩ p

end Cert.Proof.Ideal

end
-- ==== Proof.Ideal.GroupValue.lean ====
/-
  The group functions at the extended reals, entry by entry.
-/
module

public import proofs.«01_k».proof.Proof.Ideal.Group
public import proofs.«01_k».proof.Proof.Ideal.Scalar
public import Idealize.ShloMosaic.Lib.ValueLayout
public import Idealize.ShloMosaic.Lib.BitcastPair
public import Idealize.ShloMosaic.PureOps.Reduce
public import Idealize.ShloMosaic.Lib.Pipeline.Value
public import Idealize.ShloMosaic.Lib.Pipeline.FrameBody

@[expose] public section

set_option maxRecDepth 16384

noncomputable section

namespace Cert.Proof.Ideal

open Cert.KernelIdeal Cert.KernelIdeal.Gen
open Idealize.ShloMosaic Idealize.ShloMosaic.ValueIdx

/-- The largest magnitude of 32 numbers. -/
def amaxS (f : Fin 32 → EReal) : EReal := Finset.univ.sup fun s => max (f s) (-(f s))

theorem amaxS_le (f : Fin 32 → EReal) (c : EReal) : amaxS f ≤ c ↔ ∀ s, max (f s) (-(f s)) ≤ c := by
  simp [amaxS, Finset.sup_le_iff]

theorem foldl_max_le {ι : Type} (L : List ι) (f : ι → EReal) (i c : EReal) :
    L.foldl (fun acc r => max acc (f r)) i ≤ c ↔ i ≤ c ∧ ∀ r ∈ L, f r ≤ c := by
  induction L generalizing i with
  | nil => simp
  | cons a L ih => rw [List.foldl_cons, ih]; simp [and_assoc]

theorem ofBits_ninf : Ideal.ofBits .f32 0xFF800000#32 = ⊥ := by
  rw [ofBits32]
  have a : ((0xFF800000#32 : BitVec 32).extractLsb' 23 8).toNat = 255 := by decide +kernel
  have b : ((0xFF800000#32 : BitVec 32).extractLsb' 0 23).toNat = 0 := by decide +kernel
  have c : ((0xFF800000#32 : BitVec 32).extractLsb' 31 1 == 1#1) = true := by decide +kernel
  rw [a, b, c]; norm_num

theorem rowsOfParity_at {α : Type} (p : Fin 2) (x : S16x256.Idx → α) (h : S16x256.Bitcasts 16 S8x256 32) (a : Fin 8) (l : Fin 256) :
    rowsOfParity p S8x256 x h (ix2 a l) = x (ix2 (⟨2 * a.val + p.val, by omega⟩ : Fin 16) l) := by
  unfold rowsOfParity
  congr 1
  funext d
  match d with
  | ⟨0, _⟩ => rfl
  | ⟨1, _⟩ => rfl

theorem slice_at {α : Type} (n : ℕ) (hn : n + 16 ≤ 32) (x : S32x256.Idx → α) (h : S32x256.Slices ![n, 0] S16x256) (t : Fin 16) (l : Fin 256) :
    extractStridedSlice S16x256 ![n, 0] x h (ix2 t l) = x (ix2 (⟨n + t.val, by omega⟩ : Fin 32) l) := by
  unfold extractStridedSlice
  congr 1
  funext d
  match d with
  | ⟨0, _⟩ => rfl
  | ⟨1, _⟩ => exact Fin.ext (Nat.zero_add _)

theorem blkMax_at (v : Vec Ideal S32x256 .bf16) (a : Fin 8) (l : Fin 256) : blkMax v (ix2 a l) = amaxS fun s => v (ix2 s l) := by
  unfold blkMax
  dsimp only
  rw [broadcastTo_1b_ab_apply, shapeCast_self, shapeCast_a_1a_apply]
  refine ((congrFun (multiReduction_maximumf_eq_reduceFold _ _ _ _ _) _).trans (reduceFold_rows _ _ _ _ _)).trans ?_
  refine eq_of_forall_ge_iff fun c => ?_
  rw [amaxS_le]
  have hinit : (FloatOps.ofBits .f32 0xFF800000#32 : Ideal .f32) = (⊥ : EReal) := ofBits_ninf
  rw [hinit]
  refine (foldl_max_le (List.finRange 8) _ ⊥ c).trans ?_
  have hcol : reduces_S8x256_S256.col (ix1 l) = l := Fin.ext rfl
  simp only [hcol, bot_le, true_and, List.mem_finRange, forall_true_left]
  have hrow : ∀ r : Fin 8, (Shape.pair (d := ![8, 256]) r l) = ix2 r l := fun r => by
    funext d
    match d with
    | ⟨0, _⟩ => rfl
    | ⟨1, _⟩ => rfl
  have hv : ∀ r : Fin 8, ∀ p : Fin 2, rowsOfParity p S8x256 (maximumf (F := Ideal) (φ := .bf16) (extractStridedSlice S16x256 ![0, 0] (absf (shapeCast S32x256 v shapeCasts_S32x256_S32x256)) slices_S32x256_o0_0_S16x256)
      (extractStridedSlice S16x256 ![16, 0] (absf (shapeCast S32x256 v shapeCasts_S32x256_S32x256)) slices_S32x256_o16_0_S16x256)) bitcasts_S16x256_w16_S8x256_w32 (ix2 r l)
      = max (max (v (ix2 (⟨2 * r.val + p.val, by omega⟩ : Fin 32) l)) (-(v (ix2 (⟨2 * r.val + p.val, by omega⟩ : Fin 32) l))))
        (max (v (ix2 (⟨16 + (2 * r.val + p.val), by omega⟩ : Fin 32) l)) (-(v (ix2 (⟨16 + (2 * r.val + p.val), by omega⟩ : Fin 32) l)))) := fun r p => by
    rw [rowsOfParity_at, maximumf_apply, slice_at 0 (by norm_num), slice_at 16 (by norm_num), shapeCast_self]
    simp only [Nat.zero_add]
    rfl
  constructor
  · intro h s
    have hr := h ⟨(s.val % 16) / 2, by omega⟩
    rw [hrow, maximumf_apply, extf_apply, extf_apply, hv, hv] at hr
    have h4 := max_le_iff.1 hr
    have h41 := max_le_iff.1 h4.1
    have h42 := max_le_iff.1 h4.2
    have key : ∀ t : Fin 32, t = s → max (v (ix2 t l)) (-(v (ix2 t l))) ≤ c → max (v (ix2 s l)) (-(v (ix2 s l))) ≤ c := fun t e h => e ▸ h
    rcases (by omega : s.val = 2 * ((s.val % 16) / 2) + 1 ∨ s.val = 16 + (2 * ((s.val % 16) / 2) + 1) ∨ s.val = 2 * ((s.val % 16) / 2) + 0 ∨ s.val = 16 + (2 * ((s.val % 16) / 2) + 0)) with e | e | e | e
    · exact key _ (Fin.ext e.symm) h41.1
    · exact key _ (Fin.ext e.symm) h41.2
    · exact key _ (Fin.ext e.symm) h42.1
    · exact key _ (Fin.ext e.symm) h42.2
  · intro h r
    rw [hrow, maximumf_apply, extf_apply, extf_apply, hv, hv]
    exact max_le (max_le (h _) (h _)) (max_le (h _) (h _))

theorem pick_at (n : BitVec 32) (x y : FVec Ideal S8x256 .f32) (a : Fin 8) (l : Fin 256) :
    pick n x y (ix2 a l) = if BitVec.ofNat 32 a.val = n then x (ix2 a l) else y (ix2 a l) := by
  have : pick n x y (ix2 a l) = Scalar.select (BitVec.ofBool (BitVec.ofNat 32 (0 * 8 + a.val) == n)) (x (ix2 a l)) (y (ix2 a l)) := rfl
  rw [this, Nat.zero_mul, Nat.zero_add]
  by_cases h : BitVec.ofNat 32 a.val = n
  · rw [if_pos h, beq_iff_eq.2 h]; rfl
  · rw [if_neg h, beq_eq_false_iff_ne.2 h]; rfl

theorem grpMax_at (A : Fin 8 → Vec Ideal S32x256 .bf16) (a : Fin 8) (l : Fin 256) : grpMax A (ix2 a l) = amaxS fun s => A a (ix2 s l) := by
  unfold grpMax
  simp only [pick_at, blkMax_at]
  have d : ∀ a n : Fin 8, (BitVec.ofNat 32 a.val = BitVec.ofNat 32 n.val) ↔ a = n := by decide +kernel
  simp only [show BitVec.ofNat 32 a.val = 7#32 ↔ a = 7 from d a 7, show BitVec.ofNat 32 a.val = 6#32 ↔ a = 6 from d a 6,
    show BitVec.ofNat 32 a.val = 5#32 ↔ a = 5 from d a 5, show BitVec.ofNat 32 a.val = 4#32 ↔ a = 4 from d a 4,
    show BitVec.ofNat 32 a.val = 3#32 ↔ a = 3 from d a 3, show BitVec.ofNat 32 a.val = 2#32 ↔ a = 2 from d a 2,
    show BitVec.ofNat 32 a.val = 1#32 ↔ a = 1 from d a 1]
  split_ifs with h7 h6 h5 h4 h3 h2 h1
  · rw [h7]
  · rw [h6]
  · rw [h5]
  · rw [h4]
  · rw [h3]
  · rw [h2]
  · rw [h1]
  · rw [show a = 0 by omega]

theorem probe_at (y : FVec Ideal S8x256 .f32) (n : BitVec 32) (e : IVec S8x256 32) (i : S8x256.Idx) :
    probe y n e i = probeS (y i) n (e i) := rfl

/-- The exponent fields of a group, entry by entry. -/
theorem ebits_at (r : BitVec 32) (A : Fin 8 → Vec Ideal S32x256 .bf16) (a : Fin 8) (l : Fin 256) :
    expBits (grpY r A) (ix2 a l) = eS (amaxS (fun s => A a (ix2 s l)) * Ideal.ofBits .f32 r) := by
  have hy : grpY r A (ix2 a l) = amaxS (fun s => A a (ix2 s l)) * Ideal.ofBits .f32 r := by
    rw [← grpMax_at, grpY, mulf_apply, broadcast_apply]; rfl
  have step : ∀ (n : BitVec 32) (e : IVec S8x256 32) (es : BitVec 32), e (ix2 a l) = es → probe (grpY r A) n e (ix2 a l) = probeS (grpY r A (ix2 a l)) n es := by
    rintro n e _ rfl; exact probe_at _ _ _ _
  rw [← hy, expBits, eS]
  exact step _ _ _ (step _ _ _ (step _ _ _ (step _ _ _ (step _ _ _ (step _ _ _ (step _ _ _ (step _ _ _ (broadcast_apply _ _))))))))

theorem scaleBits_at (e : IVec S8x256 32) (a : Fin 8) (l : Fin 256) : scaleBits e (ix2 a l) = sbS (e (ix2 a l)) := rfl

theorem invBits_at (e : IVec S8x256 32) (a : Fin 8) (l : Fin 256) : invBits e (ix2 a l) = ibS (e (ix2 a l)) := rfl

theorem word_at (b : IVec S8x256 32) (a : Fin 8) (l : Fin 256) : word b (ix3 0 a l) = b (ix2 a l) ||| (b (ix2 a l)) >>> 16 := by
  unfold word
  rw [shapeCast_ab_1ab_apply]
  rfl

/-- A word row that repeats a half reads as that half all over the block. -/
theorem spread_at (w : Vec Ideal S1x1x256 .i32) (h : BitVec 16) (l : Fin 256)
    (hw : ∀ p : Fin 2, (w (ix3 0 0 l) : BitVec 32).extractLsb' (16 * p.val) 16 = h) (s : Fin 32) :
    spread w (ix2 s l) = Ideal.ofBits .bf16 h := by
  unfold spread
  have hb : ∀ t : Fin 16, (bitcastToFloat (F := Ideal) .bf16 (bitcast S16x256 16 (broadcastTo S8x256 (shapeCast S1x256 (shapeCast S1x256 (w : IVec S1x1x256 32) shapeCasts_S1x1x256_S1x256) shapeCasts_S1x256_S1x256) broadcasts_S1x256_S8x256) bitcasts_S8x256_w32_S16x256_w16)) (ix2 t l)
      = Ideal.ofBits .bf16 h := fun t => by
    show Ideal.ofBits .bf16 (bitcast S16x256 16 _ _ (ix2 t l)) = _
    congr 1
    rw [bitcast_32_16]
    have hi : ∀ j : S8x256.Idx, j 1 = l → broadcastTo S8x256 (shapeCast S1x256 (shapeCast S1x256 (w : IVec S1x1x256 32) shapeCasts_S1x1x256_S1x256) shapeCasts_S1x256_S1x256) broadcasts_S1x256_S8x256 j = w (ix3 0 0 l) := fun j hj => by
      obtain ⟨a, l', rfl⟩ : ∃ (a : Fin 8) (l' : Fin 256), j = ix2 a l' := ⟨_, _, eq_ix2 j⟩
      obtain rfl : l' = l := hj
      rw [broadcastTo_1b_ab_apply, shapeCast_self, shapeCast_1ab_ab_apply]
    rw [hi]
    · exact hw ⟨_, Nat.mod_lt _ (by norm_num)⟩
    · exact Fin.ext (bitcasts_S8x256_w32_S16x256_w16.srcIdx_other (ix2 t l) _ _ 1 (by decide))
  rcases lt_or_ge s.val 16 with hs | hs
  · refine (concatenate_pair_apply_left (s₁ := S16x256) (s₂ := S16x256) (t := S32x256) 0 _ _ _ _ rfl (ix2 (⟨s.val, hs⟩ : Fin 16) l) ?_).trans (hb _)
    · intro b
      match b with
      | ⟨0, _⟩ => rfl
      | ⟨1, _⟩ => rfl
  · refine (concatenate_pair_apply_right (s₁ := S16x256) (s₂ := S16x256) (t := S32x256) 0 _ _ _ _ rfl rfl (ix2 (⟨s.val - 16, by omega⟩ : Fin 16) l) ?_ ?_).trans (hb _)
    · intro b hb
      match b with
      | ⟨0, _⟩ => exact absurd rfl hb
      | ⟨1, _⟩ => rfl
    · show s.val - 16 + 16 = s.val
      omega

theorem codeBlk_at (φ : FTy) (h : φ.bits < FTy.bf16.bits) (lo hi : BitVec 16) (v : Vec Ideal S32x256 .bf16) (w : Vec Ideal S1x1x256 .i32) (s : Fin 32) (l : Fin 256) :
    codeBlk φ h lo hi v w (ix2 s l) = min (Ideal.ofBits .bf16 hi) (max (Ideal.ofBits .bf16 lo) (v (ix2 s l) * spread w (ix2 s l))) := by
  unfold codeBlk
  rw [shapeCast_self]
  rfl

theorem hatBlk_at (φ : FTy) (h : φ.bits < FTy.bf16.bits) (q : FVec Ideal S32x256 φ) (w : Vec Ideal S1x1x256 .i32) (s : Fin 32) (l : Fin 256) :
    hatBlk φ h q w (ix2 s l) = q (ix2 s l) * spread w (ix2 s l) := by
  unfold hatBlk
  rw [shapeCast_self]
  rfl

/-- A row of the scratch, just after the words of a group were written. -/
theorem wrow_at (m : Memref sig .tc .vmem S2x8x256 .i32) (e : IVec S8x256 32) (L : List (View.Piece (Elt Ideal) S2x8x256 .i32)) (a : Fin 2) (b : Fin 8) (l : Fin 256) :
    wrow m (wordPieces e L) a b (ix3 0 0 l) = (if a = 0 then word (invBits e) else word (scaleBits e)) (ix3 0 b l) := by
  unfold wrow
  rw [View.readCov_eq_canon']
  have hix : (Rect.unit (s := S2x8x256) ![a.val, b.val, 0] S1x1x256.size (wrow_inb a b)).toLoadRect.idx (ix3 0 0 l) = (ix3 a b l : S2x8x256.Idx) := by
    funext d
    match d with
    | ⟨0, _⟩ => exact Fin.ext (show a.val + 1 * 0 = a.val by omega)
    | ⟨1, _⟩ => exact Fin.ext (show b.val + 1 * 0 = b.val by omega)
    | ⟨2, _⟩ => exact Fin.ext (show 0 + 1 * l.val = l.val by omega)
  refine (congrArg (View.canon (wordPieces e L)) hix).trans ?_
  unfold wordPieces
  rcases (by omega : a = 1 ∨ a = 0) with rfl | rfl
  · have he : (ix3 1 b l : S2x8x256.Idx) = (Rect.unit (s := S2x8x256) ![1, 0, 0] S1x8x256.size inb_S2x8x256_S1x8x256_1_0_0).emb (ix3 0 b l) := by
      funext d
      match d with
      | ⟨0, _⟩ => exact Fin.ext rfl
      | ⟨1, _⟩ => exact Fin.ext (show b.val = 0 + 1 * b.val by omega)
      | ⟨2, _⟩ => exact Fin.ext (show l.val = 0 + 1 * l.val by omega)
    rw [he]
    exact View.canon_cons_emb _ _ _ _
  · have hn : (ix3 0 b l : S2x8x256.Idx) ∉ (Rect.unit (s := S2x8x256) ![1, 0, 0] S1x8x256.size inb_S2x8x256_S1x8x256_1_0_0).set := fun h => by
      have := (Rect.mem_set_unit.1 h 0).1
      exact absurd this (by show ¬ (1 ≤ 0); omega)
    have he : (ix3 0 b l : S2x8x256.Idx) = (Rect.unit (s := S2x8x256) ![0, 0, 0] S1x8x256.size inb_S2x8x256_S1x8x256_0_0_0).emb (ix3 0 b l) := by
      funext d
      match d with
      | ⟨0, _⟩ => exact Fin.ext rfl
      | ⟨1, _⟩ => exact Fin.ext (show b.val = 0 + 1 * b.val by omega)
      | ⟨2, _⟩ => exact Fin.ext (show l.val = 0 + 1 * l.val by omega)
    refine (View.canon_cons_of_not_mem (⟨Rect.unit (s := S2x8x256) ![1, 0, 0] S1x8x256.size inb_S2x8x256_S1x8x256_1_0_0, word (scaleBits e)⟩ : View.Piece (Elt Ideal) S2x8x256 .i32) _ hn).trans ?_
    rw [he]
    exact View.canon_cons_emb _ _ _ _

variable (r : BitVec 32) (A : Fin 8 → Vec Ideal S32x256 .bf16) (m : Memref sig .tc .vmem S2x8x256 .i32) (L : List (View.Piece (Elt Ideal) S2x8x256 .i32))
  (b : Fin 8) (s : Fin 32) (l : Fin 256)

/-- The inverse scale over a block. -/
theorem inv_at : spread (wrow m (wordPieces (expBits (grpY r A)) L) 0 b) (ix2 s l) = inS r (amaxS fun s => A b (ix2 s l)) := by
  refine spread_at _ _ l (fun p => ?_) s
  rw [wrow_at, if_pos rfl, word_at, invBits_at, ebits_at]
  exact halves_ibS _ p

/-- The scale over a block. -/
theorem sc_at : spread (wrow m (wordPieces (expBits (grpY r A)) L) 1 b) (ix2 s l) = hsS r (amaxS fun s => A b (ix2 s l)) := by
  refine spread_at _ _ l (fun p => ?_) s
  rw [wrow_at, if_neg (by decide), word_at, scaleBits_at, ebits_at]
  exact halves_sbS _ p

/-- A block's codes. -/
theorem code_at (φ : FTy) (h : φ.bits < FTy.bf16.bits) (lo hi : BitVec 16) :
    codeBlk φ h lo hi (A b) (wrow m (wordPieces (expBits (grpY r A)) L) 0 b) (ix2 s l) = codeS r lo hi (amaxS fun s => A b (ix2 s l)) (A b (ix2 s l)) := by
  rw [codeBlk_at, inv_at]; rfl

/-- A block's dequantised values. -/
theorem hat_at (φ : FTy) (h : φ.bits < FTy.bf16.bits) (lo hi : BitVec 16) :
    hatBlk φ h (codeBlk φ h lo hi (A b) (wrow m (wordPieces (expBits (grpY r A)) L) 0 b)) (wrow m (wordPieces (expBits (grpY r A)) L) 1 b) (ix2 s l)
      = hatS r lo hi (amaxS fun s => A b (ix2 s l)) (A b (ix2 s l)) := by
  rw [hatBlk_at, code_at, sc_at]; rfl

/-- A group's scales. -/
theorem scale_at : bitcastToFloat (F := Ideal) .f32 (scaleBits (expBits (grpY r A))) (ix2 b l) = scS r (amaxS fun s => A b (ix2 s l)) := by
  show Ideal.ofBits .f32 (scaleBits (expBits (grpY r A)) (ix2 b l)) = _
  rw [scaleBits_at, ebits_at]; rfl

end Cert.Proof.Ideal

end
-- ==== Proof.Ref.Quant.lean ====
/-
  The reference's quantiser at the extended reals, as one function of an array of any width, and its entries in the scalar
  terms the kernel's entries are stated in.
-/
module

public import proofs.«01_k».proof.Proof.Ideal.GroupValue
public import Idealize.ShloMosaic.Lib.IdealHost
public import Idealize.ShloMosaic.Lib.ValueLayout
public import Idealize.ShloMosaic.Lib.Pipeline.Value

@[expose] public section

set_option maxRecDepth 16384

noncomputable section

namespace Cert.Proof.Ref

open Cert.Proof.Ideal
open Idealize.ShloMosaic Idealize.ShloMosaic.ValueIdx

/-! ### Scalars -/

/-- The scale of a scaled magnitude `y`, as the reference finds it: one below the least normal number, else the least of
    the 254 powers of two that is above `y`. -/
def refScale (y : EReal) : EReal :=
  if y < pw 1 then 1 else Finset.univ.inf fun i : Fin 254 => if y < pw (1 + i.val) then pw (1 + i.val) else ⊤

theorem pw_one : pw 127 = 1 := by
  rw [pw_eq (by norm_num) (by norm_num)]
  norm_num

/-- It is the power of two the kernel's search finds. -/
theorem refScale_eq (y : EReal) (hy : y < pw 247) : ∃ m, 0 < m ∧ m < 254 ∧ sbS (eS y) = BitVec.ofNat 32 (m * 8388608) ∧
    ibS (eS y) = BitVec.ofNat 32 ((254 - m) * 8388608) ∧ refScale y = pw m := by
  obtain ⟨m, h0, h1, hs, hi, ha, hb⟩ := scale_spec y hy
  refine ⟨m, h0, h1, hs, hi, ?_⟩
  unfold refScale
  split_ifs with h
  · rw [ha h, pw_one]
  · obtain ⟨hlt, hle⟩ := hb h
    refine le_antisymm ?_ (Finset.le_inf fun i _ => ?_)
    · refine (Finset.inf_le (Finset.mem_univ (⟨m - 1, by omega⟩ : Fin 254))).trans_eq ?_
      have e : 1 + (m - 1) = m := by omega
      dsimp only
      rw [e, if_pos hlt]
    · split_ifs with hi
      · refine pw_mono h0 ?_ (by omega)
        by_contra hlt'
        exact absurd hi (not_lt.2 (hle _ (by omega) (by omega)))
      · exact le_top

section Scalars

variable (r : BitVec 32) (lo hi : BitVec 16) (lo' hi' : BitVec 32) (a v : EReal) (hy : a * Ideal.ofBits .f32 r < pw 247)
  (hlo : Ideal.ofBits .f32 lo' = Ideal.ofBits .bf16 lo) (hhi : Ideal.ofBits .f32 hi' = Ideal.ofBits .bf16 hi)
include hy

theorem refScale_scS : refScale (a * Ideal.ofBits .f32 r) = scS r a := by
  obtain ⟨m, h0, h1, hs, -, he⟩ := refScale_eq _ hy
  rw [he, scS, hs, pw]

theorem hsS_scS : hsS r a = scS r a := by
  obtain ⟨m, h0, h1, hs, -, -⟩ := refScale_eq _ hy
  rw [hsS, scS, hs, half_pw ⟨m, by omega⟩, pw_bf16 h0 (by omega), pw]

/-- Dividing by the scale is multiplying by the inverse the kernel holds. -/
theorem div_scS : Ideal.div v (scS r a) = v * inS r a := by
  obtain ⟨m, h0, h1, hs, hi, -⟩ := refScale_eq _ hy
  have h2 : inS r a = pw (254 - m) := by
    rw [inS, hi, half_pw ⟨254 - m, by omega⟩]
    exact pw_bf16 (k := 254 - m) (by omega) (by omega)
  have h3 : scS r a = pw m := by rw [scS, hs, pw]
  rw [h2, h3, Ideal.div, if_neg (pw_pos h0 (by omega)).ne', pw_inv h0 h1]

include hlo hhi in
theorem code_eq : min (Ideal.ofBits .f32 hi') (max (Ideal.ofBits .f32 lo') (Ideal.div v (refScale (a * Ideal.ofBits .f32 r)))) = codeS r lo hi a v := by
  rw [refScale_scS r a hy, div_scS r a v hy, codeS, hlo, hhi]

end Scalars

theorem bits_tenth : ∀ k : Fin 256, ((1#32 + BitVec.ofNat 32 k.val) <<< 23) = BitVec.ofNat 32 ((1 + k.val) * 8388608) := by decide +kernel

theorem ofBits_top : Ideal.ofBits .f32 0x7F800000#32 = ⊤ := by
  have := pw_top
  rwa [pw] at this

theorem ofBits_one32 : Ideal.ofBits .f32 0x3F800000#32 = 1 := by
  have := pw_one
  rwa [pw] at this

theorem ofBits_norm : Ideal.ofBits .f32 0x00800000#32 = pw 1 := rfl

/-! ### Reductions -/

theorem foldl_min_ge {ι : Type} (L : List ι) (f : ι → EReal) (i c : EReal) :
    c ≤ L.foldl (fun acc r => min acc (f r)) i ↔ c ≤ i ∧ ∀ r ∈ L, c ≤ f r := by
  induction L generalizing i with
  | nil => simp
  | cons a L ih => rw [List.foldl_cons, ih]; simp [and_assoc]

section Reduce

variable {s t u : Shape} {axes : List (Fin s.rank)} (x : FVec Ideal s .f32) (init : FVec Ideal u .f32) (h : s.ReducesTo axes t) (hu : 0 < u.numel) (j : t.Idx)
  (c : EReal)

theorem reduce_max_le : (Host.reduce (α := Ideal .f32) FloatOps.maximumf x init h hu j) ≤ c ↔ (init (Shape.Idx.first hu) : EReal) ≤ c ∧ ∀ i, h.drop i = j → (x i : EReal) ≤ c := by
  unfold Host.reduce
  refine (foldl_max_le _ (fun n => x (s.rowMajor.symm n)) _ c).trans (and_congr Iff.rfl ?_)
  constructor
  · intro hh i hi
    have := hh (s.rowMajor i) (by simp [hi])
    simpa using this
  · intro hh n hn
    exact hh _ (by simpa using hn)

theorem reduce_min_ge : c ≤ (Host.reduce (α := Ideal .f32) FloatOps.minimumf x init h hu j) ↔ c ≤ (init (Shape.Idx.first hu) : EReal) ∧ ∀ i, h.drop i = j → c ≤ (x i : EReal) := by
  unfold Host.reduce
  refine (foldl_min_ge _ (fun n => x (s.rowMajor.symm n)) _ c).trans (and_congr Iff.rfl ?_)
  constructor
  · intro hh i hi
    have := hh (s.rowMajor i) (by simp [hi])
    simpa using this
  · intro hh n hn
    exact hh _ (by simpa using hn)

end Reduce

/-! ### The quantiser -/

abbrev T3 (W : ℕ) : Shape := ⟨3, ![6, 4096, W]⟩
abbrev B4 (W : ℕ) : Shape := ⟨4, ![6, 128, 32, W]⟩
abbrev S3 (W : ℕ) : Shape := ⟨3, ![6, 128, W]⟩
abbrev C4 (W : ℕ) : Shape := ⟨4, ![6, 128, W, 1]⟩
abbrev P4 (W : ℕ) : Shape := ⟨4, ![6, 128, W, 254]⟩
abbrev R4 (W : ℕ) : Shape := ⟨4, ![6, 128, 1, W]⟩
abbrev M2 (W : ℕ) : Shape := ⟨2, ![24576, W]⟩
abbrev Pw : Shape := ⟨1, ![254]⟩
abbrev Pw4 : Shape := ⟨4, ![1, 1, 1, 254]⟩
abbrev Sc : Shape := ⟨0, ![]⟩

/-- A block's 32 entries of an array. -/
def blk3 {W : ℕ} (x : (T3 W).Idx → EReal) (b : Fin 6) (q : Fin 128) (l : Fin W) : Fin 32 → EReal :=
  fun s => x (ix3 b (⟨32 * q.val + s.val, by omega⟩ : Fin 4096) l)

section Quant

variable {W : ℕ} (x : FVec Ideal (T3 W) .bf16) (r lo hi : BitVec 32)
  (h1 : (T3 W).ShapeCasts (B4 W)) (h2 : (B4 W).ReducesTo [2] (S3 W)) (h3 : 0 < Sc.numel)
  (h4 : Sc.BroadcastsInDim (S3 W) (![] : Fin 0 → Fin (S3 W).rank)) (h5 : Sc.BroadcastsInDim Pw (![] : Fin 0 → Fin Pw.rank))
  (h6 : (S3 W).BroadcastsInDim (C4 W) (![0, 1, 2] : Fin 3 → Fin (C4 W).rank)) (h7 : Pw.BroadcastsInDim Pw4 (![3] : Fin 1 → Fin Pw4.rank))
  (h8 : (C4 W).BroadcastsInDim (P4 W) (![0, 1, 2, 3] : Fin 4 → Fin (P4 W).rank)) (h9 : Pw4.BroadcastsInDim (P4 W) (![0, 1, 2, 3] : Fin 4 → Fin (P4 W).rank))
  (h10 : Pw.BroadcastsInDim (P4 W) (![3] : Fin 1 → Fin (P4 W).rank)) (h11 : Sc.BroadcastsInDim (P4 W) (![] : Fin 0 → Fin (P4 W).rank))
  (h12 : (P4 W).ReducesTo [3] (S3 W)) (h13 : (S3 W).BroadcastsInDim (R4 W) (![0, 1, 3] : Fin 3 → Fin (R4 W).rank))
  (h14 : (R4 W).BroadcastsInDim (B4 W) (![0, 1, 2, 3] : Fin 4 → Fin (B4 W).rank)) (h15 : Sc.BroadcastsInDim (B4 W) (![] : Fin 0 → Fin (B4 W).rank))
  (h16 : (B4 W).ShapeCasts (T3 W)) (h17 : (B4 W).ShapeCasts (M2 W)) (hb : FTy.bf16.bits < FTy.f32.bits)

/-- The array in blocks of 32 rows. -/
def rBlk : FVec Ideal (B4 W) .f32 := shapeCast (B4 W) (extf .f32 x hb) h1

/-- Each block's largest magnitude, scaled. -/
def rY : FVec Ideal (S3 W) .f32 :=
  mulf (Host.reduce FloatOps.maximumf (Host.absf (rBlk x h1 hb)) (constant Sc .f32 0xFF800000#32) h2 h3) (broadcastInDim (S3 W) ![] h4 (constant Sc .f32 r))

/-- The 254 powers of two. -/
def rPow : FVec Ideal Pw .f32 :=
  bitcastToFloat .f32 (Host.shli (addi (broadcastInDim Pw ![] h5 (constantI Sc 32 1#32)) (iotaInDim Pw 32 0)) (broadcastInDim Pw ![] h5 (constantI Sc 32 23#32)))

/-- The powers above a block's scaled magnitude, infinity in place of the others. -/
def rAbove (y : FVec Ideal (S3 W) .f32) : FVec Ideal (P4 W) .f32 :=
  select (cmpf .olt (broadcastInDim (P4 W) ![0, 1, 2, 3] h8 (broadcastInDim (C4 W) ![0, 1, 2] h6 y))
      (broadcastInDim (P4 W) ![0, 1, 2, 3] h9 (broadcastInDim Pw4 ![3] h7 (rPow h5))))
    (broadcastInDim (P4 W) ![3] h10 (rPow h5)) (broadcastInDim (P4 W) ![] h11 (constant (F := Ideal) Sc .f32 0x7F800000#32))

/-- The scales of the blocks. -/
def rScale (y : FVec Ideal (S3 W) .f32) : FVec Ideal (S3 W) .f32 :=
  select (cmpf .olt y (broadcastInDim (S3 W) ![] h4 (constant Sc .f32 0x00800000#32))) (broadcastInDim (S3 W) ![] h4 (constant Sc .f32 0x3F800000#32))
    (Host.reduce FloatOps.minimumf (rAbove h5 h6 h7 h8 h9 h10 h11 y) (constant Sc .f32 0x7F800000#32) h12 h3)

/-- A value for each block, at every entry of the block. -/
def rSpread {φ : FTy} (z : FVec Ideal (S3 W) φ) : FVec Ideal (B4 W) φ := broadcastInDim (B4 W) ![0, 1, 2, 3] h14 (broadcastInDim (R4 W) ![0, 1, 3] h13 z)

/-- The scaled and clipped entries. -/
def rClip (v : FVec Ideal (B4 W) .f32) (z : FVec Ideal (S3 W) .f32) : FVec Ideal (T3 W) .f32 :=
  shapeCast (T3 W) (minimumf (broadcastInDim (B4 W) ![] h15 (constant Sc .f32 hi)) (maximumf (broadcastInDim (B4 W) ![] h15 (constant Sc .f32 lo)) (Host.divf v (rSpread h13 h14 z)))) h16

/-- The dequantised entries, one row a token. -/
def rHat (k : FVec Ideal (T3 W) .bf16) (z : FVec Ideal (S3 W) .f32) : FVec Ideal (M2 W) .bf16 :=
  shapeCast (M2 W) (mulf (shapeCast (B4 W) k h1) (rSpread h13 h14 (truncf .bf16 z hb))) h17

/-! ### Its entries -/

theorem cast_blk {α : Type} (k : (T3 W).Idx → α) (b : Fin 6) (q : Fin 128) (s : Fin 32) (l : Fin W) :
    shapeCast (B4 W) k h1 (ix4 b q s l) = k (ix3 b (⟨32 * q.val + s.val, by omega⟩ : Fin 4096) l) := by
  refine shapeCast_apply _ _ _ _ ?_
  rw [Shape.rowMajor_val_three, Shape.rowMajor_val_four]
  show (b.val * 4096 + (32 * q.val + s.val)) * W + l.val = ((b.val * 128 + q.val) * 32 + s.val) * W + l.val
  congr 2
  ring

theorem cast_unblk {α : Type} (k : (B4 W).Idx → α) (b : Fin 6) (n : Fin 4096) (l : Fin W) :
    shapeCast (T3 W) k h16 (ix3 b n l) = k (ix4 b (⟨n.val / 32, by omega⟩ : Fin 128) (⟨n.val % 32, by omega⟩ : Fin 32) l) := by
  refine shapeCast_apply _ _ _ _ ?_
  rw [Shape.rowMajor_val_three, Shape.rowMajor_val_four]
  show ((b.val * 128 + n.val / 32) * 32 + n.val % 32) * W + l.val = (b.val * 4096 + n.val) * W + l.val
  congr 2
  omega

theorem cast_tok {α : Type} (k : (B4 W).Idx → α) (n : Fin 24576) (l : Fin W) :
    shapeCast (M2 W) k h17 (ix2 n l) = k (ix4 (⟨n.val / 4096, by omega⟩ : Fin 6) (⟨n.val % 4096 / 32, by omega⟩ : Fin 128) (⟨n.val % 32, by omega⟩ : Fin 32) l) := by
  refine shapeCast_apply _ _ _ _ ?_
  rw [Shape.rowMajor_val_two, Shape.rowMajor_val_four]
  show ((n.val / 4096 * 128 + n.val % 4096 / 32) * 32 + n.val % 32) * W + l.val = n.val * W + l.val
  congr 2
  omega

theorem drop2 (b : Fin 6) (q : Fin 128) (s : Fin 32) (l : Fin W) : h2.drop (ix4 b q s l) = ix3 b q l := by
  funext d
  match d with
  | ⟨0, _⟩ => rfl
  | ⟨1, _⟩ => rfl
  | ⟨2, _⟩ => rfl

theorem drop3 (b : Fin 6) (q : Fin 128) (l : Fin W) (i : Fin 254) : h12.drop (ix4 b q l i) = ix3 b q l := by
  funext d
  match d with
  | ⟨0, _⟩ => rfl
  | ⟨1, _⟩ => rfl
  | ⟨2, _⟩ => rfl

theorem ix3_inj {A B C : ℕ} {a a' : Fin A} {b b' : Fin B} {c c' : Fin C} (h : ix3 a b c = ix3 a' b' c') : a = a' ∧ b = b' ∧ c = c' :=
  ⟨congrFun h 0, congrFun h 1, congrFun h 2⟩

theorem rY_at (b : Fin 6) (q : Fin 128) (l : Fin W) : rY x r h1 h2 h3 h4 hb (ix3 b q l) = amaxS (blk3 x b q l) * Ideal.ofBits .f32 r := by
  unfold rY
  rw [mulf_apply]
  refine congrArg₂ (· * ·) ?_ ?_
  · refine eq_of_forall_ge_iff fun c => ?_
    rw [amaxS_le]
    refine (reduce_max_le _ _ h2 h3 _ c).trans ?_
    have hinit : ((constant (F := Ideal) Sc .f32 0xFF800000#32) (Shape.Idx.first h3) : EReal) = ⊥ := ofBits_ninf
    rw [hinit]
    have hv : ∀ s, (Host.absf (rBlk x h1 hb) (ix4 b q s l) : EReal) = max (blk3 x b q l s) (-(blk3 x b q l s)) := fun s => by
      have : rBlk x h1 hb (ix4 b q s l) = blk3 x b q l s := cast_blk h1 _ b q s l
      show max (rBlk x h1 hb (ix4 b q s l) : EReal) (-(rBlk x h1 hb (ix4 b q s l) : EReal)) = _
      rw [this]
    constructor
    · rintro ⟨-, hh⟩ s
      rw [← hv]
      exact hh _ (drop2 h2 b q s l)
    · refine fun hh => ⟨bot_le, fun i hi => ?_⟩
      obtain ⟨b', q', s, l', rfl⟩ : ∃ (b' : Fin 6) (q' : Fin 128) (s : Fin 32) (l' : Fin W), i = ix4 b' q' s l' := ⟨i 0, i 1, i 2, i 3, eq_ix4 i⟩
      rw [drop2] at hi
      obtain ⟨rfl, rfl, rfl⟩ := ix3_inj hi
      rw [hv]
      exact hh s
  · exact broadcastInDim_scalar_apply _ _ _

theorem rPow_at (i : Fin 254) : rPow h5 (ix1 i) = pw (1 + i.val) := by
  unfold rPow pw
  have e : (Host.shli (addi (broadcastInDim Pw ![] h5 (constantI Sc 32 1#32)) (iotaInDim Pw 32 0)) (broadcastInDim Pw ![] h5 (constantI Sc 32 23#32))) (ix1 i)
      = BitVec.ofNat 32 ((1 + i.val) * 8388608) := by
    refine Eq.trans ?_ (bits_tenth ⟨i.val, by omega⟩)
    show IntOp.shli .host (IntOp.addi _ _) _ = _
    rfl
  exact congrArg (Ideal.ofBits .f32) e

theorem rAbove_at (y : FVec Ideal (S3 W) .f32) (b : Fin 6) (q : Fin 128) (l : Fin W) (i : Fin 254) :
    rAbove h5 h6 h7 h8 h9 h10 h11 y (ix4 b q l i) = if (y (ix3 b q l) : EReal) < pw (1 + i.val) then pw (1 + i.val) else ⊤ := by
  have e1 : broadcastInDim (P4 W) ![0, 1, 2, 3] h8 (broadcastInDim (C4 W) ![0, 1, 2] h6 y) (ix4 b q l i) = y (ix3 b q l) := by
    refine (broadcastInDim_apply _ h8 _ _ (ix4 b q l (0 : Fin 1)) fun a => ?_).trans (broadcastInDim_apply _ h6 _ _ _ fun a => ?_)
    · match a with
      | ⟨0, _⟩ => rfl
      | ⟨1, _⟩ => rfl
      | ⟨2, _⟩ =>
        show l.val = if W = 1 then 0 else l.val
        split_ifs with hW
        · have := l.isLt; omega
        · rfl
      | ⟨3, _⟩ => rfl
    · match a with
      | ⟨0, _⟩ => rfl
      | ⟨1, _⟩ => rfl
      | ⟨2, _⟩ =>
        show l.val = if W = 1 then 0 else l.val
        split_ifs with hW
        · have := l.isLt; omega
        · rfl
  have e2 : broadcastInDim (P4 W) ![0, 1, 2, 3] h9 (broadcastInDim Pw4 ![3] h7 (rPow h5)) (ix4 b q l i) = pw (1 + i.val) := by
    refine (broadcastInDim_apply _ h9 _ _ (ix4 (0 : Fin 1) (0 : Fin 1) (0 : Fin 1) i) fun a => ?_).trans
      ((broadcastInDim_apply _ h7 _ _ (ix1 i) fun a => ?_).trans (rPow_at h5 i))
    · match a with
      | ⟨0, _⟩ => rfl
      | ⟨1, _⟩ => rfl
      | ⟨2, _⟩ => rfl
      | ⟨3, _⟩ => rfl
    · match a with
      | ⟨0, _⟩ => rfl
  have e3 : broadcastInDim (P4 W) ![3] h10 (rPow h5) (ix4 b q l i) = pw (1 + i.val) := by
    refine (broadcastInDim_apply _ h10 _ _ (ix1 i) fun a => ?_).trans (rPow_at h5 i)
    match a with
    | ⟨0, _⟩ => rfl
  have e4 : broadcastInDim (P4 W) ![] h11 (constant (F := Ideal) Sc .f32 0x7F800000#32) (ix4 b q l i) = ⊤ :=
    (broadcastInDim_scalar_apply _ _ _).trans ofBits_top
  unfold rAbove
  show Scalar.select (Ideal.cmp .olt _ _) _ _ = _
  rw [e1, e2, e3, e4, cmp_olt]
  by_cases h : (y (ix3 b q l) : EReal) < pw (1 + i.val) <;> simp [h, Scalar.select]

theorem rScale_at (y : FVec Ideal (S3 W) .f32) (b : Fin 6) (q : Fin 128) (l : Fin W) :
    rScale h3 h4 h5 h6 h7 h8 h9 h10 h11 h12 y (ix3 b q l) = refScale (y (ix3 b q l)) := by
  have e1 : broadcastInDim (S3 W) ![] h4 (constant (F := Ideal) Sc .f32 0x00800000#32) (ix3 b q l) = pw 1 := (broadcastInDim_scalar_apply _ _ _).trans ofBits_norm
  have e2 : broadcastInDim (S3 W) ![] h4 (constant (F := Ideal) Sc .f32 0x3F800000#32) (ix3 b q l) = (1 : EReal) := (broadcastInDim_scalar_apply _ _ _).trans ofBits_one32
  have e3 : Host.reduce (α := Ideal .f32) FloatOps.minimumf (rAbove h5 h6 h7 h8 h9 h10 h11 y) (constant Sc .f32 0x7F800000#32) h12 h3 (ix3 b q l)
      = Finset.univ.inf fun i : Fin 254 => if (y (ix3 b q l) : EReal) < pw (1 + i.val) then pw (1 + i.val) else ⊤ := by
    refine eq_of_forall_le_iff fun c => ?_
    refine (reduce_min_ge _ _ h12 h3 _ c).trans ?_
    have hinit : ((constant (F := Ideal) Sc .f32 0x7F800000#32) (Shape.Idx.first h3) : EReal) = ⊤ := ofBits_top
    rw [hinit, Finset.le_inf_iff]
    constructor
    · rintro ⟨-, hh⟩ i -
      have := hh _ (drop3 h12 b q l i)
      rwa [rAbove_at] at this
    · refine fun hh => ⟨le_top, fun i hi => ?_⟩
      obtain ⟨b', q', l', i, rfl⟩ : ∃ (b' : Fin 6) (q' : Fin 128) (l' : Fin W) (i' : Fin 254), i = ix4 b' q' l' i' := ⟨i 0, i 1, i 2, i 3, eq_ix4 i⟩
      rw [drop3] at hi
      obtain ⟨rfl, rfl, rfl⟩ := ix3_inj hi
      rw [rAbove_at]
      exact hh i (Finset.mem_univ i)
  unfold rScale refScale
  show Scalar.select (Ideal.cmp .olt _ _) _ _ = _
  rw [e1, e2, e3, cmp_olt]
  by_cases h : (y (ix3 b q l) : EReal) < pw 1 <;> simp [h, Scalar.select]

theorem rSpread_at {φ : FTy} (z : FVec Ideal (S3 W) φ) (b : Fin 6) (q : Fin 128) (s : Fin 32) (l : Fin W) : rSpread h13 h14 z (ix4 b q s l) = z (ix3 b q l) := by
  unfold rSpread
  refine (broadcastInDim_apply _ h14 _ _ (ix4 b q (0 : Fin 1) l) fun a => ?_).trans (broadcastInDim_apply _ h13 _ _ _ fun a => ?_)
  · match a with
    | ⟨0, _⟩ => rfl
    | ⟨1, _⟩ => rfl
    | ⟨2, _⟩ => rfl
    | ⟨3, _⟩ =>
      show l.val = if W = 1 then 0 else l.val
      split_ifs with hW
      · have := l.isLt; omega
      · rfl
  · match a with
    | ⟨0, _⟩ => rfl
    | ⟨1, _⟩ => rfl
    | ⟨2, _⟩ =>
      show l.val = if W = 1 then 0 else l.val
      split_ifs with hW
      · have := l.isLt; omega
      · rfl

theorem rClip_at (v : FVec Ideal (B4 W) .f32) (z : FVec Ideal (S3 W) .f32) (b : Fin 6) (n : Fin 4096) (l : Fin W) :
    rClip lo hi h13 h14 h15 h16 v z (ix3 b n l) = min (Ideal.ofBits .f32 hi) (max (Ideal.ofBits .f32 lo)
      (Ideal.div (v (ix4 b (⟨n.val / 32, by omega⟩ : Fin 128) (⟨n.val % 32, by omega⟩ : Fin 32) l)) (z (ix3 b (⟨n.val / 32, by omega⟩ : Fin 128) l)))) := by
  unfold rClip
  rw [cast_unblk]
  have e1 : ∀ w : BitVec 32, ∀ j, broadcastInDim (B4 W) ![] h15 (constant (F := Ideal) Sc .f32 w) j = Ideal.ofBits .f32 w := fun w j => broadcastInDim_scalar_apply _ _ _
  show min (broadcastInDim (B4 W) ![] h15 (constant (F := Ideal) Sc .f32 hi) _ : EReal) (max (broadcastInDim (B4 W) ![] h15 (constant (F := Ideal) Sc .f32 lo) _ : EReal) (Ideal.div _ (rSpread h13 h14 z _))) = _
  rw [e1, e1, rSpread_at]

theorem rHat_at (k : FVec Ideal (T3 W) .bf16) (z : FVec Ideal (S3 W) .f32) (n : Fin 24576) (l : Fin W) :
    rHat h1 h13 h14 h17 hb k z (ix2 n l) = (k (ix3 (⟨n.val / 4096, by omega⟩ : Fin 6) (⟨n.val % 4096, by omega⟩ : Fin 4096) l) : EReal)
      * z (ix3 (⟨n.val / 4096, by omega⟩ : Fin 6) (⟨n.val % 4096 / 32, by omega⟩ : Fin 128) l) := by
  unfold rHat
  rw [cast_tok, mulf_apply, cast_blk, rSpread_at]
  refine congrArg₂ (· * ·) (congrArg k ?_) rfl
  refine congrArg (fun z => ix3 _ z l) (Fin.ext ?_)
  show 32 * (n.val % 4096 / 32) + n.val % 32 = n.val % 4096
  omega

/-- The whole quantiser's codes and scales at the kernel's scalar functions. -/
theorem scale_at (b : Fin 6) (q : Fin 128) (l : Fin W) (hy : amaxS (blk3 x b q l) * Ideal.ofBits .f32 r < pw 247) :
    rScale h3 h4 h5 h6 h7 h8 h9 h10 h11 h12 (rY x r h1 h2 h3 h4 hb) (ix3 b q l) = scS r (amaxS (blk3 x b q l)) := by
  rw [rScale_at, rY_at, refScale_scS r _ hy]

theorem code_at (lo₁ hi₁ : BitVec 16) (hlo : Ideal.ofBits .f32 lo = Ideal.ofBits .bf16 lo₁) (hhi : Ideal.ofBits .f32 hi = Ideal.ofBits .bf16 hi₁)
    (b : Fin 6) (n : Fin 4096) (l : Fin W) (hy : amaxS (blk3 x b (⟨n.val / 32, by omega⟩ : Fin 128) l) * Ideal.ofBits .f32 r < pw 247) :
    rClip lo hi h13 h14 h15 h16 (rBlk x h1 hb) (rScale h3 h4 h5 h6 h7 h8 h9 h10 h11 h12 (rY x r h1 h2 h3 h4 hb)) (ix3 b n l)
      = codeS r lo₁ hi₁ (amaxS (blk3 x b (⟨n.val / 32, by omega⟩ : Fin 128) l)) (x (ix3 b n l)) := by
  rw [rClip_at, rScale_at, rY_at, code_eq r lo₁ hi₁ lo hi _ _ hy hlo hhi]
  refine congrArg (codeS r lo₁ hi₁ _) ?_
  refine (cast_blk h1 _ _ _ _ _).trans (congrArg x (congrArg (fun z => ix3 b z l) (Fin.ext ?_)))
  show 32 * (n.val / 32) + n.val % 32 = n.val
  omega

end Quant

end Cert.Proof.Ref

end
-- ==== Proof.Ref.Entry.lean ====
/-
  What the reference holds before its region, as its quantiser of the two arguments.
-/
module

public import proofs.«01_k».proof.Proof.Ref.Quant
public import proofs.«01_k».proof.Proof.Gen.ReferenceIdeal.Frame
public import Idealize.ShloMosaic.Lib.StableHlo.RunRead

@[expose] public section

set_option maxRecDepth 16384

noncomputable section

namespace Cert.Proof.Ref

open Cert.ReferenceIdeal Cert.ReferenceIdeal.Gen Cert.ReferenceIdeal.Facts
open Idealize.ShloMosaic Idealize.ShloMosaic.TcCoe Idealize.ShloMosaic.ValueIdx Idealize.ShloMosaic.StableHlo

/-- The first argument's scales and codes. -/
def zX (x : FVec Ideal (T3 4096) .bf16) : FVec Ideal (S3 4096) .f32 :=
  rScale h_S_ bcast_S_S6x128x4096 bcast_S_S254 bcast_S6x128x4096_S6x128x4096x1_0_1_2 bcast_S254_S1x1x1x254_3 bcast_S6x128x4096x1_S6x128x4096x254_0_1_2_3
    bcast_S1x1x1x254_S6x128x4096x254_0_1_2_3 bcast_S254_S6x128x4096x254_3 bcast_S_S6x128x4096x254 reducesTo_S6x128x4096x254_S6x128x4096_d3
    (rY x 0x3B124925#32 shapeCasts_S6x4096x4096_S6x128x32x4096 reducesTo_S6x128x32x4096_S6x128x4096_d2 h_S_ bcast_S_S6x128x4096 bitsLt_bf16_f32)

def cX (x : FVec Ideal (T3 4096) .bf16) : FVec Ideal (T3 4096) .f32 :=
  rClip 0xC3E00000#32 0x43E00000#32 bcast_S6x128x4096_S6x128x1x4096_0_1_3 bcast_S6x128x1x4096_S6x128x32x4096_0_1_2_3 bcast_S_S6x128x32x4096
    shapeCasts_S6x128x32x4096_S6x4096x4096 (rBlk x shapeCasts_S6x4096x4096_S6x128x32x4096 bitsLt_bf16_f32) (zX x)

/-- The second argument's. -/
def zD (x : FVec Ideal (T3 7168) .bf16) : FVec Ideal (S3 7168) .f32 :=
  rScale h_S_ bcast_S_S6x128x7168 bcast_S_S254 bcast_S6x128x7168_S6x128x7168x1_0_1_2 bcast_S254_S1x1x1x254_3 bcast_S6x128x7168x1_S6x128x7168x254_0_1_2_3
    bcast_S1x1x1x254_S6x128x7168x254_0_1_2_3 bcast_S254_S6x128x7168x254_3 bcast_S_S6x128x7168x254 reducesTo_S6x128x7168x254_S6x128x7168_d3
    (rY x 0x37924925#32 shapeCasts_S6x4096x7168_S6x128x32x7168 reducesTo_S6x128x32x7168_S6x128x7168_d2 h_S_ bcast_S_S6x128x7168 bitsLt_bf16_f32)

def cD (x : FVec Ideal (T3 7168) .bf16) : FVec Ideal (T3 7168) .f32 :=
  rClip 0xC7600000#32 0x47600000#32 bcast_S6x128x7168_S6x128x1x7168_0_1_3 bcast_S6x128x1x7168_S6x128x32x7168_0_1_2_3 bcast_S_S6x128x32x7168
    shapeCasts_S6x128x32x7168_S6x4096x7168 (rBlk x shapeCasts_S6x4096x7168_S6x128x32x7168 bitsLt_bf16_f32) (zD x)

variable (m : (ℓ : Loc nD τ sig) → Buf (Elt Ideal) ℓ) (c : Dev nD)

attribute [local irreducible] Host.reduce broadcastInDim shapeCast bitcastToFloat Host.absf iotaInDim extf truncf

theorem V_v21 : V m c main_v21 = zX (m (c, Proc.devRef .tc main_arg0)) := by
  unfold V V0
  simp only [List.flatten_cons, List.flatten_nil, List.append_nil]
  after_reads_simp
  simp -implicitDefEqProofs only [TRef.toBuf, TRef.ofBuf, cast_cast, cast_eq, id]
  unfold zX rScale rY rAbove rPow rBlk
  rfl

theorem V_v26 : V m c main_v26 = cX (m (c, Proc.devRef .tc main_arg0)) := by
  unfold V V0
  simp only [List.flatten_cons, List.flatten_nil, List.append_nil]
  after_reads_simp
  simp -implicitDefEqProofs only [TRef.toBuf, TRef.ofBuf, cast_cast, cast_eq, id]
  unfold cX zX rScale rY rAbove rPow rBlk rClip rSpread
  rfl

theorem V_v48 : V m c main_v48 = zD (m (c, Proc.devRef .tc main_arg1)) := by
  unfold V V0
  simp only [List.flatten_cons, List.flatten_nil, List.append_nil]
  after_reads_simp
  simp -implicitDefEqProofs only [TRef.toBuf, TRef.ofBuf, cast_cast, cast_eq, id]
  unfold zD rScale rY rAbove rPow rBlk
  rfl

theorem V_v53 : V m c main_v53 = cD (m (c, Proc.devRef .tc main_arg1)) := by
  unfold V V0
  simp only [List.flatten_cons, List.flatten_nil, List.append_nil]
  after_reads_simp
  simp -implicitDefEqProofs only [TRef.toBuf, TRef.ofBuf, cast_cast, cast_eq, id]
  unfold cD zD rScale rY rAbove rPow rBlk rClip rSpread
  rfl

/-- The dequantised arguments and their product, from the four arrays the last lines read. -/
def hX (k : FVec Ideal (T3 4096) .bf16) (z : FVec Ideal (S3 4096) .f32) : FVec Ideal (M2 4096) .bf16 :=
  rHat shapeCasts_S6x4096x4096_S6x128x32x4096 bcast_S6x128x4096_S6x128x1x4096_0_1_3 bcast_S6x128x1x4096_S6x128x32x4096_0_1_2_3
    shapeCasts_S6x128x32x4096_S24576x4096 bitsLt_bf16_f32 k z

def hD (k : FVec Ideal (T3 7168) .bf16) (z : FVec Ideal (S3 7168) .f32) : FVec Ideal (M2 7168) .bf16 :=
  rHat shapeCasts_S6x4096x7168_S6x128x32x7168 bcast_S6x128x7168_S6x128x1x7168_0_1_3 bcast_S6x128x1x7168_S6x128x32x7168_0_1_2_3
    shapeCasts_S6x128x32x7168_S24576x7168 bitsLt_bf16_f32 k z

def pW (A : FVec Ideal (M2 4096) .bf16) (B : FVec Ideal (M2 7168) .bf16) : FVec Ideal S4096x7168 .f32 :=
  Host.dotGeneral dot_S24576x4096_S24576x7168_S4096x7168_0_0_1_1_n_n none A B

theorem after_v67 (U : (b : DevRef τ sig) → Buf (Elt Ideal) ((c, b) : Loc nD τ sig)) :
    StableHlo.after (hostOps1 (F := Ideal)) U (Proc.devRef .tc main_v67)
      = pW (hX (U (Proc.devRef .tc main_v54_2)) (U (Proc.devRef .tc main_v21))) (hD (U (Proc.devRef .tc main_v54_3)) (U (Proc.devRef .tc main_v48))) := by
  after_reads_simp
  unfold pW hX hD rHat rSpread
  rfl

end Cert.Proof.Ref

end
-- ==== Proof.Ref.Arr.lean ====
/-
  What the reference's region leaves.
-/
module

public import proofs.«01_k».proof.Proof.Ref.Entry
public import Idealize.ShloMosaic.Lib.Pipeline.ValueKit

@[expose] public section

set_option maxRecDepth 16384

noncomputable section

namespace Cert.Proof.Ref

open Cert.ReferenceIdeal Cert.ReferenceIdeal.Gen Cert.ReferenceIdeal.Facts
open Idealize.ShloMosaic Idealize.ShloMosaic.TcCoe Idealize.ShloMosaic.ValueIdx Idealize.ShloMosaic.StableHlo

variable (m : (ℓ : Loc nD τ sig) → Buf (Elt Ideal) ℓ) (c : Dev nD)

theorem idx0_0 : ∀ t : Fin cfg0.N, win0_0.index t = ![0, 0, 0] := (by decide +kernel : ∀ t : Fin grid0.N, _)
theorem idx0_1 : ∀ t : Fin cfg0.N, win0_1.index t = ![0, 0, 0] := (by decide +kernel : ∀ t : Fin grid0.N, _)
theorem idx0_2 : ∀ t : Fin cfg0.N, win0_2.index t = ![0, 0, 0] := (by decide +kernel : ∀ t : Fin grid0.N, _)
theorem idx0_3 : ∀ t : Fin cfg0.N, win0_3.index t = ![0, 0, 0] := (by decide +kernel : ∀ t : Fin grid0.N, _)
theorem idx0_4 : ∀ t : Fin cfg0.N, win0_4.index t = ![0, 0, 0] := (by decide +kernel : ∀ t : Fin grid0.N, _)
theorem idx0_5 : ∀ t : Fin cfg0.N, win0_5.index t = ![0, 0, 0] := (by decide +kernel : ∀ t : Fin grid0.N, _)

theorem pay1_eq (v : Vec Ideal S6x4096x4096 .f32) : k0_pay1 v = v := by
  unfold k0_pay1; simp only [shapeCast_self]; rfl
theorem pay2_eq (v : Vec Ideal S6x4096x4096 .f32) : k0_pay2 v = v := by
  unfold k0_pay2; simp only [shapeCast_self]; rfl
theorem pay3_eq (v : Vec Ideal S6x4096x7168 .f32) : k0_pay3 v = v := by
  unfold k0_pay3; simp only [shapeCast_self]; rfl
theorem pay4_eq (v : Vec Ideal S6x4096x7168 .f32) : k0_pay4 v = v := by
  unfold k0_pay4; simp only [shapeCast_self]; rfl

theorem out2_eq (x0 : Vec Ideal S6x4096x4096 .f32) (x1 : Vec Ideal S6x4096x7168 .f32) : out0_2 x0 x1 = x0 := by
  unfold out0_2
  rw [View.canon_cons_unit_lit' _ _ _ (by decide), pay1_eq, View.ld_unit_lit' _ _ (by decide)]

theorem out3_eq (x0 : Vec Ideal S6x4096x4096 .f32) (x1 : Vec Ideal S6x4096x7168 .f32) : out0_3 x0 x1 = x1 := by
  unfold out0_3
  rw [View.canon_cons_unit_lit' _ _ _ (by decide), pay3_eq, View.ld_unit_lit' _ _ (by decide)]

theorem out4_eq (x0 : Vec Ideal S6x4096x4096 .f32) (x1 : Vec Ideal S6x4096x7168 .f32) : out0_4 x0 x1 = x0 := by
  unfold out0_4
  rw [View.canon_cons_unit_lit' _ _ _ (by decide), pay2_eq, View.ld_unit_lit' _ _ (by decide)]

theorem out5_eq (x0 : Vec Ideal S6x4096x4096 .f32) (x1 : Vec Ideal S6x4096x7168 .f32) : out0_5 x0 x1 = x1 := by
  unfold out0_5
  rw [View.canon_cons_unit_lit' _ _ _ (by decide), pay4_eq, View.ld_unit_lit' _ _ (by decide)]

/-- The region's only block of an array is the array, whatever it holds. -/
theorem blkU0 (U : (b : Ref sig .tc) → Buf (Elt Ideal) ((c : Thread nD τ).loc b)) (t : Fin cfg0.N) :
    ((cfg0.win 0).blk t).view.read (Elt Ideal) (U main_v26) = U main_v26 := by
  funext y
  blk_simp
  refine congrArg (U main_v26) ?_
  blk_ext [idx0_0]

theorem blkU1 (U : (b : Ref sig .tc) → Buf (Elt Ideal) ((c : Thread nD τ).loc b)) (t : Fin cfg0.N) :
    ((cfg0.win 1).blk t).view.read (Elt Ideal) (U main_v53) = U main_v53 := by
  funext y
  blk_simp
  refine congrArg (U main_v53) ?_
  blk_ext [idx0_1]

theorem blk0 (t : Fin cfg0.N) : iblk m c 0 t = cX (m (c, Proc.devRef .tc main_arg0)) := by
  unfold iblk
  exact (blkU0 c (V m c) t).trans (V_v26 m c)

theorem blk1 (t : Fin cfg0.N) : iblk m c 1 t = cD (m (c, Proc.devRef .tc main_arg1)) := by
  unfold iblk
  exact (blkU1 c (V m c) t).trans (V_v53 m c)

theorem arr2 : (dats m 0 c).arrAt 2 cfg0.N = cX (m (c, Proc.devRef .tc main_arg0)) := by
  refine (dats m 0 c).arrAt_eq_of_covers 2 _ (by decide +kernel) fun t hf y => ?_
  blk_simp
  rw [after0_2, out2_eq, blk0]
  generalize cX (m (c, Proc.devRef .tc main_arg0)) = G
  refine congrArg G ?_
  blk_ext [idx0_2]

theorem arr3 : (dats m 0 c).arrAt 3 cfg0.N = cD (m (c, Proc.devRef .tc main_arg1)) := by
  refine (dats m 0 c).arrAt_eq_of_covers 3 _ (by decide +kernel) fun t hf y => ?_
  blk_simp
  rw [after0_3, out3_eq, blk1]
  generalize cD (m (c, Proc.devRef .tc main_arg1)) = G
  refine congrArg G ?_
  blk_ext [idx0_3]

theorem arr4 : (dats m 0 c).arrAt 4 cfg0.N = cX (m (c, Proc.devRef .tc main_arg0)) := by
  refine (dats m 0 c).arrAt_eq_of_covers 4 _ (by decide +kernel) fun t hf y => ?_
  blk_simp
  rw [after0_4, out4_eq, blk0]
  generalize cX (m (c, Proc.devRef .tc main_arg0)) = G
  refine congrArg G ?_
  blk_ext [idx0_4]

theorem arr5 : (dats m 0 c).arrAt 5 cfg0.N = cD (m (c, Proc.devRef .tc main_arg1)) := by
  refine (dats m 0 c).arrAt_eq_of_covers 5 _ (by decide +kernel) fun t hf y => ?_
  blk_simp
  rw [after0_5, out5_eq, blk1]
  generalize cD (m (c, Proc.devRef .tc main_arg1)) = G
  refine congrArg G ?_
  blk_ext [idx0_5]

end Cert.Proof.Ref

end
-- ==== Proof.Ref.Run.lean ====
/-
  What the reference ends with, as its quantiser of the two arguments and the product.
-/
module

public import proofs.«01_k».proof.Proof.Ref.Arr
public import Idealize.ShloMosaic.Lib.Pipeline.ValueKit

@[expose] public section

set_option maxRecDepth 16384

noncomputable section

namespace Cert.Proof.Ref

open Cert.ReferenceIdeal Cert.ReferenceIdeal.Gen Cert.ReferenceIdeal.Facts
open Idealize.ShloMosaic Idealize.ShloMosaic.TcCoe Idealize.ShloMosaic.ValueIdx Idealize.ShloMosaic.StableHlo

variable (m : (ℓ : Loc nD τ sig) → Buf (Elt Ideal) ℓ) (c : Dev nD)

/-- The contents after the region's lines, at a buffer they do not write and the region does not leave. -/
theorem tail_v21 : Pipeline.afterTail₀ cfgs (dats m) 0 (V0 m) [hostOps1] c main_v21 = zX (m (c, Proc.devRef .tc main_arg0)) := by
  unfold Pipeline.afterTail₀
  simp only [List.flatten_cons, List.flatten_nil, List.append_nil]
  after_reads_simp
  rw [Pipeline.withArrays_of_ne _ c (V0 m c) _ main_v21 (by exact (by decide : ∀ w, Pipeline.arrRef spec0 w ≠ main_v21))]
  exact V_v21 m c

theorem tail_v48 : Pipeline.afterTail₀ cfgs (dats m) 0 (V0 m) [hostOps1] c main_v48 = zD (m (c, Proc.devRef .tc main_arg1)) := by
  unfold Pipeline.afterTail₀
  simp only [List.flatten_cons, List.flatten_nil, List.append_nil]
  after_reads_simp
  rw [Pipeline.withArrays_of_ne _ c (V0 m c) _ main_v48 (by exact (by decide : ∀ w, Pipeline.arrRef spec0 w ≠ main_v48))]
  exact V_v48 m c

theorem tail_v67 : Pipeline.afterTail₀ cfgs (dats m) 0 (V0 m) [hostOps1] c main_v67
    = pW (hX (cX (m (c, Proc.devRef .tc main_arg0))) (zX (m (c, Proc.devRef .tc main_arg0))))
      (hD (cD (m (c, Proc.devRef .tc main_arg1))) (zD (m (c, Proc.devRef .tc main_arg1)))) := by
  unfold Pipeline.afterTail₀
  simp only [List.flatten_cons, List.flatten_nil, List.append_nil]
  refine (after_v67 c _).trans ?_
  rw [Pipeline.withArrays_of_ne _ c (V0 m c) _ main_v48 (by exact (by decide : ∀ w, Pipeline.arrRef spec0 w ≠ main_v48)),
    Pipeline.withArrays_of_ne _ c (V0 m c) _ main_v21 (by exact (by decide : ∀ w, Pipeline.arrRef spec0 w ≠ main_v21))]
  refine congrArg₂ pW (congrArg₂ hX ?_ (V_v21 m c)) (congrArg₂ hD ?_ (V_v48 m c))
  · exact (Pipeline.withArrays_arr spec0 launch0.win.arr_inj c (V0 m c) _ 4).trans (arr4 m c)
  · exact (Pipeline.withArrays_arr spec0 launch0.win.arr_inj c (V0 m c) _ 5).trans (arr5 m c)

/-- The reference runs to its end with its results at the quantised arguments and their product, the arguments as launched. -/
theorem run (ρ : Dev nD → PrngReg) : θ_run defs (onTc (τ := τ) (main (F := Ideal))) ⟨m, fun _ => 0, ρ⟩ (fun r => ∀ c : Dev nD,
    r.2.mem ((c.tc : Thread nD τ).loc main_v67) = pW (hX (cX (m (c, Proc.devRef .tc main_arg0))) (zX (m (c, Proc.devRef .tc main_arg0))))
      (hD (cD (m (c, Proc.devRef .tc main_arg1))) (zD (m (c, Proc.devRef .tc main_arg1))))
    ∧ r.2.mem ((c.tc : Thread nD τ).loc main_v54_0) = cX (m (c, Proc.devRef .tc main_arg0))
    ∧ r.2.mem ((c.tc : Thread nD τ).loc main_v21) = zX (m (c, Proc.devRef .tc main_arg0))
    ∧ r.2.mem ((c.tc : Thread nD τ).loc main_v54_1) = cD (m (c, Proc.devRef .tc main_arg1))
    ∧ r.2.mem ((c.tc : Thread nD τ).loc main_v48) = zD (m (c, Proc.devRef .tc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  refine (θ_run defs _ _).mono (fun r h c => ?_) (θ_run_and (run_main m ρ) (unchanged m ρ))
  exact ⟨((h.1 c).2 main_v67 (Pipeline.mem_restRefs_of main_v67 (by decide) (by decide))).trans (tail_v67 m c),
    ((h.1 c).1 2).trans (arr2 m c),
    ((h.1 c).2 main_v21 (Pipeline.mem_restRefs_of main_v21 (by decide) (by decide))).trans (tail_v21 m c),
    ((h.1 c).1 3).trans (arr3 m c),
    ((h.1 c).2 main_v48 (Pipeline.mem_restRefs_of main_v48 (by decide) (by decide))).trans (tail_v48 m c),
    (h.2 c).1, (h.2 c).2⟩

end Cert.Proof.Ref

end
-- ==== Proof.Ideal.Chain.lean ====
/-
  The pieces one trip of each kernel's loop writes, group by group, as the group functions of what it loads.
-/
module

public import proofs.«01_k».proof.Proof.Ideal.Group
public import proofs.«01_k».proof.Proof.Ideal.Trips

@[expose] public section

set_option maxRecDepth 65536
set_option maxHeartbeats 4000000

noncomputable section

namespace Cert.Proof.Ideal

open Cert.KernelIdeal Cert.KernelIdeal.Gen
open Idealize.ShloMosaic Idealize.ShloMosaic.TcCoe Idealize.ShloMosaic.Tactic
open Idealize.SL Idealize.SL.RA Idealize.SL.BI Idealize.SL.Sem

variable {F : FTy → Type} [FloatOps F]

/-! ## Kernel 1 -/

/-- Where a block of a trip's column lies. -/
def boff1 (k : Fin k1_t1_loop.trips) (g : Fin 2) (b : Fin 8) : Fin 2 → ℕ :=
  (![![k1_off1 k, k1_off2 k, k1_off3 k, k1_off4 k, k1_off5 k, k1_off6 k, k1_off7 k, k1_off8 k], ![k1_off10 k, k1_off11 k, k1_off12 k, k1_off13 k, k1_off14 k, k1_off15 k, k1_off16 k, k1_off17 k]] : Fin 2 → Fin 8 → Fin 2 → ℕ) g b

theorem boff1_eq (k : Fin k1_t1_loop.trips) (g : Fin 2) (b : Fin 8) : boff1 k g b = ![256 * g.val + 32 * b.val, 256 * k.val] := by
  revert k g b; decide +kernel

theorem boff1_inb (k : Fin k1_t1_loop.trips) (g : Fin 2) (b : Fin 8) : ∀ a, boff1 k g b a + S32x256.size a ≤ S512x1024.size a := by
  revert k g b; decide +kernel

theorem soff1_inb (k : Fin k1_t1_loop.trips) (g : Fin 2) : ∀ a, (![k1_off9 k, k1_off18 k] : Fin 2 → Fin 2 → ℕ) g a + S8x256.size a ≤ S16x1024.size a := by
  revert k g; decide +kernel

section K1

variable (arg3 : Memref sig .tc .vmem S512x1024 .bf16) (X : BufTy.Contents (Elt F) arg3.view.ty) (arg7 : Memref sig .tc .vmem S2x8x256 .i32)

/-- What a trip loads of a group. -/
def lds1 (k : Fin k1_t1_loop.trips) (g : Fin 2) (b : Fin 8) : Vec F S32x256 .bf16 :=
  View.readAt (Elt F) arg3.view (Rect.unit (s := S512x1024) (boff1 k g b) S32x256.size (boff1_inb k g b)).toLoadRect X

/-- The exponent fields of a group. -/
def ebits1 (k : Fin k1_t1_loop.trips) (g : Fin 2) : IVec S8x256 32 := expBits (grpY 0x37924925#32 (lds1 arg3 X k g))

/-- The words after the first group, after the second. -/
def wlist1 (k : Fin k1_t1_loop.trips) (g : Fin 2) : List (View.Piece (Elt F) S2x8x256 .i32) :=
  (![wordPieces (ebits1 arg3 X k 0) [], wordPieces (ebits1 arg3 X k 1) (wordPieces (ebits1 arg3 X k 0) [])] : Fin 2 → _) g

/-- The codes of a block. -/
def cblk1 (k : Fin k1_t1_loop.trips) (g : Fin 2) (b : Fin 8) : FVec F S32x256 .fp8e5m2 :=
  codeBlk .fp8e5m2 bitsLt_fp8e5m2_bf16 0xC760#16 0x4760#16 (lds1 arg3 X k g b) (wrow arg7 (wlist1 arg3 X k g) 0 b)

/-- The dequantised values of a block. -/
def hblk1 (k : Fin k1_t1_loop.trips) (g : Fin 2) (b : Fin 8) : FVec F S32x256 .bf16 :=
  hatBlk .fp8e5m2 bitsLt_fp8e5m2_bf16 (cblk1 arg3 X arg7 k g b) (wrow arg7 (wlist1 arg3 X k g) 1 b)

/-- The piece of codes of a block. -/
def cpiece1 (k : Fin k1_t1_loop.trips) (g : Fin 2) (b : Fin 8) : View.Piece (Elt F) S512x1024 .fp8e5m2 :=
  ⟨Rect.unit (s := S512x1024) (boff1 k g b) S32x256.size (boff1_inb k g b), cblk1 arg3 X arg7 k g b⟩

/-- The piece of scales of a group. -/
def spiece1 (k : Fin k1_t1_loop.trips) (g : Fin 2) : View.Piece (Elt F) S16x1024 .f32 :=
  ⟨Rect.unit (s := S16x1024) ((![k1_off9 k, k1_off18 k] : Fin 2 → Fin 2 → ℕ) g) S8x256.size (soff1_inb k g), bitcastToFloat .f32 (scaleBits (ebits1 arg3 X k g))⟩

/-- The piece of dequantised values of a block. -/
def hpiece1 (k : Fin k1_t1_loop.trips) (g : Fin 2) (b : Fin 8) : View.Piece (Elt F) S512x1024 .bf16 :=
  ⟨Rect.unit (s := S512x1024) (boff1 k g b) S32x256.size (boff1_inb k g b), hblk1 arg3 X arg7 k g b⟩

end K1

section T1

variable (𝒱 : Variants) (c : Dev nD) (bd : Option 𝒱.V) (i : grid1.Coords) (arg2 : Memref sig .tc .vmem S1x4096x512 .bf16) (harg2 : arg2.IsWhole) (arg3 : Memref sig .tc .vmem S512x1024 .bf16) (harg3 : arg3.IsWhole) (arg4 : Memref sig .tc .vmem S4096x1024 .f32) (harg4 : arg4.IsWhole) (arg5 : Memref sig .tc .vmem S512x1024 .fp8e5m2) (harg5 : arg5.IsWhole) (arg6 : Memref sig .tc .vmem S16x1024 .f32) (harg6 : arg6.IsWhole) (arg7 : Memref sig .tc .vmem S2x8x256 .i32) (harg7 : arg7.IsWhole) (arg8 : Memref sig .tc .vmem S512x1024 .bf16) (harg8 : arg8.IsWhole)
  (X : BufTy.Contents (Elt F) arg3.view.ty) (k : Fin k1_t1_loop.trips) (f5 : BufTy.Contents (Elt F) arg5.view.ty) (f6 : BufTy.Contents (Elt F) arg6.view.ty) (f7 : BufTy.Contents (Elt F) arg7.view.ty) (f8 : BufTy.Contents (Elt F) arg8.view.ty)

theorem trip1_codes : (tripL_k1_t1 (F := F) 𝒱 c bd i arg2 harg2 arg3 harg3 arg4 harg4 arg5 harg5 arg6 harg6 arg7 harg7 arg8 harg8 X k f5 f6 f7 f8).1 = eight (cpiece1 arg3 X arg7 k 1) (eight (cpiece1 arg3 X arg7 k 0) []) := by
  unfold tripL_k1_t1 trip_k1_t1; rfl

theorem trip1_scale : (tripL_k1_t1 (F := F) 𝒱 c bd i arg2 harg2 arg3 harg3 arg4 harg4 arg5 harg5 arg6 harg6 arg7 harg7 arg8 harg8 X k f5 f6 f7 f8).2.1 = [spiece1 arg3 X k 1, spiece1 arg3 X k 0] := by
  unfold tripL_k1_t1 trip_k1_t1; rfl

theorem trip1_hat : (tripL_k1_t1 (F := F) 𝒱 c bd i arg2 harg2 arg3 harg3 arg4 harg4 arg5 harg5 arg6 harg6 arg7 harg7 arg8 harg8 X k f5 f6 f7 f8).2.2.2 = eight (hpiece1 arg3 X arg7 k 1) (eight (hpiece1 arg3 X arg7 k 0) []) := by
  unfold tripL_k1_t1 trip_k1_t1; rfl

end T1

/-! ## Kernel 0 -/

/-- Where a block of a trip's column lies. -/
def boff0 (k : Fin k0_t1_loop.trips) (g : Fin 2) (b : Fin 8) : Fin 2 → ℕ :=
  (![![k0_off1 k, k0_off2 k, k0_off3 k, k0_off4 k, k0_off5 k, k0_off6 k, k0_off7 k, k0_off8 k], ![k0_off11 k, k0_off12 k, k0_off13 k, k0_off14 k, k0_off15 k, k0_off16 k, k0_off17 k, k0_off18 k]] : Fin 2 → Fin 8 → Fin 2 → ℕ) g b

theorem boff0_eq (k : Fin k0_t1_loop.trips) (g : Fin 2) (b : Fin 8) : boff0 k g b = ![256 * g.val + 32 * b.val, 256 * k.val] := by
  revert k g b; decide +kernel

theorem boff0_inb (k : Fin k0_t1_loop.trips) (g : Fin 2) (b : Fin 8) : ∀ a, boff0 k g b a + S32x256.size a ≤ S512x4096.size a := by
  revert k g b; decide +kernel

theorem soff0_inb (k : Fin k0_t1_loop.trips) (g : Fin 2) : ∀ a, (![k0_off9 k, k0_off19 k] : Fin 2 → Fin 2 → ℕ) g a + S8x256.size a ≤ S16x4096.size a := by
  revert k g; decide +kernel

section K0

variable (arg1 : Memref sig .tc .vmem S512x4096 .bf16) (X : BufTy.Contents (Elt F) arg1.view.ty) (arg5 : Memref sig .tc .vmem S2x8x256 .i32)

/-- What a trip loads of a group. -/
def lds0 (k : Fin k0_t1_loop.trips) (g : Fin 2) (b : Fin 8) : Vec F S32x256 .bf16 :=
  View.readAt (Elt F) arg1.view (Rect.unit (s := S512x4096) (boff0 k g b) S32x256.size (boff0_inb k g b)).toLoadRect X

/-- The exponent fields of a group. -/
def ebits0 (k : Fin k0_t1_loop.trips) (g : Fin 2) : IVec S8x256 32 := expBits (grpY 0x3B124925#32 (lds0 arg1 X k g))

/-- The words after the first group, after the second. -/
def wlist0 (k : Fin k0_t1_loop.trips) (g : Fin 2) : List (View.Piece (Elt F) S2x8x256 .i32) :=
  (![wordPieces (ebits0 arg1 X k 0) [], wordPieces (ebits0 arg1 X k 1) (wordPieces (ebits0 arg1 X k 0) [])] : Fin 2 → _) g

/-- The codes of a block. -/
def cblk0 (k : Fin k0_t1_loop.trips) (g : Fin 2) (b : Fin 8) : FVec F S32x256 .fp8e4m3 :=
  codeBlk .fp8e4m3 bitsLt_fp8e4m3_bf16 0xC3E0#16 0x43E0#16 (lds0 arg1 X k g b) (wrow arg5 (wlist0 arg1 X k g) 0 b)

/-- The dequantised values of a block. -/
def hblk0 (k : Fin k0_t1_loop.trips) (g : Fin 2) (b : Fin 8) : FVec F S32x256 .bf16 :=
  hatBlk .fp8e4m3 bitsLt_fp8e4m3_bf16 (cblk0 arg1 X arg5 k g b) (wrow arg5 (wlist0 arg1 X k g) 1 b)

/-- The piece of codes of a block. -/
def cpiece0 (k : Fin k0_t1_loop.trips) (g : Fin 2) (b : Fin 8) : View.Piece (Elt F) S512x4096 .fp8e4m3 :=
  ⟨Rect.unit (s := S512x4096) (boff0 k g b) S32x256.size (boff0_inb k g b), cblk0 arg1 X arg5 k g b⟩

/-- The piece of scales of a group. -/
def spiece0 (k : Fin k0_t1_loop.trips) (g : Fin 2) : View.Piece (Elt F) S16x4096 .f32 :=
  ⟨Rect.unit (s := S16x4096) ((![k0_off9 k, k0_off19 k] : Fin 2 → Fin 2 → ℕ) g) S8x256.size (soff0_inb k g), bitcastToFloat .f32 (scaleBits (ebits0 arg1 X k g))⟩

theorem hoff_inb (b : Fin 8) : ∀ a, (![32 * b.val, 0] : Fin 2 → ℕ) a + S32x256.size a ≤ S256x256.size a := by
  revert b; decide +kernel

/-- The piece of dequantised values of a block, in the scratch the transpose reads. -/
def hpiece0 (k : Fin k0_t1_loop.trips) (g : Fin 2) (b : Fin 8) : View.Piece (Elt F) S256x256 .bf16 :=
  ⟨Rect.unit (s := S256x256) ![32 * b.val, 0] S32x256.size (hoff_inb b), hblk0 arg1 X arg5 k g b⟩

/-- The scratch of dequantised values after the first group, after the second. -/
def hlist0 (k : Fin k0_t1_loop.trips) (g : Fin 2) : List (View.Piece (Elt F) S256x256 .bf16) :=
  (![eight (hpiece0 arg1 X arg5 k 0) [], eight (hpiece0 arg1 X arg5 k 1) (eight (hpiece0 arg1 X arg5 k 0) [])] : Fin 2 → _) g

theorem toff_inb (k : Fin k0_t1_loop.trips) (g : Fin 2) : ∀ a, (![k0_off10 k, k0_off20 k] : Fin 2 → Fin 3 → ℕ) g a + S1x256x256.size a ≤ S1x4096x512.size a := by
  revert k g; decide +kernel

/-- The piece of transposed values of a group. -/
def tpiece0 (arg6 : Memref sig .tc .vmem S256x256 .bf16) (k : Fin k0_t1_loop.trips) (g : Fin 2) : View.Piece (Elt F) S1x4096x512 .bf16 :=
  ⟨Rect.unit (s := S1x4096x512) ((![k0_off10 k, k0_off20 k] : Fin 2 → Fin 3 → ℕ) g) S1x256x256.size (toff_inb k g),
    k0_pay1 (arg6.view.readCov (hlist0 arg1 X arg5 k g) (Rect.unit (s := S256x256) ![0, 0] S256x256.size inb_S256x256_S256x256_0_0).toLoadRect)⟩

end K0

section T0

variable (𝒱 : Variants) (c : Dev nD) (bd : Option 𝒱.V) (i : grid0.Coords) (arg1 : Memref sig .tc .vmem S512x4096 .bf16) (harg1 : arg1.IsWhole) (arg2 : Memref sig .tc .vmem S512x4096 .fp8e4m3) (harg2 : arg2.IsWhole) (arg3 : Memref sig .tc .vmem S16x4096 .f32) (harg3 : arg3.IsWhole) (arg4 : Memref sig .tc .vmem S1x4096x512 .bf16) (harg4 : arg4.IsWhole) (arg5 : Memref sig .tc .vmem S2x8x256 .i32) (harg5 : arg5.IsWhole) (arg6 : Memref sig .tc .vmem S256x256 .bf16) (harg6 : arg6.IsWhole)
  (X : BufTy.Contents (Elt F) arg1.view.ty) (k : Fin k0_t1_loop.trips) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty)

theorem trip0_codes : (tripL_k0_t1 (F := F) 𝒱 c bd i arg1 harg1 arg2 harg2 arg3 harg3 arg4 harg4 arg5 harg5 arg6 harg6 X k f2 f3 f4 f5 f6).1 = eight (cpiece0 arg1 X arg5 k 1) (eight (cpiece0 arg1 X arg5 k 0) []) := by
  unfold tripL_k0_t1 trip_k0_t1; rfl

theorem trip0_scale : (tripL_k0_t1 (F := F) 𝒱 c bd i arg1 harg1 arg2 harg2 arg3 harg3 arg4 harg4 arg5 harg5 arg6 harg6 X k f2 f3 f4 f5 f6).2.1 = [spiece0 arg1 X k 1, spiece0 arg1 X k 0] := by
  unfold tripL_k0_t1 trip_k0_t1; rfl

theorem trip0_xt : (tripL_k0_t1 (F := F) 𝒱 c bd i arg1 harg1 arg2 harg2 arg3 harg3 arg4 harg4 arg5 harg5 arg6 harg6 X k f2 f3 f4 f5 f6).2.2.1 = [tpiece0 arg1 X arg5 arg6 k 1, tpiece0 arg1 X arg5 arg6 k 0] := by
  unfold tripL_k0_t1 trip_k0_t1; rfl

end T0

end Cert.Proof.Ideal

end
-- ==== Proof.Ideal.TripValue.lean ====
/-
  What a run of each kernel's body leaves in its outputs, entry by entry, as a function of the block it read.
-/
module

public import proofs.«01_k».proof.Proof.Ideal.Chain
public import proofs.«01_k».proof.Proof.Ideal.GroupValue
public import proofs.«01_k».proof.Proof.Ideal.Body
public import Idealize.ShloMosaic.Lib.Pipeline.ValueKit.Geometry

@[expose] public section

set_option maxRecDepth 16384

noncomputable section

namespace Cert.Proof.Ideal

open Cert.KernelIdeal Cert.KernelIdeal.Gen
open Idealize.ShloMosaic Idealize.ShloMosaic.ValueIdx

/-- The largest magnitude of the block of 32 rows that row `t` of column `l` lies in. -/
def blkA {N W : ℕ} (h : 32 ∣ N) (x : Fin N → Fin W → EReal) (t : Fin N) (l : Fin W) : EReal :=
  amaxS fun s => x ⟨32 * (t.val / 32) + s.val, by omega⟩ l

/-- Rows of one block have one largest magnitude. -/
theorem blkA_eq {N W : ℕ} (h : 32 ∣ N) (x : Fin N → Fin W → EReal) (t : Fin N) (l : Fin W) (n : ℕ) (T : Fin 32 → Fin N) (hT : ∀ s, (T s).val = 32 * n + s.val) (ht : t.val / 32 = n) :
    (amaxS fun s => x (T s) l) = blkA h x t l := by
  unfold blkA
  refine congrArg amaxS (funext fun s => congrArg (fun u => x u l) (Fin.ext ?_))
  show (T s).val = 32 * (t.val / 32) + s.val
  have := hT s
  omega

theorem d512 : 32 ∣ 512 := by decide

/-- The row and the column of an entry of a trip's block. -/
def row (g : Fin 2) (b : Fin 8) (s : Fin 32) : Fin 512 := ⟨256 * g.val + 32 * b.val + s.val, by omega⟩

/-- The newest eight disjoint pieces read as themselves. -/
theorem canon_eight {S : Shape} {e : EltTy} (f : Fin 8 → View.Piece (Elt Ideal) S e) (L : List (View.Piece (Elt Ideal) S e)) (b : Fin 8) (x : (f b).1.shape.Idx)
    (h : ∀ b', b' ≠ b → (f b).1.emb x ∉ (f b').1.set) : View.canon (eight f L) ((f b).1.emb x) = (f b).2 x := by
  have drop : ∀ (b' : Fin 8) (K : List (View.Piece (Elt Ideal) S e)), b' ≠ b → View.canon (f b' :: K) ((f b).1.emb x) = View.canon K ((f b).1.emb x) := fun b' K hb => View.canon_cons_of_not_mem (f b') K (h b' hb)
  have top : ∀ K : List (View.Piece (Elt Ideal) S e), View.canon (f b :: K) ((f b).1.emb x) = (f b).2 x := fun K => View.canon_cons_emb _ _ _ _
  have go : ∀ (n : ℕ) (hn : n < 8) (K : List (View.Piece (Elt Ideal) S e)), (b.val < n → View.canon K ((f b).1.emb x) = (f b).2 x) → (b.val < n + 1 → View.canon (f ⟨n, hn⟩ :: K) ((f b).1.emb x) = (f b).2 x) := by
    intro n hn K hK hb
    by_cases he : (⟨n, hn⟩ : Fin 8) = b
    · subst he; exact top K
    · exact (drop _ K he).trans (hK (by have : n ≠ b.val := fun h => he (Fin.ext h.symm.symm); omega))
  exact go 7 (by omega) _ (go 6 (by omega) _ (go 5 (by omega) _ (go 4 (by omega) _ (go 3 (by omega) _ (go 2 (by omega) _ (go 1 (by omega) _ (go 0 (by omega) L (fun h => absurd h (by omega))))))))) (by omega)

/-! ## Kernel 0 -/

/-- The column of an entry of trip `k`. -/
def col0 (k : Fin k0_t1_loop.trips) (l : Fin 256) : Fin 4096 := ⟨256 * k.val + l.val, by
  have : k0_t1_loop.trips = 16 := by decide
  omega⟩

section K0

variable (arg1 : Memref sig .tc .vmem S512x4096 .bf16) (harg1 : arg1.IsWhole) (arg5 : Memref sig .tc .vmem S2x8x256 .i32) (x : Vec Ideal S512x4096 .bf16)
  (k : Fin k0_t1_loop.trips) (g : Fin 2) (b : Fin 8) (s : Fin 32) (l : Fin 256)

theorem emb0 : (Rect.unit (s := S512x4096) (boff0 k g b) S32x256.size (boff0_inb k g b)).emb (ix2 s l) = (ix2 (row g b s) (col0 k l) : S512x4096.Idx) := by
  funext d
  refine Fin.ext ((ValueKit.rect_emb_unit_val _ _ _ _ _).trans ?_)
  refine (congrArg (fun z : ℕ => z + ((ix2 s l : S32x256.Idx) d).val) (congrFun (boff0_eq k g b) d)).trans ?_
  match d with
  | ⟨0, _⟩ => rfl
  | ⟨1, _⟩ => rfl

theorem wlist0_eq (X : BufTy.Contents (Elt Ideal) arg1.view.ty) : ∃ L, wlist0 arg1 X k g = wordPieces (expBits (grpY 0x3B124925#32 (lds0 arg1 X k g))) L := by
  rcases (by omega : g = 0 ∨ g = 1) with rfl | rfl
  · exact ⟨_, rfl⟩
  · exact ⟨_, rfl⟩

/-- The place of a scale. -/
theorem semb0 : (spiece0 arg1 (ofRead arg1 x) k g).1.emb (ix2 b l) = (ix2 ⟨8 * g.val + b.val, by omega⟩ (col0 k l) : S16x4096.Idx) := by
  funext d
  refine Fin.ext ((ValueKit.rect_emb_unit_val _ _ (soff0_inb k g) _ _).trans ?_)
  rcases (by omega : g = 0 ∨ g = 1) with rfl | rfl
  · refine (congrArg (fun z : ℕ => z + ((ix2 b l : S8x256.Idx) d).val) (congrFun (k0_off9_eq k) d)).trans ?_
    match d with
    | ⟨0, _⟩ => rfl
    | ⟨1, _⟩ => rfl
  · refine (congrArg (fun z : ℕ => z + ((ix2 b l : S8x256.Idx) d).val) (congrFun (k0_off19_eq k) d)).trans ?_
    match d with
    | ⟨0, _⟩ => rfl
    | ⟨1, _⟩ => rfl

include harg1

theorem lds0_at : lds0 arg1 (ofRead arg1 x) k g b (ix2 s l) = x (ix2 (row g b s) (col0 k l)) := by
  have : lds0 arg1 (ofRead arg1 x) k g b (ix2 s l) = arg1.view.read (Elt Ideal) (ofRead arg1 x) ((Rect.unit (s := S512x4096) (boff0 k g b) S32x256.size (boff0_inb k g b)).emb (ix2 s l)) := rfl
  rw [this, emb0, read_ofRead arg1 harg1]

theorem lmax0 : (amaxS fun s => lds0 arg1 (ofRead arg1 x) k g b (ix2 s l)) = blkA d512 (fun a b => x (ix2 a b)) (row g b s) (col0 k l) := by
  simp only [lds0_at arg1 harg1]
  exact blkA_eq d512 (fun a b => x (ix2 a b)) (row g b s) (col0 k l) (8 * g.val + b.val) (row g b) (fun s => by show 256 * g.val + 32 * b.val + s.val = _; omega)
    (by show (256 * g.val + 32 * b.val + s.val) / 32 = _; omega)

theorem cblk0_at : cblk0 arg1 (ofRead arg1 x) arg5 k g b (ix2 s l)
    = codeS 0x3B124925#32 0xC3E0#16 0x43E0#16 (blkA d512 (fun a b => x (ix2 a b)) (row g b s) (col0 k l)) (x (ix2 (row g b s) (col0 k l))) := by
  obtain ⟨L, hL⟩ := wlist0_eq arg1 k g (ofRead arg1 x)
  unfold cblk0
  rw [hL, code_at, lmax0 arg1 harg1 x k g b s l, lds0_at arg1 harg1]

theorem hblk0_at : hblk0 arg1 (ofRead arg1 x) arg5 k g b (ix2 s l)
    = hatS 0x3B124925#32 0xC3E0#16 0x43E0#16 (blkA d512 (fun a b => x (ix2 a b)) (row g b s) (col0 k l)) (x (ix2 (row g b s) (col0 k l))) := by
  obtain ⟨L, hL⟩ := wlist0_eq arg1 k g (ofRead arg1 x)
  unfold hblk0 cblk0
  rw [hL, hat_at, lmax0 arg1 harg1 x k g b s l, lds0_at arg1 harg1]

theorem sblk0_at : (spiece0 arg1 (ofRead arg1 x) k g).2 (ix2 b l)
    = scS 0x3B124925#32 (blkA d512 (fun a b => x (ix2 a b)) (row g b 0) (col0 k l)) := by
  show bitcastToFloat (F := Ideal) .f32 (scaleBits (ebits0 arg1 (ofRead arg1 x) k g)) (ix2 b l) = _
  unfold ebits0
  rw [scale_at, lmax0 arg1 harg1 x k g b 0 l]

end K0

section B0

variable (c : Dev nD) (i : grid0.Coords) (arg1 : Memref sig .tc .vmem S512x4096 .bf16) (harg1 : arg1.IsWhole) (arg2 : Memref sig .tc .vmem S512x4096 .fp8e4m3) (harg2 : arg2.IsWhole) (arg3 : Memref sig .tc .vmem S16x4096 .f32) (harg3 : arg3.IsWhole) (arg4 : Memref sig .tc .vmem S1x4096x512 .bf16) (harg4 : arg4.IsWhole) (arg5 : Memref sig .tc .vmem S2x8x256 .i32) (harg5 : arg5.IsWhole) (arg6 : Memref sig .tc .vmem S256x256 .bf16) (harg6 : arg6.IsWhole)
  (x : Vec Ideal S512x4096 .bf16)

/-- The codes of a block. -/
theorem codes0_at (t : Fin 512) (u : Fin 4096) : codes0 c i arg1 harg1 arg2 harg2 arg3 harg3 arg4 harg4 arg5 harg5 arg6 harg6 x (ix2 t u) = codeS 0x3B124925#32 0xC3E0#16 0x43E0#16 (blkA d512 (fun a b => x (ix2 a b)) t u) (x (ix2 t u)) := by
  unfold codes0
  refine View.canon_apply_of_pieces (Val := Elt Ideal) (e := .fp8e4m3) (fun y : S512x4096.Idx => (codeS 0x3B124925#32 0xC3E0#16 0x43E0#16 (blkA d512 (fun a b => x (ix2 a b)) (y 0) (y 1)) (x y) : EReal)) _ ?_ (ix2 t u) (coverAll0_codes _ _ _ _ arg1 harg1 arg2 harg2 arg3 harg3 arg4 harg4 arg5 harg5 arg6 harg6 _ arg2.view.junk arg3.view.junk arg4.view.junk arg5.view.junk arg6.view.junk _)
  intro p hp q
  obtain ⟨k, hk⟩ := (of_mem_pb0 Variants.none c none i arg1 harg1 arg2 harg2 arg3 harg3 arg4 harg4 arg5 harg5 arg6 harg6 (ofRead arg1 x) k0_t1_loop.trips arg2.view.junk arg3.view.junk arg4.view.junk arg5.view.junk arg6.view.junk arg2.view.junk arg3.view.junk arg4.view.junk arg5.view.junk arg6.view.junk).1 p hp
  rw [trip0_codes, mem_eight, mem_eight] at hk
  obtain ⟨g, b, rfl⟩ : ∃ g b, p = cpiece0 arg1 (ofRead arg1 x) arg5 k g b := by
    rcases hk with ⟨b, h⟩ | ⟨b, h⟩ | h
    · exact ⟨1, b, h⟩
    · exact ⟨0, b, h⟩
    · exact absurd h (List.not_mem_nil)
  obtain ⟨s, l, rfl⟩ : ∃ (s : Fin 32) (l : Fin 256), q = ix2 s l := ⟨_, _, eq_ix2 q⟩
  have he : (cpiece0 arg1 (ofRead arg1 x) arg5 k g b).1.emb (ix2 s l) = (ix2 (row g b s) (col0 k l) : S512x4096.Idx) := emb0 k g b s l
  rw [he]
  exact cblk0_at arg1 harg1 arg5 x k g b s l

/-- The scales of a block. -/
theorem scale0_at (t : Fin 16) (u : Fin 4096) : scale0 c i arg1 harg1 arg2 harg2 arg3 harg3 arg4 harg4 arg5 harg5 arg6 harg6 x (ix2 t u) = scS 0x3B124925#32 (blkA d512 (fun a b => x (ix2 a b)) ⟨32 * t.val, by omega⟩ u) := by
  unfold scale0
  refine View.canon_apply_of_pieces (Val := Elt Ideal) (e := .f32) (fun y : S16x4096.Idx => (scS 0x3B124925#32 (blkA d512 (fun a b => x (ix2 a b)) ⟨32 * (y 0).val, by have : (y 0).val < 16 := (y 0).isLt; omega⟩ (y 1)) : EReal)) _ ?_ (ix2 t u) (coverAll0_scale _ _ _ _ arg1 harg1 arg2 harg2 arg3 harg3 arg4 harg4 arg5 harg5 arg6 harg6 _ arg2.view.junk arg3.view.junk arg4.view.junk arg5.view.junk arg6.view.junk _)
  intro p hp q
  obtain ⟨k, hk⟩ := (of_mem_pb0 Variants.none c none i arg1 harg1 arg2 harg2 arg3 harg3 arg4 harg4 arg5 harg5 arg6 harg6 (ofRead arg1 x) k0_t1_loop.trips arg2.view.junk arg3.view.junk arg4.view.junk arg5.view.junk arg6.view.junk arg2.view.junk arg3.view.junk arg4.view.junk arg5.view.junk arg6.view.junk).2.1 p hp
  rw [trip0_scale] at hk
  obtain ⟨g, rfl⟩ : ∃ g, p = spiece0 arg1 (ofRead arg1 x) k g := by
    rcases List.mem_pair.1 hk with h | h
    · exact ⟨1, h⟩
    · exact ⟨0, h⟩
  obtain ⟨b, l, rfl⟩ : ∃ (b : Fin 8) (l : Fin 256), q = ix2 b l := ⟨_, _, eq_ix2 q⟩
  rw [sblk0_at arg1 harg1 x k g b l, semb0 arg1 x k g b l]
  have hr : (row g b 0) = (⟨32 * (8 * g.val + b.val), by omega⟩ : Fin 512) := Fin.ext (by show 256 * g.val + 32 * b.val + 0 = 32 * (8 * g.val + b.val); omega)
  rw [hr]

include harg1 in
/-- What the scratch of dequantised values reads after a group was written. -/
theorem hread0 (k : Fin k0_t1_loop.trips) (g : Fin 2) (b : Fin 8) (s : Fin 32) (l : Fin 256) :
    arg6.view.readCov (hlist0 arg1 (ofRead arg1 x) arg5 k g) (Rect.unit (s := S256x256) ![0, 0] S256x256.size inb_S256x256_S256x256_0_0).toLoadRect (ix2 (⟨32 * b.val + s.val, by omega⟩ : Fin 256) l)
      = hatS 0x3B124925#32 0xC3E0#16 0x43E0#16 (blkA d512 (fun a b => x (ix2 a b)) (row g b s) (col0 k l)) (x (ix2 (row g b s) (col0 k l))) := by
  rw [View.readCov_eq_canon']
  have hix : (Rect.unit (s := S256x256) ![0, 0] S256x256.size inb_S256x256_S256x256_0_0).toLoadRect.idx (ix2 (⟨32 * b.val + s.val, by omega⟩ : Fin 256) l) = (ix2 (⟨32 * b.val + s.val, by omega⟩ : Fin 256) l : S256x256.Idx) := by
    funext d
    match d with
    | ⟨0, _⟩ => exact Fin.ext (show 0 + 1 * (32 * b.val + s.val) = 32 * b.val + s.val by omega)
    | ⟨1, _⟩ => exact Fin.ext (show 0 + 1 * l.val = l.val by omega)
  refine (congrArg (View.canon (hlist0 arg1 (ofRead arg1 x) arg5 k g)) hix).trans ?_
  have hemb : ∀ (g' : Fin 2) (b' : Fin 8) (s' : Fin 32) (l' : Fin 256), (hpiece0 arg1 (ofRead arg1 x) arg5 k g' b').1.emb (ix2 s' l') = (ix2 (⟨32 * b'.val + s'.val, by omega⟩ : Fin 256) l' : S256x256.Idx) := fun g' b' s' l' => by
    funext d
    refine Fin.ext ((ValueKit.rect_emb_unit_val _ _ (hoff_inb b') _ _).trans ?_)
    match d with
    | ⟨0, _⟩ => rfl
    | ⟨1, _⟩ => exact Nat.zero_add _
  obtain ⟨L, hL⟩ : ∃ L, hlist0 arg1 (ofRead arg1 x) arg5 k g = eight (hpiece0 arg1 (ofRead arg1 x) arg5 k g) L := by
    rcases (by omega : g = 0 ∨ g = 1) with rfl | rfl
    · exact ⟨_, rfl⟩
    · exact ⟨_, rfl⟩
  rw [hL, ← hemb g b s l]
  refine (canon_eight (hpiece0 arg1 (ofRead arg1 x) arg5 k g) L b (ix2 s l) ?_).trans (hblk0_at arg1 harg1 arg5 x k g b s l)
  · intro b' hb' h
    obtain ⟨q, hq⟩ := (hpiece0 arg1 (ofRead arg1 x) arg5 k g b').1.exists_idx_of_mem h
    obtain ⟨s', l', rfl⟩ : ∃ (s' : Fin 32) (l' : Fin 256), q = ix2 s' l' := ⟨_, _, eq_ix2 q⟩
    have h0 := congrArg (fun z : S256x256.Idx => (z 0).val) ((hemb g b s l).symm.trans (hq.symm.trans (hemb g b' s' l')))
    have h1 : 32 * b.val + s.val = 32 * b'.val + s'.val := h0
    exact hb' (Fin.ext (by omega))

/-- The transposed dequantised block. -/
theorem xt0_at (u : Fin 4096) (t : Fin 512) : xt0 c i arg1 harg1 arg2 harg2 arg3 harg3 arg4 harg4 arg5 harg5 arg6 harg6 x (ix3 0 u t)
    = hatS 0x3B124925#32 0xC3E0#16 0x43E0#16 (blkA d512 (fun a b => x (ix2 a b)) t u) (x (ix2 t u)) := by
  unfold xt0
  refine View.canon_apply_of_pieces (Val := Elt Ideal) (e := .bf16) (fun y : S1x4096x512.Idx => (hatS 0x3B124925#32 0xC3E0#16 0x43E0#16 (blkA d512 (fun a b => x (ix2 a b)) (y 2) (y 1)) (x (ix2 (y 2) (y 1))) : EReal)) _ ?_ (ix3 0 u t) (coverAll0_xt _ _ _ _ arg1 harg1 arg2 harg2 arg3 harg3 arg4 harg4 arg5 harg5 arg6 harg6 _ arg2.view.junk arg3.view.junk arg4.view.junk arg5.view.junk arg6.view.junk _)
  intro p hp q
  obtain ⟨k, hk⟩ := (of_mem_pb0 Variants.none c none i arg1 harg1 arg2 harg2 arg3 harg3 arg4 harg4 arg5 harg5 arg6 harg6 (ofRead arg1 x) k0_t1_loop.trips arg2.view.junk arg3.view.junk arg4.view.junk arg5.view.junk arg6.view.junk arg2.view.junk arg3.view.junk arg4.view.junk arg5.view.junk arg6.view.junk).2.2.1 p hp
  rw [trip0_xt] at hk
  obtain ⟨g, rfl⟩ : ∃ g, p = tpiece0 arg1 (ofRead arg1 x) arg5 arg6 k g := by
    rcases List.mem_pair.1 hk with h | h
    · exact ⟨1, h⟩
    · exact ⟨0, h⟩
  obtain ⟨l, w, rfl⟩ : ∃ (l w : Fin 256), q = ix3 0 l w := ⟨q 1, q 2, by
    refine (eq_ix3 q).trans (congrArg (fun z => ix3 z (q 1) (q 2)) ?_)
    exact Subsingleton.elim (α := Fin 1) _ _⟩
  obtain ⟨b, s, hbs⟩ : ∃ (b : Fin 8) (s : Fin 32), w = (⟨32 * b.val + s.val, by omega⟩ : Fin 256) := ⟨⟨w.val / 32, by omega⟩, ⟨w.val % 32, by omega⟩, Fin.ext (by show w.val = 32 * (w.val / 32) + w.val % 32; omega)⟩
  subst hbs
  have he : (tpiece0 arg1 (ofRead arg1 x) arg5 arg6 k g).1.emb (ix3 0 l (⟨32 * b.val + s.val, by omega⟩ : Fin 256)) = (ix3 0 (col0 k l) (row g b s) : S1x4096x512.Idx) := by
    funext d
    refine Fin.ext ((ValueKit.rect_emb_unit_val _ _ (toff_inb k g) _ _).trans ?_)
    rcases (by omega : g = 0 ∨ g = 1) with rfl | rfl
    · refine (congrArg (fun z : ℕ => z + ((ix3 0 l (⟨32 * b.val + s.val, by omega⟩ : Fin 256) : S1x256x256.Idx) d).val) (congrFun (k0_off10_eq k) d)).trans ?_
      match d with
      | ⟨0, _⟩ => rfl
      | ⟨1, _⟩ => rfl
      | ⟨2, _⟩ => show 0 + (32 * b.val + s.val) = 256 * 0 + 32 * b.val + s.val; omega
    · refine (congrArg (fun z : ℕ => z + ((ix3 0 l (⟨32 * b.val + s.val, by omega⟩ : Fin 256) : S1x256x256.Idx) d).val) (congrFun (k0_off20_eq k) d)).trans ?_
      match d with
      | ⟨0, _⟩ => rfl
      | ⟨1, _⟩ => rfl
      | ⟨2, _⟩ => show 256 + (32 * b.val + s.val) = 256 * 1 + 32 * b.val + s.val; omega
  rw [he]
  refine Eq.trans ?_ (hread0 arg1 harg1 arg5 arg6 x k g b s l)
  show k0_pay1 (F := Ideal) (arg6.view.readCov (hlist0 arg1 (ofRead arg1 x) arg5 k g) (Rect.unit (s := S256x256) ![0, 0] S256x256.size inb_S256x256_S256x256_0_0).toLoadRect) (ix3 0 l (⟨32 * b.val + s.val, by omega⟩ : Fin 256)) = _
  unfold k0_pay1
  rw [shapeCast_ab_1ab_apply, transpose_ix2_apply]

end B0

/-! ## Kernel 1 -/

/-- The column of an entry of trip `k`. -/
def col1 (k : Fin k1_t1_loop.trips) (l : Fin 256) : Fin 1024 := ⟨256 * k.val + l.val, by
  have : k1_t1_loop.trips = 4 := by decide
  omega⟩

section K1

variable (arg3 : Memref sig .tc .vmem S512x1024 .bf16) (harg3 : arg3.IsWhole) (arg7 : Memref sig .tc .vmem S2x8x256 .i32) (x : Vec Ideal S512x1024 .bf16)
  (k : Fin k1_t1_loop.trips) (g : Fin 2) (b : Fin 8) (s : Fin 32) (l : Fin 256)

theorem emb1 : (Rect.unit (s := S512x1024) (boff1 k g b) S32x256.size (boff1_inb k g b)).emb (ix2 s l) = (ix2 (row g b s) (col1 k l) : S512x1024.Idx) := by
  funext d
  refine Fin.ext ((ValueKit.rect_emb_unit_val _ _ _ _ _).trans ?_)
  refine (congrArg (fun z : ℕ => z + ((ix2 s l : S32x256.Idx) d).val) (congrFun (boff1_eq k g b) d)).trans ?_
  match d with
  | ⟨0, _⟩ => rfl
  | ⟨1, _⟩ => rfl

theorem wlist1_eq (X : BufTy.Contents (Elt Ideal) arg3.view.ty) : ∃ L, wlist1 arg3 X k g = wordPieces (expBits (grpY 0x37924925#32 (lds1 arg3 X k g))) L := by
  rcases (by omega : g = 0 ∨ g = 1) with rfl | rfl
  · exact ⟨_, rfl⟩
  · exact ⟨_, rfl⟩

/-- The place of a scale. -/
theorem semb1 : (spiece1 arg3 (ofRead arg3 x) k g).1.emb (ix2 b l) = (ix2 ⟨8 * g.val + b.val, by omega⟩ (col1 k l) : S16x1024.Idx) := by
  funext d
  refine Fin.ext ((ValueKit.rect_emb_unit_val _ _ (soff1_inb k g) _ _).trans ?_)
  rcases (by omega : g = 0 ∨ g = 1) with rfl | rfl
  · refine (congrArg (fun z : ℕ => z + ((ix2 b l : S8x256.Idx) d).val) (congrFun (k1_off9_eq k) d)).trans ?_
    match d with
    | ⟨0, _⟩ => rfl
    | ⟨1, _⟩ => rfl
  · refine (congrArg (fun z : ℕ => z + ((ix2 b l : S8x256.Idx) d).val) (congrFun (k1_off18_eq k) d)).trans ?_
    match d with
    | ⟨0, _⟩ => rfl
    | ⟨1, _⟩ => rfl

include harg3

theorem lds1_at : lds1 arg3 (ofRead arg3 x) k g b (ix2 s l) = x (ix2 (row g b s) (col1 k l)) := by
  have : lds1 arg3 (ofRead arg3 x) k g b (ix2 s l) = arg3.view.read (Elt Ideal) (ofRead arg3 x) ((Rect.unit (s := S512x1024) (boff1 k g b) S32x256.size (boff1_inb k g b)).emb (ix2 s l)) := rfl
  rw [this, emb1, read_ofRead arg3 harg3]

theorem lmax1 : (amaxS fun s => lds1 arg3 (ofRead arg3 x) k g b (ix2 s l)) = blkA d512 (fun a b => x (ix2 a b)) (row g b s) (col1 k l) := by
  simp only [lds1_at arg3 harg3]
  exact blkA_eq d512 (fun a b => x (ix2 a b)) (row g b s) (col1 k l) (8 * g.val + b.val) (row g b) (fun s => by show 256 * g.val + 32 * b.val + s.val = _; omega)
    (by show (256 * g.val + 32 * b.val + s.val) / 32 = _; omega)

theorem cblk1_at : cblk1 arg3 (ofRead arg3 x) arg7 k g b (ix2 s l)
    = codeS 0x37924925#32 0xC760#16 0x4760#16 (blkA d512 (fun a b => x (ix2 a b)) (row g b s) (col1 k l)) (x (ix2 (row g b s) (col1 k l))) := by
  obtain ⟨L, hL⟩ := wlist1_eq arg3 k g (ofRead arg3 x)
  unfold cblk1
  rw [hL, code_at, lmax1 arg3 harg3 x k g b s l, lds1_at arg3 harg3]

theorem hblk1_at : hblk1 arg3 (ofRead arg3 x) arg7 k g b (ix2 s l)
    = hatS 0x37924925#32 0xC760#16 0x4760#16 (blkA d512 (fun a b => x (ix2 a b)) (row g b s) (col1 k l)) (x (ix2 (row g b s) (col1 k l))) := by
  obtain ⟨L, hL⟩ := wlist1_eq arg3 k g (ofRead arg3 x)
  unfold hblk1 cblk1
  rw [hL, hat_at, lmax1 arg3 harg3 x k g b s l, lds1_at arg3 harg3]

theorem sblk1_at : (spiece1 arg3 (ofRead arg3 x) k g).2 (ix2 b l)
    = scS 0x37924925#32 (blkA d512 (fun a b => x (ix2 a b)) (row g b 0) (col1 k l)) := by
  show bitcastToFloat (F := Ideal) .f32 (scaleBits (ebits1 arg3 (ofRead arg3 x) k g)) (ix2 b l) = _
  unfold ebits1
  rw [scale_at, lmax1 arg3 harg3 x k g b 0 l]

end K1

section B1

variable (c : Dev nD) (i : grid1.Coords) (arg2 : Memref sig .tc .vmem S1x4096x512 .bf16) (harg2 : arg2.IsWhole) (arg3 : Memref sig .tc .vmem S512x1024 .bf16) (harg3 : arg3.IsWhole) (arg4 : Memref sig .tc .vmem S4096x1024 .f32) (harg4 : arg4.IsWhole) (arg5 : Memref sig .tc .vmem S512x1024 .fp8e5m2) (harg5 : arg5.IsWhole) (arg6 : Memref sig .tc .vmem S16x1024 .f32) (harg6 : arg6.IsWhole) (arg7 : Memref sig .tc .vmem S2x8x256 .i32) (harg7 : arg7.IsWhole) (arg8 : Memref sig .tc .vmem S512x1024 .bf16) (harg8 : arg8.IsWhole)
  (x : Vec Ideal S512x1024 .bf16)

/-- The codes of a block. -/
theorem codes1_at (t : Fin 512) (u : Fin 1024) : codes1 c i arg2 harg2 arg3 harg3 arg4 harg4 arg5 harg5 arg6 harg6 arg7 harg7 arg8 harg8 x (ix2 t u) = codeS 0x37924925#32 0xC760#16 0x4760#16 (blkA d512 (fun a b => x (ix2 a b)) t u) (x (ix2 t u)) := by
  unfold codes1
  refine View.canon_apply_of_pieces (Val := Elt Ideal) (e := .fp8e5m2) (fun y : S512x1024.Idx => (codeS 0x37924925#32 0xC760#16 0x4760#16 (blkA d512 (fun a b => x (ix2 a b)) (y 0) (y 1)) (x y) : EReal)) _ ?_ (ix2 t u) (coverAll1_codes _ _ _ _ arg2 harg2 arg3 harg3 arg4 harg4 arg5 harg5 arg6 harg6 arg7 harg7 arg8 harg8 _ arg5.view.junk arg6.view.junk arg7.view.junk arg8.view.junk _)
  intro p hp q
  obtain ⟨k, hk⟩ := (of_mem_pb1 Variants.none c none i arg2 harg2 arg3 harg3 arg4 harg4 arg5 harg5 arg6 harg6 arg7 harg7 arg8 harg8 (ofRead arg3 x) k1_t1_loop.trips arg5.view.junk arg6.view.junk arg7.view.junk arg8.view.junk arg5.view.junk arg6.view.junk arg7.view.junk arg8.view.junk).1 p hp
  rw [trip1_codes, mem_eight, mem_eight] at hk
  obtain ⟨g, b, rfl⟩ : ∃ g b, p = cpiece1 arg3 (ofRead arg3 x) arg7 k g b := by
    rcases hk with ⟨b, h⟩ | ⟨b, h⟩ | h
    · exact ⟨1, b, h⟩
    · exact ⟨0, b, h⟩
    · exact absurd h (List.not_mem_nil)
  obtain ⟨s, l, rfl⟩ : ∃ (s : Fin 32) (l : Fin 256), q = ix2 s l := ⟨_, _, eq_ix2 q⟩
  have he : (cpiece1 arg3 (ofRead arg3 x) arg7 k g b).1.emb (ix2 s l) = (ix2 (row g b s) (col1 k l) : S512x1024.Idx) := emb1 k g b s l
  rw [he]
  exact cblk1_at arg3 harg3 arg7 x k g b s l

/-- The scales of a block. -/
theorem scale1_at (t : Fin 16) (u : Fin 1024) : scale1 c i arg2 harg2 arg3 harg3 arg4 harg4 arg5 harg5 arg6 harg6 arg7 harg7 arg8 harg8 x (ix2 t u) = scS 0x37924925#32 (blkA d512 (fun a b => x (ix2 a b)) ⟨32 * t.val, by omega⟩ u) := by
  unfold scale1
  refine View.canon_apply_of_pieces (Val := Elt Ideal) (e := .f32) (fun y : S16x1024.Idx => (scS 0x37924925#32 (blkA d512 (fun a b => x (ix2 a b)) ⟨32 * (y 0).val, by have : (y 0).val < 16 := (y 0).isLt; omega⟩ (y 1)) : EReal)) _ ?_ (ix2 t u) (coverAll1_scale _ _ _ _ arg2 harg2 arg3 harg3 arg4 harg4 arg5 harg5 arg6 harg6 arg7 harg7 arg8 harg8 _ arg5.view.junk arg6.view.junk arg7.view.junk arg8.view.junk _)
  intro p hp q
  obtain ⟨k, hk⟩ := (of_mem_pb1 Variants.none c none i arg2 harg2 arg3 harg3 arg4 harg4 arg5 harg5 arg6 harg6 arg7 harg7 arg8 harg8 (ofRead arg3 x) k1_t1_loop.trips arg5.view.junk arg6.view.junk arg7.view.junk arg8.view.junk arg5.view.junk arg6.view.junk arg7.view.junk arg8.view.junk).2.1 p hp
  rw [trip1_scale] at hk
  obtain ⟨g, rfl⟩ : ∃ g, p = spiece1 arg3 (ofRead arg3 x) k g := by
    rcases List.mem_pair.1 hk with h | h
    · exact ⟨1, h⟩
    · exact ⟨0, h⟩
  obtain ⟨b, l, rfl⟩ : ∃ (b : Fin 8) (l : Fin 256), q = ix2 b l := ⟨_, _, eq_ix2 q⟩
  rw [sblk1_at arg3 harg3 x k g b l, semb1 arg3 x k g b l]
  have hr : (row g b 0) = (⟨32 * (8 * g.val + b.val), by omega⟩ : Fin 512) := Fin.ext (by show 256 * g.val + 32 * b.val + 0 = 32 * (8 * g.val + b.val); omega)
  rw [hr]

/-- The dequantised block. -/
theorem hat1_at (t : Fin 512) (u : Fin 1024) : hat1 c i arg2 harg2 arg3 harg3 arg4 harg4 arg5 harg5 arg6 harg6 arg7 harg7 arg8 harg8 x (ix2 t u) = hatS 0x37924925#32 0xC760#16 0x4760#16 (blkA d512 (fun a b => x (ix2 a b)) t u) (x (ix2 t u)) := by
  unfold hat1
  refine View.canon_apply_of_pieces (Val := Elt Ideal) (e := .bf16) (fun y : S512x1024.Idx => (hatS 0x37924925#32 0xC760#16 0x4760#16 (blkA d512 (fun a b => x (ix2 a b)) (y 0) (y 1)) (x y) : EReal)) _ ?_ (ix2 t u) (coverAll1_hat _ _ _ _ arg2 harg2 arg3 harg3 arg4 harg4 arg5 harg5 arg6 harg6 arg7 harg7 arg8 harg8 _ arg5.view.junk arg6.view.junk arg7.view.junk arg8.view.junk _)
  intro p hp q
  obtain ⟨k, hk⟩ := (of_mem_pb1 Variants.none c none i arg2 harg2 arg3 harg3 arg4 harg4 arg5 harg5 arg6 harg6 arg7 harg7 arg8 harg8 (ofRead arg3 x) k1_t1_loop.trips arg5.view.junk arg6.view.junk arg7.view.junk arg8.view.junk arg5.view.junk arg6.view.junk arg7.view.junk arg8.view.junk).2.2.2 p hp
  rw [trip1_hat, mem_eight, mem_eight] at hk
  obtain ⟨g, b, rfl⟩ : ∃ g b, p = hpiece1 arg3 (ofRead arg3 x) arg7 k g b := by
    rcases hk with ⟨b, h⟩ | ⟨b, h⟩ | h
    · exact ⟨1, b, h⟩
    · exact ⟨0, b, h⟩
    · exact absurd h (List.not_mem_nil)
  obtain ⟨s, l, rfl⟩ : ∃ (s : Fin 32) (l : Fin 256), q = ix2 s l := ⟨_, _, eq_ix2 q⟩
  have he : (hpiece1 arg3 (ofRead arg3 x) arg7 k g b).1.emb (ix2 s l) = (ix2 (row g b s) (col1 k l) : S512x1024.Idx) := emb1 k g b s l
  rw [he]
  exact hblk1_at arg3 harg3 arg7 x k g b s l

end B1

end Cert.Proof.Ideal

end
-- ==== Proof.Ideal.KernelValue.lean ====
/-
  The kernel's five results, entry by entry, as functions of the two arguments read as token by column matrices.
-/
module

public import proofs.«01_k».proof.Proof.Ideal.TripValue
public import proofs.«01_k».proof.Proof.Ideal.Run
public import Idealize.ShloMosaic.Lib.Pipeline.ValueKit.Acc
public import Idealize.ShloMosaic.Lib.MatmulPlain
public import Idealize.ShloMosaic.Lib.ValueLayout

@[expose] public section

set_option maxRecDepth 16384

noncomputable section

namespace Cert.Proof.Ideal

open Cert.KernelIdeal Cert.KernelIdeal.Gen
open Idealize.ShloMosaic Idealize.ShloMosaic.TcCoe Idealize.ShloMosaic.ValueIdx
open Idealize.ShloMosaic.Pipeline (Dat Cfg Window)

/-- A matrix as a function of its row and column. -/
def mat {N W : ℕ} (x : (⟨2, ![N, W]⟩ : Shape).Idx → EReal) : Fin N → Fin W → EReal := fun a b => x (ix2 a b)

theorem dTok : 32 ∣ 24576 := by decide

/-- The codes, the scales and the dequantised values of a token by column matrix. -/
def codeM {W : ℕ} (r : BitVec 32) (lo hi : BitVec 16) (X : Fin 24576 → Fin W → EReal) (n : Fin 24576) (l : Fin W) : EReal :=
  codeS r lo hi (blkA dTok X n l) (X n l)
def scaleM {W : ℕ} (r : BitVec 32) (X : Fin 24576 → Fin W → EReal) (b : Fin 768) (l : Fin W) : EReal :=
  scS r (blkA dTok X ⟨32 * b.val, by omega⟩ l)
def hatM {W : ℕ} (r : BitVec 32) (lo hi : BitVec 16) (X : Fin 24576 → Fin W → EReal) (n : Fin 24576) (l : Fin W) : EReal :=
  hatS r lo hi (blkA dTok X n l) (X n l)

/-- The largest magnitude of a block of 32 rows, read off the 512 rows a grid point holds. -/
theorem blkA_chunk {W W' : ℕ} (X : Fin 24576 → Fin W → EReal) (x : Fin 512 → Fin W' → EReal) (k : ℕ) (hk : k < 48) (u : Fin W') (u' : Fin W)
    (hx : ∀ a : Fin 512, x a u = X ⟨512 * k + a.val, by omega⟩ u') (t : Fin 512) (n : Fin 24576) (hn : n.val / 32 = 16 * k + t.val / 32) :
    blkA d512 x t u = blkA dTok X n u' := by
  unfold blkA
  refine congrArg amaxS (funext fun s => ?_)
  rw [hx]
  refine congrArg (fun z => X z u') (Fin.ext ?_)
  show 512 * k + (32 * (t.val / 32) + s.val) = 32 * (n.val / 32) + s.val
  omega

section Chunk

variable {W W' : ℕ} (r : BitVec 32) (lo hi : BitVec 16) (X : Fin 24576 → Fin W → EReal) (x : Fin 512 → Fin W' → EReal) (k : ℕ) (hk : k < 48) (u : Fin W') (u' : Fin W)
  (hx : ∀ a : Fin 512, x a u = X ⟨512 * k + a.val, by omega⟩ u')
include hx

theorem code_chunk (t : Fin 512) (n : Fin 24576) (hn : n.val = 512 * k + t.val) : codeS r lo hi (blkA d512 x t u) (x t u) = codeM r lo hi X n u' := by
  unfold codeM
  rw [blkA_chunk X x k hk u u' hx t n (by omega), hx t, (Fin.ext hn.symm : (⟨512 * k + t.val, by omega⟩ : Fin 24576) = n)]

theorem hat_chunk (t : Fin 512) (n : Fin 24576) (hn : n.val = 512 * k + t.val) : hatS r lo hi (blkA d512 x t u) (x t u) = hatM r lo hi X n u' := by
  unfold hatM
  rw [blkA_chunk X x k hk u u' hx t n (by omega), hx t, (Fin.ext hn.symm : (⟨512 * k + t.val, by omega⟩ : Fin 24576) = n)]

theorem scale_chunk (t : Fin 512) (b : Fin 768) (hb : b.val = 16 * k + t.val / 32) : scS r (blkA d512 x t u) = scaleM r X b u' := by
  unfold scaleM
  rw [blkA_chunk X x k hk u u' hx t ⟨32 * b.val, by omega⟩ (by show 32 * b.val / 32 = _; omega)]

end Chunk

section Region0

variable (V : Entry Ideal) (c : Dev nD)

/-- The matrix the first region reads. -/
def X0 : Fin 24576 → Fin 4096 → EReal := mat (N := 24576) (W := 4096) (V c main_v0)

theorem idx0_0 : ∀ t : Fin cfg0.N, win0_0.index t = ![t.val, 0] := (by decide +kernel : ∀ t : Fin grid0.N, _)
theorem idx0_1 : ∀ t : Fin cfg0.N, win0_1.index t = ![t.val, 0] := (by decide +kernel : ∀ t : Fin grid0.N, _)
theorem idx0_2 : ∀ t : Fin cfg0.N, win0_2.index t = ![t.val, 0] := (by decide +kernel : ∀ t : Fin grid0.N, _)
theorem idx0_3 : ∀ t : Fin cfg0.N, win0_3.index t = ![t.val, 0, 0] := (by decide +kernel : ∀ t : Fin grid0.N, _)

theorem t0_lt (t : Fin cfg0.N) : t.val < 48 := lt_of_lt_of_eq t.isLt (by decide)

/-- A grid point's block of the matrix. -/
theorem xblk_at (t : Fin cfg0.N) (a : Fin 512) (u : Fin 4096) :
    xblk V c t (ix2 a u) = X0 V c ⟨512 * t.val + a.val, by have := t0_lt t; omega⟩ u := by
  unfold xblk X0 mat
  blk_simp
  refine congrArg (V c main_v0) ?_
  blk_ext [idx0_0]
  show t.val * 512 + a.val = 512 * t.val + a.val
  omega

theorem arr0_1 : (dat0 V c).arrAt 1 cfg0.N = fun y : S24576x4096.Idx => codeM 0x3B124925#32 0xC3E0#16 0x43E0#16 (X0 V c) (y 0) (y 1) := by
  refine (dat0 V c).arrAt_eq_of_covers 1 _ (by decide +kernel) fun t hf y => ?_
  blk_simp
  rw [after0_1]
  obtain ⟨a, u, rfl⟩ : ∃ (a : Fin 512) (u : Fin 4096), y = ix2 a u := ⟨y 0, y 1, eq_ix2 y⟩
  refine (codes0_at c (grid0.coords t) _ _ _ _ _ _ _ _ _ _ _ _ (xblk V c t) a u).trans ?_
  refine (code_chunk _ _ _ (X0 V c) _ t.val (t0_lt t) u u (fun a => xblk_at V c t a u) a _ ?_).trans (congrArg (codeM _ _ _ _ _) (Fin.ext ?_))
  · blk_simp [idx0_1]
    show t.val * 512 + a.val = _
    omega
  · blk_simp [idx0_1]

theorem arr0_2 : (dat0 V c).arrAt 2 cfg0.N = fun y : S768x4096.Idx => scaleM 0x3B124925#32 (X0 V c) (y 0) (y 1) := by
  refine (dat0 V c).arrAt_eq_of_covers 2 _ (by decide +kernel) fun t hf y => ?_
  blk_simp
  rw [after0_2]
  obtain ⟨a, u, rfl⟩ : ∃ (a : Fin 16) (u : Fin 4096), y = ix2 a u := ⟨y 0, y 1, eq_ix2 y⟩
  refine (scale0_at c (grid0.coords t) _ _ _ _ _ _ _ _ _ _ _ _ (xblk V c t) a u).trans ?_
  refine (scale_chunk _ (X0 V c) _ t.val (t0_lt t) u u (fun a => xblk_at V c t a u) _ _ ?_).trans (congrArg (scaleM _ _ _) (Fin.ext ?_))
  · blk_simp [idx0_2]
    show t.val * 16 + a.val = 16 * t.val + 32 * a.val / 32
    omega
  · blk_simp [idx0_2]

theorem arr0_3 : (dat0 V c).arrAt 3 cfg0.N = fun y : S48x4096x512.Idx => hatM 0x3B124925#32 0xC3E0#16 0x43E0#16 (X0 V c) ⟨512 * (y 0).val + (y 2).val, by
    have h0 : (y 0).val < 48 := (y 0).isLt
    have h2 : (y 2).val < 512 := (y 2).isLt
    omega⟩ (y 1) := by
  refine (dat0 V c).arrAt_eq_of_covers 3 _ (by decide +kernel) fun t hf y => ?_
  blk_simp
  rw [after0_3]
  obtain ⟨z, u, a, rfl⟩ : ∃ (z : Fin 1) (u : Fin 4096) (a : Fin 512), y = ix3 z u a := ⟨y 0, y 1, y 2, eq_ix3 y⟩
  obtain rfl : z = 0 := Subsingleton.elim _ _
  refine (xt0_at c (grid0.coords t) _ _ _ _ _ _ _ _ _ _ _ _ (xblk V c t) u a).trans ?_
  refine (hat_chunk _ _ _ (X0 V c) _ t.val (t0_lt t) u u (fun a => xblk_at V c t a u) a _ ?_).trans (congrArg (hatM _ _ _ _ _) (Fin.ext ?_))
  · blk_simp [idx0_3]
  · blk_simp [idx0_3]

end Region0

section Region1

variable (V : Entry Ideal) (c : Dev nD)

/-- The matrix the second region reads. -/
def X1 : Fin 24576 → Fin 7168 → EReal := mat (N := 24576) (W := 7168) (V c main_v1)

theorem idx1_0 : ∀ t : Fin cfg1.N, win1_0.index t = ![t.val % 48, 0, 0] := (by decide +kernel : ∀ t : Fin grid1.N, _)
theorem idx1_1 : ∀ t : Fin cfg1.N, win1_1.index t = ![t.val % 48, t.val / 48] := (by decide +kernel : ∀ t : Fin grid1.N, _)
theorem idx1_2 : ∀ t : Fin cfg1.N, win1_2.index t = ![0, t.val / 48] := (by decide +kernel : ∀ t : Fin grid1.N, _)
theorem idx1_3 : ∀ t : Fin cfg1.N, win1_3.index t = ![t.val % 48, t.val / 48] := (by decide +kernel : ∀ t : Fin grid1.N, _)
theorem idx1_4 : ∀ t : Fin cfg1.N, win1_4.index t = ![t.val % 48, t.val / 48] := (by decide +kernel : ∀ t : Fin grid1.N, _)

theorem t1_lt (t : Fin cfg1.N) : t.val < 336 := lt_of_lt_of_eq t.isLt (by decide)

/-- The column of the matrix a grid point's column is. -/
def ucol (t : Fin cfg1.N) (u : Fin 1024) : Fin 7168 := ⟨1024 * (t.val / 48) + u.val, by have := t1_lt t; omega⟩

theorem dyblk_at (t : Fin cfg1.N) (a : Fin 512) (u : Fin 1024) :
    dyblk V c t (ix2 a u) = X1 V c ⟨512 * (t.val % 48) + a.val, by omega⟩ (ucol t u) := by
  unfold dyblk X1 mat
  blk_simp
  refine congrArg (V c main_v1) ?_
  blk_ext [idx1_1]
  · show t.val % 48 * 512 + a.val = 512 * (t.val % 48) + a.val
    omega
  · show t.val / 48 * 1024 + u.val = 1024 * (t.val / 48) + u.val
    omega

theorem xtblk_at (t : Fin cfg1.N) (r : Fin 4096) (k : Fin 512) :
    xtblk V c t (ix3 0 r k) = V c main_v2_2 (ix3 ⟨t.val % 48, by omega⟩ r k) := by
  unfold xtblk
  blk_simp
  refine congrArg (V c main_v2_2) ?_
  blk_ext [idx1_0]

theorem arr1_3 : (dat1 V c).arrAt 3 cfg1.N = fun y : S24576x7168.Idx => codeM 0x37924925#32 0xC760#16 0x4760#16 (X1 V c) (y 0) (y 1) := by
  refine (dat1 V c).arrAt_eq_of_covers 3 _ (by decide +kernel) fun t hf y => ?_
  blk_simp
  rw [after1_3]
  obtain ⟨a, u, rfl⟩ : ∃ (a : Fin 512) (u : Fin 1024), y = ix2 a u := ⟨y 0, y 1, eq_ix2 y⟩
  refine (codes1_at c (grid1.coords t) _ _ _ _ _ _ _ _ _ _ _ _ _ _ (dyblk V c t) a u).trans ?_
  refine (code_chunk _ _ _ (X1 V c) _ (t.val % 48) (by omega) u (ucol t u) (fun a => dyblk_at V c t a u) a _ ?_).trans (congrArg (codeM _ _ _ _ _) (Fin.ext ?_))
  · blk_simp [idx1_3]
    show t.val % 48 * 512 + a.val = _
    omega
  · blk_simp [idx1_3]
    show 1024 * (t.val / 48) + u.val = t.val / 48 * 1024 + u.val
    omega

theorem arr1_4 : (dat1 V c).arrAt 4 cfg1.N = fun y : S768x7168.Idx => scaleM 0x37924925#32 (X1 V c) (y 0) (y 1) := by
  refine (dat1 V c).arrAt_eq_of_covers 4 _ (by decide +kernel) fun t hf y => ?_
  blk_simp
  rw [after1_4]
  obtain ⟨a, u, rfl⟩ : ∃ (a : Fin 16) (u : Fin 1024), y = ix2 a u := ⟨y 0, y 1, eq_ix2 y⟩
  refine (scale1_at c (grid1.coords t) _ _ _ _ _ _ _ _ _ _ _ _ _ _ (dyblk V c t) a u).trans ?_
  refine (scale_chunk _ (X1 V c) _ (t.val % 48) (by omega) u (ucol t u) (fun a => dyblk_at V c t a u) _ _ ?_).trans (congrArg (scaleM _ _ _) (Fin.ext ?_))
  · blk_simp [idx1_4]
    show t.val % 48 * 16 + a.val = 16 * (t.val % 48) + 32 * a.val / 32
    omega
  · blk_simp [idx1_4]
    show 1024 * (t.val / 48) + u.val = t.val / 48 * 1024 + u.val
    omega

/-! ### The product -/

theorem pay1_at (y : S4096x1024.Idx) : k1_pay1 (F := Ideal) y = 0 := by
  show Ideal.ofBits .f32 0x00000000#32 = 0
  simp [Ideal.ofBits, Ideal.ieee]

/-- A chunk's product added to what was accumulated. -/
theorem pay4_at (v4 : Vec Ideal S4096x1024 .f32) (v6 : Vec Ideal S1x4096x512 .bf16) (v8 : Vec Ideal S512x1024 .bf16) (r : Fin 4096) (l : Fin 1024) :
    (k1_pay4 v4 v6 v8 (ix2 r l) : EReal) = (v4 (ix2 r l) : EReal) + ∑ k : Fin 512, (v6 (ix3 0 r k) : EReal) * (v8 (ix2 k l) : EReal) := by
  unfold k1_pay4
  rw [shapeCast_self]
  refine (addf_apply (s := S4096x1024) (φ := .f32) _ _ _).trans (congrArg (fun z : EReal => (v4 (ix2 r l) : EReal) + z) ?_)
  refine (Ideal.matmul_plain_apply (M := 4096) (K := 512) (N := 1024) none (shapeCast S4096x512 v6 shapeCasts_S1x4096x512_S4096x512) v8 (constant (F := Ideal) S4096x1024 .f32 0x00000000#32) r l).trans ?_
  refine (congrArg (fun z : EReal => z + _) (show (constant (F := Ideal) S4096x1024 .f32 0x00000000#32) (ix2 r l) = (0 : EReal) from pay1_at (ix2 r l))).trans ((zero_add _).trans ?_)
  refine Finset.sum_congr rfl fun k _ => ?_
  rw [shapeCast_1ab_ab_apply]

/-- What the second region reads transposed, entry by entry. -/
def XT (k : Fin 48) (r : Fin 4096) (s : Fin 512) : EReal := V c main_v2_2 (ix3 k r s)

/-- A grid point's share of the product. -/
def part (t : Fin cfg1.N) (y : S4096x1024.Idx) : EReal :=
  ∑ k : Fin 512, XT V c ⟨t.val % 48, by omega⟩ (y 0) k * hatM 0x37924925#32 0xC760#16 0x4760#16 (X1 V c) ⟨512 * (t.val % 48) + k.val, by omega⟩ (ucol t (y 1))

theorem dwAt1_at (t : Fin cfg1.N) (prev : Vec Ideal S4096x1024 .f32) (y : S4096x1024.Idx) :
    dwAt1 V c t prev y = (if t.val % 48 = 0 then k1_pay1 (F := Ideal) else prev) y + part V c t y := by
  obtain ⟨r, u, rfl⟩ : ∃ (r : Fin 4096) (u : Fin 1024), y = ix2 r u := ⟨y 0, y 1, eq_ix2 y⟩
  unfold dwAt1 dw1
  rw [coords1_1 t]
  refine (pay4_at _ _ _ r u).trans (congrArg (_ + ·) (Finset.sum_congr rfl fun k _ => congr (congrArg HMul.hMul ?_) ?_))
  · exact xtblk_at V c t r k
  · refine (hat1_at c (grid1.coords t) _ _ _ _ _ _ _ _ _ _ _ _ _ _ (dyblk V c t) k u).trans ?_
    exact hat_chunk _ _ _ (X1 V c) _ (t.val % 48) (by omega) u (ucol t u) (fun a => dyblk_at V c t a u) k _ rfl

/-- After a column block's last chunk: the sum of all its chunks. -/
theorem accAt_at (t : Fin cfg1.N) (h : t.val % 48 = 47) (y : S4096x1024.Idx) :
    accAt V c t.val t.isLt y = ∑ s : Fin 48, part V c ⟨48 * (t.val / 48) + s.val, Pipeline.run_point_lt_of_flush t h s⟩ y := by
  rw [Pipeline.eq_sum_fin_of_reset_step_apply_of_flush (accAt V c) 48 (fun _ => (0 : EReal)) (part V c) ?_ ?_ t h y, zero_add]
  · rintro ⟨n, hn⟩ h0 y
    have h0' : n % 48 = 0 := h0
    cases n with
    | zero => rw [accAt, dwAt1_at, if_pos h0', pay1_at]
    | succ n => rw [accAt, dwAt1_at, if_pos h0', pay1_at]
  · rintro ⟨n, hn⟩ h0 y
    have h0' : ¬ n % 48 = 0 := h0
    cases n with
    | zero => exact absurd rfl h0
    | succ n => rw [accAt, dwAt1_at, if_neg h0']; rfl

/-- The product over all tokens, of what the region reads transposed and the dequantised second matrix. -/
def prodM (A : Fin 24576 → Fin 4096 → EReal) (B : Fin 24576 → Fin 7168 → EReal) (r : Fin 4096) (u : Fin 7168) : EReal := ∑ n : Fin 24576, A n r * B n u

theorem arr1_2 (A : Fin 24576 → Fin 4096 → EReal)
    (hA : ∀ (k : Fin 48) (r : Fin 4096) (s : Fin 512), V c main_v2_2 (ix3 k r s) = A ⟨512 * k.val + s.val, by omega⟩ r) :
    (dat1 V c).arrAt 2 cfg1.N = fun y : S4096x7168.Idx => prodM A (hatM 0x37924925#32 0xC760#16 0x4760#16 (X1 V c)) (y 0) (y 1) := by
  refine (dat1 V c).arrAt_eq_of_covers 2 _ (by decide +kernel) fun t hf y => ?_
  have h47 : t.val % 48 = 47 := (flush1_2 t).1 hf
  blk_simp
  rw [after1_2]
  obtain ⟨r, u, rfl⟩ : ∃ (r : Fin 4096) (u : Fin 1024), y = ix2 r u := ⟨y 0, y 1, eq_ix2 y⟩
  refine (accAt_at V c t h47 (ix2 r u)).trans ?_
  have e0 : (((cfg1.win 2).blk t).view.emb (ix2 r u)) 0 = r := Fin.ext (by blk_simp [idx1_2]; rfl)
  have e1 : (((cfg1.win 2).blk t).view.emb (ix2 r u)) 1 = ucol t u := Fin.ext (by
    blk_simp [idx1_2]
    show t.val / 48 * 1024 + u.val = 1024 * (t.val / 48) + u.val
    omega)
  refine Eq.trans ?_ (congr (congrArg (prodM A _) e0.symm) e1.symm)
  unfold prodM part
  refine Fin.sum_mul_add_congr (S := 48) (n := 512) (fun s k hl => ?_) (by decide)
  have hn : (⟨512 * ((48 * (t.val / 48) + s.val) % 48) + k.val, by omega⟩ : Fin 24576) = ⟨s.val * 512 + k.val, hl⟩ := Fin.ext (by
    show 512 * ((48 * (t.val / 48) + s.val) % 48) + k.val = s.val * 512 + k.val
    omega)
  have hu : ucol ⟨48 * (t.val / 48) + s.val, Pipeline.run_point_lt_of_flush t h47 s⟩ u = ucol t u := Fin.ext (by
    show 1024 * ((48 * (t.val / 48) + s.val) / 48) + u.val = 1024 * (t.val / 48) + u.val
    omega)
  refine congrArg₂ (fun a b : EReal => a * b) ((hA _ _ _).trans (congrArg (fun n => A n r) hn)) (congr (congrArg (hatM _ _ _ _) hn) hu)

end Region1

end Cert.Proof.Ideal

end
-- ==== Proof.Ideal.KernelRun.lean ====
/-
  What the kernel ends with: its five results as functions of its two arguments.
-/
module

public import proofs.«01_k».proof.Proof.Ideal.KernelValue
public import Idealize.ShloMosaic.Lib.StableHlo.RunRead

@[expose] public section

set_option maxRecDepth 16384

noncomputable section

namespace Cert.Proof.Ideal

open Cert.KernelIdeal Cert.KernelIdeal.Gen Cert.KernelIdeal.Facts
open Idealize.ShloMosaic Idealize.ShloMosaic.TcCoe Idealize.ShloMosaic.ValueIdx Idealize.ShloMosaic.StableHlo

/-- A batch of matrices as one matrix, one row a token. -/
def tokM {W : ℕ} (x : (⟨3, ![6, 4096, W]⟩ : Shape).Idx → EReal) : Fin 24576 → Fin W → EReal := fun n l =>
  x (ix3 (⟨n.val / 4096, by omega⟩ : Fin 6) (⟨n.val % 4096, by omega⟩ : Fin 4096) l)

theorem tok_cast {W : ℕ} (x : (⟨3, ![6, 4096, W]⟩ : Shape).Idx → EReal) (h : (⟨3, ![6, 4096, W]⟩ : Shape).ShapeCasts ⟨2, ![24576, W]⟩) :
    mat (N := 24576) (W := W) (shapeCast (⟨2, ![24576, W]⟩ : Shape) x h) = tokM x := by
  funext n l
  refine shapeCast_apply x h (ix2 n l) _ ?_
  rw [Shape.rowMajor_val_two, Shape.rowMajor_val_three]
  show (n.val / 4096 * 4096 + n.val % 4096) * W + l.val = n.val * W + l.val
  rw [show n.val / 4096 * 4096 + n.val % 4096 = n.val by omega]

/-- Back to a batch: the entry of a token. -/
theorem untok {W : ℕ} (g : (⟨2, ![24576, W]⟩ : Shape).Idx → EReal) (h : (⟨2, ![24576, W]⟩ : Shape).ShapeCasts ⟨3, ![6, 4096, W]⟩)
    (b : Fin 6) (n : Fin 4096) (l : Fin W) :
    shapeCast (⟨3, ![6, 4096, W]⟩ : Shape) g h (ix3 b n l) = g (ix2 (⟨4096 * b.val + n.val, by omega⟩ : Fin 24576) l) := by
  refine shapeCast_apply g h (ix3 b n l) _ ?_
  rw [Shape.rowMajor_val_two, Shape.rowMajor_val_three]
  show (4096 * b.val + n.val) * W + l.val = (b.val * 4096 + n.val) * W + l.val
  rw [show 4096 * b.val + n.val = b.val * 4096 + n.val by omega]

theorem unblk {W : ℕ} (g : (⟨2, ![768, W]⟩ : Shape).Idx → EReal) (h : (⟨2, ![768, W]⟩ : Shape).ShapeCasts ⟨3, ![6, 128, W]⟩)
    (b : Fin 6) (q : Fin 128) (l : Fin W) :
    shapeCast (⟨3, ![6, 128, W]⟩ : Shape) g h (ix3 b q l) = g (ix2 (⟨128 * b.val + q.val, by omega⟩ : Fin 768) l) := by
  refine shapeCast_apply g h (ix3 b q l) _ ?_
  rw [Shape.rowMajor_val_two, Shape.rowMajor_val_three]
  show (128 * b.val + q.val) * W + l.val = (b.val * 128 + q.val) * W + l.val
  rw [show 128 * b.val + q.val = b.val * 128 + q.val by omega]

variable (m : (ℓ : Loc nD τ sig) → Buf (Elt Ideal) ℓ) (c : Dev nD)

/-- The two arguments as matrices. -/
def aX : Fin 24576 → Fin 4096 → EReal := tokM (W := 4096) (m (c, Proc.devRef .tc main_arg0))
def aD : Fin 24576 → Fin 7168 → EReal := tokM (W := 7168) (m (c, Proc.devRef .tc main_arg1))

theorem V1_v0 : V1 m c main_v0 = shapeCast S24576x4096 (m (c, Proc.devRef .tc main_arg0)) shapeCasts_S6x4096x4096_S24576x4096 := by
  unfold V1
  after_reads_simp
  rfl
theorem V1_v1 : V1 m c main_v1 = shapeCast S24576x7168 (m (c, Proc.devRef .tc main_arg1)) shapeCasts_S6x4096x7168_S24576x7168 := by
  unfold V1
  after_reads_simp
  rfl

theorem X0_eq : X0 (W1 m) c = aX m c := by
  unfold X0 aX
  exact (congrArg (mat (N := 24576) (W := 4096)) (V1_v0 m c)).trans (tok_cast _ _)

theorem X1_eq : X1 (W2 m) c = aD m c := by
  unfold X1 aD
  exact (congrArg (mat (N := 24576) (W := 7168)) ((W2_of m c main_v1 (by decide) (by decide) (by decide)).trans (V1_v1 m c))).trans (tok_cast _ _)

/-- The five results, as the kernel's last lines leave them. -/
theorem last_v4 (U : (b : DevRef τ sig) → Buf (Elt Ideal) ((c, b) : Loc nD τ sig)) :
    StableHlo.after (hostOps2 (F := Ideal)) U (Proc.devRef .tc main_v4) = shapeCast S6x4096x4096 (U (Proc.devRef .tc main_v2_0)) shapeCasts_S24576x4096_S6x4096x4096 := by
  after_reads_simp
  rfl
theorem last_v5 (U : (b : DevRef τ sig) → Buf (Elt Ideal) ((c, b) : Loc nD τ sig)) :
    StableHlo.after (hostOps2 (F := Ideal)) U (Proc.devRef .tc main_v5) = shapeCast S6x128x4096 (U (Proc.devRef .tc main_v2_1)) shapeCasts_S768x4096_S6x128x4096 := by
  after_reads_simp
  rfl
theorem last_v6 (U : (b : DevRef τ sig) → Buf (Elt Ideal) ((c, b) : Loc nD τ sig)) :
    StableHlo.after (hostOps2 (F := Ideal)) U (Proc.devRef .tc main_v6) = shapeCast S6x4096x7168 (U (Proc.devRef .tc main_v3_1)) shapeCasts_S24576x7168_S6x4096x7168 := by
  after_reads_simp
  rfl
theorem last_v7 (U : (b : DevRef τ sig) → Buf (Elt Ideal) ((c, b) : Loc nD τ sig)) :
    StableHlo.after (hostOps2 (F := Ideal)) U (Proc.devRef .tc main_v7) = shapeCast S6x128x7168 (U (Proc.devRef .tc main_v3_2)) shapeCasts_S768x7168_S6x128x7168 := by
  after_reads_simp
  rfl
theorem last_v3_0 (U : (b : DevRef τ sig) → Buf (Elt Ideal) ((c, b) : Loc nD τ sig)) :
    StableHlo.after (hostOps2 (F := Ideal)) U (Proc.devRef .tc main_v3_0) = U (Proc.devRef .tc main_v3_0) := by
  after_reads_simp

/-- The value of every result. -/
theorem end_v3_0 : V4 m (outs m) c main_v3_0 = fun y : S4096x7168.Idx =>
    prodM (hatM 0x3B124925#32 0xC3E0#16 0x43E0#16 (aX m c)) (hatM 0x37924925#32 0xC760#16 0x4760#16 (aD m c)) (y 0) (y 1) := by
  unfold V4
  refine (last_v3_0 c _).trans ?_
  rw [V3_eq]
  refine (W3_v3_0 m c).trans ?_
  rw [← X1_eq]
  refine arr1_2 (W2 m) c _ fun k r s => ?_
  rw [← X0_eq]
  exact congrFun ((W2_v2_2 m c).trans (arr0_3 (W1 m) c)) (ix3 k r s)

theorem end_v4 (b : Fin 6) (n : Fin 4096) (l : Fin 4096) : V4 m (outs m) c main_v4 (ix3 b n l)
    = codeM 0x3B124925#32 0xC3E0#16 0x43E0#16 (aX m c) ⟨4096 * b.val + n.val, by omega⟩ l := by
  unfold V4
  rw [V3_eq]
  refine (congrFun (last_v4 c _) _).trans ((untok _ _ b n l).trans ?_)
  rw [← X0_eq]
  exact congrFun ((W3_of m c main_v2_0 (by decide) (by decide) (by decide)).trans ((W2_v2_0 m c).trans (arr0_1 (W1 m) c))) _

theorem end_v5 (b : Fin 6) (q : Fin 128) (l : Fin 4096) : V4 m (outs m) c main_v5 (ix3 b q l)
    = scaleM 0x3B124925#32 (aX m c) ⟨128 * b.val + q.val, by omega⟩ l := by
  unfold V4
  rw [V3_eq]
  refine (congrFun (last_v5 c _) _).trans ((unblk _ _ b q l).trans ?_)
  rw [← X0_eq]
  exact congrFun ((W3_of m c main_v2_1 (by decide) (by decide) (by decide)).trans ((W2_v2_1 m c).trans (arr0_2 (W1 m) c))) _

theorem end_v6 (b : Fin 6) (n : Fin 4096) (l : Fin 7168) : V4 m (outs m) c main_v6 (ix3 b n l)
    = codeM 0x37924925#32 0xC760#16 0x4760#16 (aD m c) ⟨4096 * b.val + n.val, by omega⟩ l := by
  unfold V4
  rw [V3_eq]
  refine (congrFun (last_v6 c _) _).trans ((untok _ _ b n l).trans ?_)
  rw [← X1_eq]
  exact congrFun ((W3_v3_1 m c).trans (arr1_3 (W2 m) c)) _

theorem end_v7 (b : Fin 6) (q : Fin 128) (l : Fin 7168) : V4 m (outs m) c main_v7 (ix3 b q l)
    = scaleM 0x37924925#32 (aD m c) ⟨128 * b.val + q.val, by omega⟩ l := by
  unfold V4
  rw [V3_eq]
  refine (congrFun (last_v7 c _) _).trans ((unblk _ _ b q l).trans ?_)
  rw [← X1_eq]
  exact congrFun ((W3_v3_2 m c).trans (arr1_4 (W2 m) c)) _

end Cert.Proof.Ideal

end
-- ==== Proof.Ref.Equal.lean ====
/-
  The reference's quantised arrays are the kernel's, entry by entry, for arguments of finite magnitude.
-/
module

public import proofs.«01_k».proof.Proof.Ref.Entry
public import proofs.«01_k».proof.Proof.Ideal.KernelRun

@[expose] public section

set_option maxRecDepth 16384

noncomputable section

namespace Cert.Proof.Ref

open Cert.Proof.Ideal
open Idealize.ShloMosaic Idealize.ShloMosaic.ValueIdx

/-! ### The constants -/

theorem val_max : Ideal.ofBits .bf16 0x7F7F#16 = ((255 * (2 : ℝ) ^ (120 : ℤ) : ℝ) : EReal) := by
  rw [ofBits16, show ((0x7F7F#16).extractLsb' 7 8).toNat = 254 by decide, show ((0x7F7F#16).extractLsb' 0 7).toNat = 127 by decide,
    show ((0x7F7F#16).extractLsb' 15 1 == 1#1) = false by decide, if_neg (by norm_num), if_neg (by norm_num)]
  norm_num

theorem val_rx : Ideal.ofBits .f32 0x3B124925#32 = ((9586981 * (2 : ℝ) ^ (-32 : ℤ) : ℝ) : EReal) := by
  rw [ofBits32, show ((0x3B124925#32).extractLsb' 23 8).toNat = 118 by decide, show ((0x3B124925#32).extractLsb' 0 23).toNat = 1198373 by decide,
    show ((0x3B124925#32).extractLsb' 31 1 == 1#1) = false by decide, if_neg (by norm_num), if_neg (by norm_num)]
  norm_num

theorem val_rd : Ideal.ofBits .f32 0x37924925#32 = ((9586981 * (2 : ℝ) ^ (-39 : ℤ) : ℝ) : EReal) := by
  rw [ofBits32, show ((0x37924925#32).extractLsb' 23 8).toNat = 111 by decide, show ((0x37924925#32).extractLsb' 0 23).toNat = 1198373 by decide,
    show ((0x37924925#32).extractLsb' 31 1 == 1#1) = false by decide, if_neg (by norm_num), if_neg (by norm_num)]
  norm_num

theorem val_xlo : Ideal.ofBits .f32 0xC3E00000#32 = Ideal.ofBits .bf16 0xC3E0#16 := by
  rw [ofBits32, ofBits16, show ((0xC3E00000#32).extractLsb' 23 8).toNat = 135 by decide, show ((0xC3E00000#32).extractLsb' 0 23).toNat = 6291456 by decide,
    show ((0xC3E00000#32).extractLsb' 31 1 == 1#1) = true by decide, show ((0xC3E0#16).extractLsb' 7 8).toNat = 135 by decide,
    show ((0xC3E0#16).extractLsb' 0 7).toNat = 96 by decide, show ((0xC3E0#16).extractLsb' 15 1 == 1#1) = true by decide]
  simp only [if_neg (show ¬ ((135 : ℕ) = 2 ^ 8 - 1) by norm_num), if_neg (show ¬ ((135 : ℕ) = 0) by norm_num)]
  refine congrArg Real.toEReal ?_
  norm_num

theorem val_xhi : Ideal.ofBits .f32 0x43E00000#32 = Ideal.ofBits .bf16 0x43E0#16 := by
  rw [ofBits32, ofBits16, show ((0x43E00000#32).extractLsb' 23 8).toNat = 135 by decide, show ((0x43E00000#32).extractLsb' 0 23).toNat = 6291456 by decide,
    show ((0x43E00000#32).extractLsb' 31 1 == 1#1) = false by decide, show ((0x43E0#16).extractLsb' 7 8).toNat = 135 by decide,
    show ((0x43E0#16).extractLsb' 0 7).toNat = 96 by decide, show ((0x43E0#16).extractLsb' 15 1 == 1#1) = false by decide]
  simp only [if_neg (show ¬ ((135 : ℕ) = 2 ^ 8 - 1) by norm_num), if_neg (show ¬ ((135 : ℕ) = 0) by norm_num)]
  refine congrArg Real.toEReal ?_
  norm_num

theorem val_dlo : Ideal.ofBits .f32 0xC7600000#32 = Ideal.ofBits .bf16 0xC760#16 := by
  rw [ofBits32, ofBits16, show ((0xC7600000#32).extractLsb' 23 8).toNat = 142 by decide, show ((0xC7600000#32).extractLsb' 0 23).toNat = 6291456 by decide,
    show ((0xC7600000#32).extractLsb' 31 1 == 1#1) = true by decide, show ((0xC760#16).extractLsb' 7 8).toNat = 142 by decide,
    show ((0xC760#16).extractLsb' 0 7).toNat = 96 by decide, show ((0xC760#16).extractLsb' 15 1 == 1#1) = true by decide]
  simp only [if_neg (show ¬ ((142 : ℕ) = 2 ^ 8 - 1) by norm_num), if_neg (show ¬ ((142 : ℕ) = 0) by norm_num)]
  refine congrArg Real.toEReal ?_
  norm_num

theorem val_dhi : Ideal.ofBits .f32 0x47600000#32 = Ideal.ofBits .bf16 0x4760#16 := by
  rw [ofBits32, ofBits16, show ((0x47600000#32).extractLsb' 23 8).toNat = 142 by decide, show ((0x47600000#32).extractLsb' 0 23).toNat = 6291456 by decide,
    show ((0x47600000#32).extractLsb' 31 1 == 1#1) = false by decide, show ((0x4760#16).extractLsb' 7 8).toNat = 142 by decide,
    show ((0x4760#16).extractLsb' 0 7).toNat = 96 by decide, show ((0x4760#16).extractLsb' 15 1 == 1#1) = false by decide]
  simp only [if_neg (show ¬ ((142 : ℕ) = 2 ^ 8 - 1) by norm_num), if_neg (show ¬ ((142 : ℕ) = 0) by norm_num)]
  refine congrArg Real.toEReal ?_
  norm_num

/-- A largest magnitude within the format's range, scaled, is far below the last power of two. -/
theorem scaled_lt {r : BitVec 32} {R : ℝ} (hr : Ideal.ofBits .f32 r = (R : EReal)) (h0 : 0 ≤ R) (h1 : 255 * (2 : ℝ) ^ (120 : ℤ) * R < (2 : ℝ) ^ (120 : ℤ))
    (a : EReal) (ha : a ≤ Ideal.ofBits .bf16 0x7F7F#16) : a * Ideal.ofBits .f32 r < pw 247 := by
  rw [hr]
  rw [val_max] at ha
  refine lt_of_le_of_lt (mul_le_mul_of_nonneg_right ha (EReal.coe_nonneg.2 h0)) ?_
  rw [← EReal.coe_mul, pw_eq (by norm_num) (by norm_num), EReal.coe_lt_coe_iff]
  exact h1

/-- The arguments' entries are within the format's range. -/
def InRange {W : ℕ} (x : (T3 W).Idx → EReal) : Prop := ∀ i, max (x i) (-(x i)) ≤ Ideal.ofBits .bf16 0x7F7F#16

theorem amax_le {W : ℕ} (x : (T3 W).Idx → EReal) (h : InRange x) (b : Fin 6) (q : Fin 128) (l : Fin W) : amaxS (blk3 x b q l) ≤ Ideal.ofBits .bf16 0x7F7F#16 :=
  (amaxS_le _ _).2 fun _ => h _

theorem scaled_x (a : EReal) (ha : a ≤ Ideal.ofBits .bf16 0x7F7F#16) : a * Ideal.ofBits .f32 0x3B124925#32 < pw 247 :=
  scaled_lt val_rx (by positivity) (by norm_num) a ha
theorem scaled_d (a : EReal) (ha : a ≤ Ideal.ofBits .bf16 0x7F7F#16) : a * Ideal.ofBits .f32 0x37924925#32 < pw 247 :=
  scaled_lt val_rd (by positivity) (by norm_num) a ha

/-! ### The blocks of a token matrix -/

theorem blk_tok {W : ℕ} (x : (T3 W).Idx → EReal) (n : Fin 24576) (b : Fin 6) (q : Fin 128) (l : Fin W) (hb : n.val / 4096 = b.val) (hq : n.val % 4096 / 32 = q.val) :
    blkA dTok (tokM x) n l = amaxS (blk3 x b q l) := by
  unfold blkA tokM blk3
  refine congrArg amaxS (funext fun s => congrArg x ?_)
  refine congr (congr (congrArg ix3 (Fin.ext ?_)) (Fin.ext ?_)) rfl
  · show (32 * (n.val / 32) + s.val) / 4096 = b.val
    omega
  · show (32 * (n.val / 32) + s.val) % 4096 = 32 * q.val + s.val
    omega

theorem tok_at {W : ℕ} (x : (T3 W).Idx → EReal) (b : Fin 6) (n : Fin 4096) (l : Fin W) : tokM x ⟨4096 * b.val + n.val, by omega⟩ l = x (ix3 b n l) := by
  unfold tokM
  refine congrArg x (congr (congr (congrArg ix3 (Fin.ext ?_)) (Fin.ext ?_)) rfl)
  · show (4096 * b.val + n.val) / 4096 = b.val
    omega
  · show (4096 * b.val + n.val) % 4096 = n.val
    omega

/-! ### The two arguments -/

section ArgX

variable (x : FVec Ideal (T3 4096) .bf16) (h : InRange (W := 4096) x)
include h

theorem zX_at (b : Fin 6) (q : Fin 128) (l : Fin 4096) : zX x (ix3 b q l) = scS 0x3B124925#32 (amaxS (blk3 (W := 4096) x b q l)) := by
  unfold zX
  exact scale_at _ _ _ _ _ _ _ _ _ _ _ _ _ _ _ b q l (scaled_x _ (amax_le (W := 4096) x h b q l))

theorem cX_at (b : Fin 6) (n : Fin 4096) (l : Fin 4096) : cX x (ix3 b n l)
    = codeS 0x3B124925#32 0xC3E0#16 0x43E0#16 (amaxS (blk3 (W := 4096) x b (⟨n.val / 32, by omega⟩ : Fin 128) l)) (x (ix3 b n l)) := by
  unfold cX zX
  exact code_at _ _ _ _ _ _ _ _ _ _ _ _ _ _ _ _ _ _ _ _ _ _ _ val_xlo val_xhi b n l (scaled_x _ (amax_le (W := 4096) x h b _ l))

theorem zX_eq (b : Fin 6) (q : Fin 128) (l : Fin 4096) : zX x (ix3 b q l) = scaleM 0x3B124925#32 (tokM (W := 4096) x) ⟨128 * b.val + q.val, by omega⟩ l := by
  rw [zX_at x h]
  unfold scaleM
  rw [blk_tok (W := 4096) x _ b q l (by show 32 * (128 * b.val + q.val) / 4096 = _; omega) (by show 32 * (128 * b.val + q.val) % 4096 / 32 = _; omega)]

theorem cX_eq (b : Fin 6) (n : Fin 4096) (l : Fin 4096) : cX x (ix3 b n l) = codeM 0x3B124925#32 0xC3E0#16 0x43E0#16 (tokM (W := 4096) x) ⟨4096 * b.val + n.val, by omega⟩ l := by
  rw [cX_at x h]
  unfold codeM
  rw [blk_tok (W := 4096) x _ b (⟨n.val / 32, by omega⟩ : Fin 128) l (by show (4096 * b.val + n.val) / 4096 = _; omega) (by show (4096 * b.val + n.val) % 4096 / 32 = n.val / 32; omega), tok_at (W := 4096)]

theorem hX_eq (n : Fin 24576) (l : Fin 4096) : hX (cX x) (zX x) (ix2 n l) = hatM 0x3B124925#32 0xC3E0#16 0x43E0#16 (tokM (W := 4096) x) n l := by
  unfold hX
  refine (rHat_at _ _ _ _ _ _ _ n l).trans ?_
  rw [cX_at x h, zX_at x h]
  unfold hatM hatS
  rw [blk_tok (W := 4096) x n (⟨n.val / 4096, by omega⟩ : Fin 6) (⟨n.val % 4096 / 32, by omega⟩ : Fin 128) l rfl rfl, hsS_scS _ _ (scaled_x _ (amax_le (W := 4096) x h _ _ l))]
  rfl

end ArgX

section ArgD

variable (x : FVec Ideal (T3 7168) .bf16) (h : InRange (W := 7168) x)
include h

theorem zD_at (b : Fin 6) (q : Fin 128) (l : Fin 7168) : zD x (ix3 b q l) = scS 0x37924925#32 (amaxS (blk3 (W := 7168) x b q l)) := by
  unfold zD
  exact scale_at _ _ _ _ _ _ _ _ _ _ _ _ _ _ _ b q l (scaled_d _ (amax_le (W := 7168) x h b q l))

theorem cD_at (b : Fin 6) (n : Fin 4096) (l : Fin 7168) : cD x (ix3 b n l)
    = codeS 0x37924925#32 0xC760#16 0x4760#16 (amaxS (blk3 (W := 7168) x b (⟨n.val / 32, by omega⟩ : Fin 128) l)) (x (ix3 b n l)) := by
  unfold cD zD
  exact code_at _ _ _ _ _ _ _ _ _ _ _ _ _ _ _ _ _ _ _ _ _ _ _ val_dlo val_dhi b n l (scaled_d _ (amax_le (W := 7168) x h b _ l))

theorem zD_eq (b : Fin 6) (q : Fin 128) (l : Fin 7168) : zD x (ix3 b q l) = scaleM 0x37924925#32 (tokM (W := 7168) x) ⟨128 * b.val + q.val, by omega⟩ l := by
  rw [zD_at x h]
  unfold scaleM
  rw [blk_tok (W := 7168) x _ b q l (by show 32 * (128 * b.val + q.val) / 4096 = _; omega) (by show 32 * (128 * b.val + q.val) % 4096 / 32 = _; omega)]

theorem cD_eq (b : Fin 6) (n : Fin 4096) (l : Fin 7168) : cD x (ix3 b n l) = codeM 0x37924925#32 0xC760#16 0x4760#16 (tokM (W := 7168) x) ⟨4096 * b.val + n.val, by omega⟩ l := by
  rw [cD_at x h]
  unfold codeM
  rw [blk_tok (W := 7168) x _ b (⟨n.val / 32, by omega⟩ : Fin 128) l (by show (4096 * b.val + n.val) / 4096 = _; omega) (by show (4096 * b.val + n.val) % 4096 / 32 = n.val / 32; omega), tok_at (W := 7168)]

theorem hD_eq (n : Fin 24576) (l : Fin 7168) : hD (cD x) (zD x) (ix2 n l) = hatM 0x37924925#32 0xC760#16 0x4760#16 (tokM (W := 7168) x) n l := by
  unfold hD
  refine (rHat_at _ _ _ _ _ _ _ n l).trans ?_
  rw [cD_at x h, zD_at x h]
  unfold hatM hatS
  rw [blk_tok (W := 7168) x n (⟨n.val / 4096, by omega⟩ : Fin 6) (⟨n.val % 4096 / 32, by omega⟩ : Fin 128) l rfl rfl, hsS_scS _ _ (scaled_d _ (amax_le (W := 7168) x h _ _ l))]
  rfl

end ArgD

/-- The product, entry by entry: the sum over all tokens. -/
theorem pW_at (A : FVec Ideal (M2 4096) .bf16) (B : FVec Ideal (M2 7168) .bf16) (r : Fin 4096) (u : Fin 7168) :
    pW A B (ix2 r u) = ∑ n : Fin 24576, (A (ix2 n r) : EReal) * (B (ix2 n u) : EReal) := by
  unfold pW
  simp only [Host.dotGeneral]
  generalize hd : Cert.ReferenceIdeal.dot_S24576x4096_S24576x7168_S4096x7168_0_0_1_1_n_n = d
  rw [Ideal.dotGeneral_apply]
  subst hd
  rw [← Equiv.sum_comp (contrEquiv1 Cert.ReferenceIdeal.dot_S24576x4096_S24576x7168_S4096x7168_0_0_1_1_n_n 24576 rfl rfl).symm]
  refine Finset.sum_congr rfl fun k _ => ?_
  have hk := contrEquiv1_symm_val Cert.ReferenceIdeal.dot_S24576x4096_S24576x7168_S4096x7168_0_0_1_1_n_n 24576 rfl rfl k
  refine congr (congrArg HMul.hMul (congrArg A ?_)) (congrArg B ?_)
  · funext a; apply Fin.ext
    match a with
    | ⟨0, _⟩ => exact hk
    | ⟨1, _⟩ => rfl
  · funext a; apply Fin.ext
    match a with
    | ⟨0, _⟩ => exact hk
    | ⟨1, _⟩ => rfl

theorem pW_eq (x : FVec Ideal (T3 4096) .bf16) (hx : InRange (W := 4096) x) (d : FVec Ideal (T3 7168) .bf16) (hd : InRange (W := 7168) d) (r : Fin 4096) (u : Fin 7168) :
    pW (hX (cX x) (zX x)) (hD (cD d) (zD d)) (ix2 r u)
      = prodM (hatM 0x3B124925#32 0xC3E0#16 0x43E0#16 (tokM (W := 4096) x)) (hatM 0x37924925#32 0xC760#16 0x4760#16 (tokM (W := 7168) d)) r u := by
  rw [pW_at]
  unfold prodM
  refine Finset.sum_congr rfl fun n _ => ?_
  rw [hX_eq x hx, hD_eq d hd]

end Cert.Proof.Ref

end
-- ==== Proof.lean ====
/-
  The certificate's claim: the kernel and its reading at the extended reals run to their ends, and for finite arguments the
  kernel's five results are the reference's.
-/
module

public import proofs.«01_k».proof.Defs
public import proofs.«01_k».proof.Proof.Gen.ReferenceIdeal.Frame
public import proofs.«01_k».proof.Proof.Bits.Run
public import proofs.«01_k».proof.Proof.Ideal.Run
public import proofs.«01_k».proof.Proof.Ref.Run
public import proofs.«01_k».proof.Proof.Ref.Equal
public import Idealize.ShloMosaic.Lib.Bf16Pair

@[expose] public section

set_option maxRecDepth 16384

namespace Cert.Proof

open Idealize.ShloMosaic Idealize.ShloMosaic.TcCoe

/-- The precondition's side conditions. -/
theorem finiteFacts : Cert.Pre_finite.Facts := ⟨⟨by decide, by decide⟩, ⟨by decide, by decide⟩⟩

/-- The precondition, entry by entry: every magnitude is within the format's range. -/
theorem finite_x [Cert.Pre_finite.Facts] (a0 : FVec Idealize.ShloMosaic.Ideal Cert.Pre_finite.S6x4096x4096 .bf16) (a1 : FVec Idealize.ShloMosaic.Ideal Cert.Pre_finite.S6x4096x7168 .bf16)
    (h : (Cert.Pre_finite.fn a0 a1).1 = fun _ => 1#1) : Ref.InRange (W := 4096) a0 := fun i => by
  have hi : BitVec.ofBool (decide ((max (a0 i) (-(a0 i)) : EReal) ≤ Idealize.ShloMosaic.Ideal.ofBits .bf16 0x7F7F#16)) = 1#1 := congrFun h i
  by_contra hn
  rw [decide_eq_false hn] at hi
  exact absurd hi (by decide)

theorem finite_d [Cert.Pre_finite.Facts] (a0 : FVec Idealize.ShloMosaic.Ideal Cert.Pre_finite.S6x4096x4096 .bf16) (a1 : FVec Idealize.ShloMosaic.Ideal Cert.Pre_finite.S6x4096x7168 .bf16)
    (h : (Cert.Pre_finite.fn a0 a1).2 = fun _ => 1#1) : Ref.InRange (W := 7168) a1 := fun i => by
  have hi : BitVec.ofBool (decide ((max (a1 i) (-(a1 i)) : EReal) ≤ Idealize.ShloMosaic.Ideal.ofBits .bf16 0x7F7F#16)) = 1#1 := congrFun h i
  by_contra hn
  rw [decide_eq_false hn] at hi
  exact absurd hi (by decide)

/-- For finite arguments the two programs end with the same five results. -/
theorem values : Cert.algebraic_KernelIdeal_ReferenceIdeal_pre_finite (hKernelIdeal := Cert.KernelIdeal.Gen.facts) (hReferenceIdeal := Cert.ReferenceIdeal.Gen.facts)
    (hPre_finite := finiteFacts) := by
  intro m g m' g' hpre hargs
  refine ⟨fun c => Cert.KernelIdeal.Gen.V4 m (Ideal.outs m) c Cert.KernelIdeal.main_v3_0, fun c => Cert.KernelIdeal.Gen.V4 m (Ideal.outs m) c Cert.KernelIdeal.main_v4,
    fun c => Cert.KernelIdeal.Gen.V4 m (Ideal.outs m) c Cert.KernelIdeal.main_v5, fun c => Cert.KernelIdeal.Gen.V4 m (Ideal.outs m) c Cert.KernelIdeal.main_v6,
    fun c => Cert.KernelIdeal.Gen.V4 m (Ideal.outs m) c Cert.KernelIdeal.main_v7, ?_, ?_⟩
  · refine (θ_run _ _ _).mono (fun r h c => ?_) (Ideal.run_all m g)
    exact ⟨h.1 c _ (Ideal.mem_ucRefs Cert.KernelIdeal.main_v3_0 (by decide)), h.1 c _ (Ideal.mem_ucRefs Cert.KernelIdeal.main_v4 (by decide)),
      h.1 c _ (Ideal.mem_ucRefs Cert.KernelIdeal.main_v5 (by decide)), h.1 c _ (Ideal.mem_ucRefs Cert.KernelIdeal.main_v6 (by decide)),
      h.1 c _ (Ideal.mem_ucRefs Cert.KernelIdeal.main_v7 (by decide)),
      (h.1 c _ (Ideal.mem_ucRefs Cert.KernelIdeal.main_arg0 (by decide))).trans (Cert.KernelIdeal.Gen.V4_main_arg0 m (Ideal.outs m) c),
      (h.1 c _ (Ideal.mem_ucRefs Cert.KernelIdeal.main_arg1 (by decide))).trans (Cert.KernelIdeal.Gen.V4_main_arg1 m (Ideal.outs m) c)⟩
  · refine (θ_run _ _ _).mono (fun r h c => ?_) (Ref.run m' g')
    obtain ⟨h0, h1, h2, h3, h4, h5, h6⟩ := h c
    obtain ⟨e0, e1⟩ := hargs c
    have px := @finite_x finiteFacts _ _ (hpre c).1
    have pd := @finite_d finiteFacts _ _ (hpre c).2
    refine ⟨h0.trans ?_, h1.trans ?_, h2.trans ?_, h3.trans ?_, h4.trans ?_, h5, h6⟩
    · refine Eq.trans ?_ (Ideal.end_v3_0 m c).symm
      funext y
      obtain ⟨r, u, rfl⟩ : ∃ (r : Fin 4096) (u : Fin 7168), y = ValueIdx.ix2 r u := ⟨y 0, y 1, ValueIdx.eq_ix2 y⟩
      refine (congrArg₂ (fun a b => Ref.pW (Ref.hX (Ref.cX a) (Ref.zX a)) (Ref.hD (Ref.cD b) (Ref.zD b)) (ValueIdx.ix2 r u)) e0 e1).trans ?_
      exact Ref.pW_eq _ px _ pd r u
    · funext y
      obtain ⟨b, n, l, rfl⟩ : ∃ (b : Fin 6) (n : Fin 4096) (l : Fin 4096), y = ValueIdx.ix3 b n l := ⟨y 0, y 1, y 2, ValueIdx.eq_ix3 y⟩
      exact (congrArg (fun a => Ref.cX a (ValueIdx.ix3 b n l)) e0).trans ((Ref.cX_eq _ px b n l).trans (Ideal.end_v4 m c b n l).symm)
    · funext y
      obtain ⟨b, q, l, rfl⟩ : ∃ (b : Fin 6) (q : Fin 128) (l : Fin 4096), y = ValueIdx.ix3 b q l := ⟨y 0, y 1, y 2, ValueIdx.eq_ix3 y⟩
      exact (congrArg (fun a => Ref.zX a (ValueIdx.ix3 b q l)) e0).trans ((Ref.zX_eq _ px b q l).trans (Ideal.end_v5 m c b q l).symm)
    · funext y
      obtain ⟨b, n, l, rfl⟩ : ∃ (b : Fin 6) (n : Fin 4096) (l : Fin 7168), y = ValueIdx.ix3 b n l := ⟨y 0, y 1, y 2, ValueIdx.eq_ix3 y⟩
      exact (congrArg (fun a => Ref.cD a (ValueIdx.ix3 b n l)) e1).trans ((Ref.cD_eq _ pd b n l).trans (Ideal.end_v6 m c b n l).symm)
    · funext y
      obtain ⟨b, q, l, rfl⟩ : ∃ (b : Fin 6) (q : Fin 128) (l : Fin 7168), y = ValueIdx.ix3 b q l := ⟨y 0, y 1, y 2, ValueIdx.eq_ix3 y⟩
      exact (congrArg (fun a => Ref.zD a (ValueIdx.ix3 b q l)) e1).trans ((Ref.zD_eq _ pd b q l).trans (Ideal.end_v7 m c b q l).symm)

theorem claim : Cert.Claim :=
  ⟨Cert.Kernel.Gen.facts, Cert.KernelIdeal.Gen.facts, Cert.ReferenceIdeal.Gen.facts, finiteFacts,
    fun m g _ => Bits.frame m g, fun m g _ => Ideal.frame m g, fun m g _ => Ideal.frame m g,
    fun m g _ => Cert.ReferenceIdeal.Gen.frame m g, fun m g _ => Cert.ReferenceIdeal.Gen.frame m g,
    IdealRules.bf16_pair.statement _ _, values⟩

end Cert.Proof
